-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v36)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8192x4x96 : Shape := ⟨4, ![4, 8192, 4, 96]⟩
abbrev S4x8192x4x64 : Shape := ⟨4, ![4, 8192, 4, 64]⟩
abbrev S_ : Shape := ⟨0, ![]⟩

class Facts : Prop where
  bcast_S_S4x8192x4x96 : S_.BroadcastsInDim S4x8192x4x96 (![] : Fin 0 → Fin S4x8192x4x96.rank)

variable [Facts]

def fn {F : FTy → Type} [FloatOps F] (main_arg0 : FVec F S4x8192x4x96 .f32) (main_arg1 : FVec F S4x8192x4x96 .f32) (main_arg2 : FVec F S4x8192x4x64 .f32) : IVec S4x8192x4x96 1 × IVec S4x8192x4x96 1 :=
  let main_v0 : FVec F S4x8192x4x96 .f32 := Host.absf main_arg0
  let main_cst : FVec F S_ .f32 := constant S_ .f32 0x7F800000#32
  let main_v1 : FVec F S4x8192x4x96 .f32 := broadcastInDim S4x8192x4x96 ![] bcast_S_S4x8192x4x96 main_cst
  let main_v2 : IVec S4x8192x4x96 1 := cmpf .olt main_v0 main_v1
  let main_v3 : FVec F S4x8192x4x96 .f32 := Host.absf main_arg1
  let main_cst_0 : FVec F S_ .f32 := constant S_ .f32 0x7F800000#32
  let main_v4 : FVec F S4x8192x4x96 .f32 := broadcastInDim S4x8192x4x96 ![] bcast_S_S4x8192x4x96 main_cst_0
  let main_v5 : IVec S4x8192x4x96 1 := cmpf .olt main_v3 main_v4
  (main_v2, main_v5)
-- ==== Kernel.lean ====
abbrev S4x8192x4x96 : Shape := ⟨4, ![4, 8192, 4, 96]⟩
abbrev S4x8192x4x64 : Shape := ⟨4, ![4, 8192, 4, 64]⟩
abbrev S_ : Shape := ⟨0, ![]⟩
abbrev S4x8192x4x128 : Shape := ⟨4, ![4, 8192, 4, 128]⟩
abbrev S32768x512 : Shape := ⟨2, ![32768, 512]⟩
abbrev S32768x256 : Shape := ⟨2, ![32768, 256]⟩
abbrev S4x8192x512 : Shape := ⟨3, ![4, 8192, 512]⟩
abbrev S4x8192x256 : Shape := ⟨3, ![4, 8192, 256]⟩
abbrev S1x256x256 : Shape := ⟨3, ![1, 256, 256]⟩
abbrev S1x8192x256 : Shape := ⟨3, ![1, 8192, 256]⟩
abbrev S1x8192x128 : Shape := ⟨3, ![1, 8192, 128]⟩
abbrev S1x256x128 : Shape := ⟨3, ![1, 256, 128]⟩
abbrev S2x256x1024 : Shape := ⟨3, ![2, 256, 1024]⟩
abbrev S2x256x1 : Shape := ⟨3, ![2, 256, 1]⟩
abbrev S2x256x128 : Shape := ⟨3, ![2, 256, 128]⟩
abbrev S1x1024x256 : Shape := ⟨3, ![1, 1024, 256]⟩
abbrev S1024x256 : Shape := ⟨2, ![1024, 256]⟩
abbrev S256x128 : Shape := ⟨2, ![256, 128]⟩
abbrev S1024x128 : Shape := ⟨2, ![1024, 128]⟩
abbrev S256x1024 : Shape := ⟨2, ![256, 1024]⟩
abbrev S1x256x1024 : Shape := ⟨3, ![1, 256, 1024]⟩
abbrev S1x1024x128 : Shape := ⟨3, ![1, 1024, 128]⟩
abbrev S1x256x1 : Shape := ⟨3, ![1, 256, 1]⟩
abbrev S256x1 : Shape := ⟨2, ![256, 1]⟩
abbrev S256 : Shape := ⟨1, ![256]⟩
abbrev S256x256 : Shape := ⟨2, ![256, 256]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S1x768x128 : Shape := ⟨3, ![1, 768, 128]⟩
abbrev S768x128 : Shape := ⟨2, ![768, 128]⟩
abbrev S256x768 : Shape := ⟨2, ![256, 768]⟩
abbrev S1x256x768 : Shape := ⟨3, ![1, 256, 768]⟩
abbrev S1x128 : Shape := ⟨2, ![1, 128]⟩

abbrev nBuf : Space → Nat
  | .hbm => 28
  | .vmem => 13
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x4x96, .f32⟩
  | .hbm, ⟨11, _⟩ => ⟨S4x8192x4x96, .f32⟩
  | .hbm, ⟨12, _⟩ => ⟨S_, .i32⟩
  | .hbm, ⟨13, _⟩ => ⟨S_, .f32⟩
  | .hbm, ⟨14, _⟩ => ⟨S4x8192x4x128, .f32⟩
  | .hbm, ⟨15, _⟩ => ⟨S32768x512, .f32⟩
  | .hbm, ⟨16, _⟩ => ⟨S32768x512, .bf16⟩
  | .hbm, ⟨17, _⟩ => ⟨S_, .i32⟩
  | .hbm, ⟨18, _⟩ => ⟨S_, .f32⟩
  | .hbm, ⟨19, _⟩ => ⟨S4x8192x4x128, .f32⟩
  | .hbm, ⟨20, _⟩ => ⟨S32768x512, .f32⟩
  | .hbm, ⟨21, _⟩ => ⟨S32768x512, .bf16⟩
  | .hbm, ⟨22, _⟩ => ⟨S32768x256, .f32⟩
  | .hbm, ⟨23, _⟩ => ⟨S32768x256, .bf16⟩
  | .hbm, ⟨24, _⟩ => ⟨S4x8192x512, .bf16⟩
  | .hbm, ⟨25, _⟩ => ⟨S4x8192x512, .bf16⟩
  | .hbm, ⟨26, _⟩ => ⟨S4x8192x256, .bf16⟩
  | .hbm, ⟨27, _⟩ => ⟨S4x8192x256, .f32⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .f32⟩
  | .local _ .vmem, ⟨7, _⟩ => ⟨S1x256x128, .f32⟩
  | .local _ .vmem, ⟨8, _⟩ => ⟨S2x256x1024, .f32⟩
  | .local _ .vmem, ⟨9, _⟩ => ⟨S2x256x1024, .f32⟩
  | .local _ .vmem, ⟨10, _⟩ => ⟨S2x256x1, .f32⟩
  | .local _ .vmem, ⟨11, _⟩ => ⟨S2x256x1, .f32⟩
  | .local _ .vmem, ⟨12, _⟩ => ⟨S2x256x128, .f32⟩
  | _, _ => ⟨S4x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 32], ![false, false, false]⟩

def k0_mult1 : BitVec 32 :=
  let c0_i32_14 : BitVec 32 := 0#32
  c0_i32_14
@[reducible] def k0_t1_loop (i : grid0.Coords) : Scf.Loop 32 :=
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_38 : BitVec 32 := 1#32
  ⟨c0_i32_36, v69, c1_i32_38⟩
def k0_mult2 (i : grid0.Coords) (k0_t1 : Fin (k0_t1_loop i).trips) : BitVec 32 :=
  let c2_i32_79 : BitVec 32 := 2#32
  let c0_i32_36 : BitVec 32 := 0#32
  let c1_i32_38 : BitVec 32 := 1#32
  let arg12 : BitVec 32 := Scf.iv c0_i32_36 c1_i32_38 k0_t1
  let v135 : BitVec 32 := Scalar.muli c2_i32_79 arg12
  let c1_i32_80 : BitVec 32 := 1#32
  let v136 : BitVec 32 := Scalar.addi v135 c1_i32_80
  let c1024_i32_81 : BitVec 32 := 1024#32
  let v137 : BitVec 32 := Scalar.muli v136 c1024_i32_81
  v137
def k0_off1 (i : grid0.Coords) (k0_t1 : Fin (k0_t1_loop i).trips) (c1_i32_80 : BitVec 32) : Fin 3 → Nat :=
  let c0_82 : Index := 0#32
  let c2_i32_79 : BitVec 32 := 2#32
  let c0_i32_36 : BitVec 32 := 0#32
  let c1_i32_38 : BitVec 32 := 1#32
  let arg12 : BitVec 32 := Scf.iv c0_i32_36 c1_i32_38 k0_t1
  let v135 : BitVec 32 := Scalar.muli c2_i32_79 arg12
  let v136 : BitVec 32 := Scalar.addi v135 c1_i32_80
  let c1024_i32_81 : BitVec 32 := 1024#32
  let v137 : BitVec 32 := Scalar.muli v136 c1024_i32_81
  let v138 : BitVec 32 := v137
  let v139 : Index := Scalar.indexCast v138
  let c0_83 : Index := 0#32
  ![0, v139.toNat, 0]
def k0_mult3 (i : grid0.Coords) (k0_t1 : Fin (k0_t1_loop i).trips) : BitVec 32 :=
  let c2_i32_98 : BitVec 32 := 2#32
  let c0_i32_36 : BitVec 32 := 0#32
  let c1_i32_38 : BitVec 32 := 1#32
  let arg12 : BitVec 32 := Scf.iv c0_i32_36 c1_i32_38 k0_t1
  let v156 : BitVec 32 := Scalar.muli c2_i32_98 arg12
  let c1024_i32_99 : BitVec 32 := 1024#32
  let v157 : BitVec 32 := Scalar.muli v156 c1024_i32_99
  v157
def k0_off2 (i : grid0.Coords) (k0_t1 : Fin (k0_t1_loop i).trips) : Fin 3 → Nat :=
  let c0_100 : Index := 0#32
  let c2_i32_98 : BitVec 32 := 2#32
  let c0_i32_36 : BitVec 32 := 0#32
  let c1_i32_38 : BitVec 32 := 1#32
  let arg12 : BitVec 32 := Scf.iv c0_i32_36 c1_i32_38 k0_t1
  let v156 : BitVec 32 := Scalar.muli c2_i32_98 arg12
  let c1024_i32_99 : BitVec 32 := 1024#32
  let v157 : BitVec 32 := Scalar.muli v156 c1024_i32_99
  let v158 : BitVec 32 := v157
  let v159 : Index := Scalar.indexCast v158
  let c0_101 : Index := 0#32
  ![0, v159.toNat, 0]
def k0_mult4 (i : grid0.Coords) (k0_t1 : Fin (k0_t1_loop i).trips) : BitVec 32 :=
  let c2_i32_150 : BitVec 32 := 2#32
  let c0_i32_36 : BitVec 32 := 0#32
  let c1_i32_38 : BitVec 32 := 1#32
  let arg12 : BitVec 32 := Scf.iv c0_i32_36 c1_i32_38 k0_t1
  let v230 : BitVec 32 := Scalar.muli c2_i32_150 arg12
  let c2_i32_151 : BitVec 32 := 2#32
  let v231 : BitVec 32 := Scalar.addi v230 c2_i32_151
  let c1024_i32_152 : BitVec 32 := 1024#32
  let v232 : BitVec 32 := Scalar.muli v231 c1024_i32_152
  v232
def k0_mult5 (i : grid0.Coords) (k0_t1 : Fin (k0_t1_loop i).trips) : BitVec 32 :=
  let c2_i32_169 : BitVec 32 := 2#32
  let c0_i32_36 : BitVec 32 := 0#32
  let c1_i32_38 : BitVec 32 := 1#32
  let arg12 : BitVec 32 := Scf.iv c0_i32_36 c1_i32_38 k0_t1
  let v251 : BitVec 32 := Scalar.muli c2_i32_169 arg12
  let c1_i32_170 : BitVec 32 := 1#32
  let v252 : BitVec 32 := Scalar.addi v251 c1_i32_170
  let c1024_i32_171 : BitVec 32 := 1024#32
  let v253 : BitVec 32 := Scalar.muli v252 c1024_i32_171
  v253
def k0_off3 (i : grid0.Coords) (k0_t1 : Fin (k0_t1_loop i).trips) : Fin 3 → Nat :=
  let c0_172 : Index := 0#32
  let c2_i32_169 : BitVec 32 := 2#32
  let c0_i32_36 : BitVec 32 := 0#32
  let c1_i32_38 : BitVec 32 := 1#32
  let arg12 : BitVec 32 := Scf.iv c0_i32_36 c1_i32_38 k0_t1
  let v251 : BitVec 32 := Scalar.muli c2_i32_169 arg12
  let c1_i32_170 : BitVec 32 := 1#32
  let v252 : BitVec 32 := Scalar.addi v251 c1_i32_170
  let c1024_i32_171 : BitVec 32 := 1024#32
  let v253 : BitVec 32 := Scalar.muli v252 c1024_i32_171
  let v254 : BitVec 32 := v253
  let v255 : Index := Scalar.indexCast v254
  let c0_173 : Index := 0#32
  ![0, v255.toNat, 0]
@[reducible] def k0_t2_loop (i : grid0.Coords) : Scf.Loop 32 :=
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let v66 : BitVec 32 := Scalar.addi c0_i32_36 v65
  let c1_i32_39 : BitVec 32 := 1#32
  ⟨v69, v66, c1_i32_39⟩
def k0_mult6 (i : grid0.Coords) (k0_t2 : Fin (k0_t2_loop i).trips) : BitVec 32 :=
  let c2_i32_79 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v135 : BitVec 32 := Scalar.muli c2_i32_79 arg12
  let c1_i32_80 : BitVec 32 := 1#32
  let v136 : BitVec 32 := Scalar.addi v135 c1_i32_80
  let c1024_i32_81 : BitVec 32 := 1024#32
  let v137 : BitVec 32 := Scalar.muli v136 c1024_i32_81
  v137
def k0_off4 (i : grid0.Coords) (k0_t2 : Fin (k0_t2_loop i).trips) (c1_i32_80 : BitVec 32) : Fin 3 → Nat :=
  let c0_82 : Index := 0#32
  let c2_i32_79 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v135 : BitVec 32 := Scalar.muli c2_i32_79 arg12
  let v136 : BitVec 32 := Scalar.addi v135 c1_i32_80
  let c1024_i32_81 : BitVec 32 := 1024#32
  let v137 : BitVec 32 := Scalar.muli v136 c1024_i32_81
  let v138 : BitVec 32 := v137
  let v139 : Index := Scalar.indexCast v138
  let c0_83 : Index := 0#32
  ![0, v139.toNat, 0]
def k0_mult7 (i : grid0.Coords) (k0_t2 : Fin (k0_t2_loop i).trips) : BitVec 32 :=
  let c2_i32_98 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v156 : BitVec 32 := Scalar.muli c2_i32_98 arg12
  let c1024_i32_99 : BitVec 32 := 1024#32
  let v157 : BitVec 32 := Scalar.muli v156 c1024_i32_99
  v157
def k0_off5 (i : grid0.Coords) (k0_t2 : Fin (k0_t2_loop i).trips) : Fin 3 → Nat :=
  let c0_100 : Index := 0#32
  let c2_i32_98 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v156 : BitVec 32 := Scalar.muli c2_i32_98 arg12
  let c1024_i32_99 : BitVec 32 := 1024#32
  let v157 : BitVec 32 := Scalar.muli v156 c1024_i32_99
  let v158 : BitVec 32 := v157
  let v159 : Index := Scalar.indexCast v158
  let c0_101 : Index := 0#32
  ![0, v159.toNat, 0]
def k0_mult8 (i : grid0.Coords) (k0_t2 : Fin (k0_t2_loop i).trips) : BitVec 32 :=
  let c2_i32_150 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v230 : BitVec 32 := Scalar.muli c2_i32_150 arg12
  let c2_i32_151 : BitVec 32 := 2#32
  let v231 : BitVec 32 := Scalar.addi v230 c2_i32_151
  let c1024_i32_152 : BitVec 32 := 1024#32
  let v232 : BitVec 32 := Scalar.muli v231 c1024_i32_152
  v232
def k0_mult9 (i : grid0.Coords) (k0_t2 : Fin (k0_t2_loop i).trips) : BitVec 32 :=
  let c2_i32_169 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v251 : BitVec 32 := Scalar.muli c2_i32_169 arg12
  let c1_i32_170 : BitVec 32 := 1#32
  let v252 : BitVec 32 := Scalar.addi v251 c1_i32_170
  let c1024_i32_171 : BitVec 32 := 1024#32
  let v253 : BitVec 32 := Scalar.muli v252 c1024_i32_171
  v253
def k0_off6 (i : grid0.Coords) (k0_t2 : Fin (k0_t2_loop i).trips) : Fin 3 → Nat :=
  let c0_172 : Index := 0#32
  let c2_i32_169 : BitVec 32 := 2#32
  let c0_i32_36 : BitVec 32 := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_29 : BitVec 32 := 0#32
  let v49 : BitVec 1 := Scalar.cmpi .sgt v17 c0_i32_29
  let v50 : BitVec 32 := Scalar.extui v49
  let c0_i32_30 : BitVec 32 := 0#32
  let v51 : BitVec 1 := Scalar.cmpi .slt v17 c0_i32_30
  let v52 : BitVec 32 := Scalar.extui v51
  let v53 : BitVec 32 := Scalar.subi v50 v52
  let c2_i32 : BitVec 32 := 2#32
  let c0_i32_31 : BitVec 32 := 0#32
  let v54 : BitVec 1 := Scalar.cmpi .sgt c2_i32 c0_i32_31
  let v55 : BitVec 32 := Scalar.extui v54
  let c0_i32_32 : BitVec 32 := 0#32
  let v56 : BitVec 1 := Scalar.cmpi .slt c2_i32 c0_i32_32
  let v57 : BitVec 32 := Scalar.extui v56
  let v58 : BitVec 32 := Scalar.subi v55 v57
  let v59 : BitVec 1 := Scalar.cmpi .ne v53 v58
  let v60 : BitVec 32 := Scalar.remsi v17 c2_i32
  let c0_i32_33 : BitVec 32 := 0#32
  let v61 : BitVec 1 := Scalar.cmpi .ne v60 c0_i32_33
  let v62 : BitVec 1 := Scalar.andi v59 v61
  let v48 : BitVec 32 := Scalar.divsi v17 c2_i32
  let c1_i32_34 : BitVec 32 := 1#32
  let v63 : BitVec 32 := Scalar.subi v48 c1_i32_34
  let v64 : BitVec 32 := Scalar.select v62 v63 v48
  let v65 : BitVec 32 := Scalar.subi v64 c0_i32_36
  let c1_i32_37 : BitVec 32 := 1#32
  let v67 : BitVec 32 := Scalar.divsi v65 c1_i32_37
  let v68 : BitVec 32 := Scalar.muli v67 c1_i32_37
  let v69 : BitVec 32 := Scalar.addi c0_i32_36 v68
  let c1_i32_39 : BitVec 32 := 1#32
  let arg12 : BitVec 32 := Scf.iv v69 c1_i32_39 k0_t2
  let v251 : BitVec 32 := Scalar.muli c2_i32_169 arg12
  let c1_i32_170 : BitVec 32 := 1#32
  let v252 : BitVec 32 := Scalar.addi v251 c1_i32_170
  let c1024_i32_171 : BitVec 32 := 1024#32
  let v253 : BitVec 32 := Scalar.muli v252 c1024_i32_171
  let v254 : BitVec 32 := v253
  let v255 : Index := Scalar.indexCast v254
  let c0_173 : Index := 0#32
  ![0, v255.toNat, 0]
def k0_cond1 (i : grid0.Coords) : BitVec 1 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c2_i32_48 : BitVec 32 := 2#32
  let c0_i32_49 : BitVec 32 := 0#32
  let v88 : BitVec 1 := Scalar.cmpi .eq c2_i32_48 c0_i32_49
  let c1_i32_50 : BitVec 32 := 1#32
  let v89 : BitVec 32 := Scalar.select v88 c1_i32_50 c2_i32_48
  let v90 : BitVec 32 := Scalar.remsi v17 v89
  let c0_i32_52 : BitVec 32 := 0#32
  let v92 : BitVec 1 := Scalar.cmpi .slt v90 c0_i32_52
  let c0_i32_53 : BitVec 32 := 0#32
  let v93 : BitVec 1 := Scalar.cmpi .slt v89 c0_i32_53
  let v94 : BitVec 1 := Scalar.xori v92 v93
  let c0_i32_51 : BitVec 32 := 0#32
  let v91 : BitVec 1 := Scalar.cmpi .ne v90 c0_i32_51
  let v95 : BitVec 1 := Scalar.andi v94 v91
  let v96 : BitVec 32 := Scalar.addi v90 v89
  let v97 : BitVec 32 := Scalar.select v95 v96 v90
  let c1_i32_54 : BitVec 32 := 1#32
  let v98 : BitVec 1 := Scalar.cmpi .eq v97 c1_i32_54
  let v99 : BitVec 32 := Scalar.extui v98
  let c0_i32_55 : BitVec 32 := 0#32
  let v100 : BitVec 1 := Scalar.cmpi .ne v99 c0_i32_55
  v100

def k0_mult10 (i : grid0.Coords) : BitVec 32 :=
  let c2_i32_47 : BitVec 32 := 2#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_41 : BitVec 32 := 0#32
  let v71 : BitVec 1 := Scalar.cmpi .sgt v17 c0_i32_41
  let v72 : BitVec 32 := Scalar.extui v71
  let c0_i32_42 : BitVec 32 := 0#32
  let v73 : BitVec 1 := Scalar.cmpi .slt v17 c0_i32_42
  let v74 : BitVec 32 := Scalar.extui v73
  let v75 : BitVec 32 := Scalar.subi v72 v74
  let c2_i32_40 : BitVec 32 := 2#32
  let c0_i32_43 : BitVec 32 := 0#32
  let v76 : BitVec 1 := Scalar.cmpi .sgt c2_i32_40 c0_i32_43
  let v77 : BitVec 32 := Scalar.extui v76
  let c0_i32_44 : BitVec 32 := 0#32
  let v78 : BitVec 1 := Scalar.cmpi .slt c2_i32_40 c0_i32_44
  let v79 : BitVec 32 := Scalar.extui v78
  let v80 : BitVec 32 := Scalar.subi v77 v79
  let v81 : BitVec 1 := Scalar.cmpi .ne v75 v80
  let v82 : BitVec 32 := Scalar.remsi v17 c2_i32_40
  let c0_i32_45 : BitVec 32 := 0#32
  let v83 : BitVec 1 := Scalar.cmpi .ne v82 c0_i32_45
  let v84 : BitVec 1 := Scalar.andi v81 v83
  let v70 : BitVec 32 := Scalar.divsi v17 c2_i32_40
  let c1_i32_46 : BitVec 32 := 1#32
  let v85 : BitVec 32 := Scalar.subi v70 c1_i32_46
  let v86 : BitVec 32 := Scalar.select v84 v85 v70
  let v87 : BitVec 32 := Scalar.muli c2_i32_47 v86
  let c1_i32_79 : BitVec 32 := 1#32
  let v135 : BitVec 32 := Scalar.addi v87 c1_i32_79
  let c1024_i32_80 : BitVec 32 := 1024#32
  let v136 : BitVec 32 := Scalar.muli v135 c1024_i32_80
  v136
def k0_off7 (i : grid0.Coords) : Fin 3 → Nat :=
  let c0_81 : Index := 0#32
  let c2_i32_47 : BitVec 32 := 2#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_41 : BitVec 32 := 0#32
  let v71 : BitVec 1 := Scalar.cmpi .sgt v17 c0_i32_41
  let v72 : BitVec 32 := Scalar.extui v71
  let c0_i32_42 : BitVec 32 := 0#32
  let v73 : BitVec 1 := Scalar.cmpi .slt v17 c0_i32_42
  let v74 : BitVec 32 := Scalar.extui v73
  let v75 : BitVec 32 := Scalar.subi v72 v74
  let c2_i32_40 : BitVec 32 := 2#32
  let c0_i32_43 : BitVec 32 := 0#32
  let v76 : BitVec 1 := Scalar.cmpi .sgt c2_i32_40 c0_i32_43
  let v77 : BitVec 32 := Scalar.extui v76
  let c0_i32_44 : BitVec 32 := 0#32
  let v78 : BitVec 1 := Scalar.cmpi .slt c2_i32_40 c0_i32_44
  let v79 : BitVec 32 := Scalar.extui v78
  let v80 : BitVec 32 := Scalar.subi v77 v79
  let v81 : BitVec 1 := Scalar.cmpi .ne v75 v80
  let v82 : BitVec 32 := Scalar.remsi v17 c2_i32_40
  let c0_i32_45 : BitVec 32 := 0#32
  let v83 : BitVec 1 := Scalar.cmpi .ne v82 c0_i32_45
  let v84 : BitVec 1 := Scalar.andi v81 v83
  let v70 : BitVec 32 := Scalar.divsi v17 c2_i32_40
  let c1_i32_46 : BitVec 32 := 1#32
  let v85 : BitVec 32 := Scalar.subi v70 c1_i32_46
  let v86 : BitVec 32 := Scalar.select v84 v85 v70
  let v87 : BitVec 32 := Scalar.muli c2_i32_47 v86
  let c1_i32_79 : BitVec 32 := 1#32
  let v135 : BitVec 32 := Scalar.addi v87 c1_i32_79
  let c1024_i32_80 : BitVec 32 := 1024#32
  let v136 : BitVec 32 := Scalar.muli v135 c1024_i32_80
  let v137 : BitVec 32 := v136
  let v138 : Index := Scalar.indexCast v137
  let c0_82 : Index := 0#32
  ![0, v138.toNat, 0]
def k0_mult11 (i : grid0.Coords) : BitVec 32 :=
  let c2_i32_47 : BitVec 32 := 2#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_41 : BitVec 32 := 0#32
  let v71 : BitVec 1 := Scalar.cmpi .sgt v17 c0_i32_41
  let v72 : BitVec 32 := Scalar.extui v71
  let c0_i32_42 : BitVec 32 := 0#32
  let v73 : BitVec 1 := Scalar.cmpi .slt v17 c0_i32_42
  let v74 : BitVec 32 := Scalar.extui v73
  let v75 : BitVec 32 := Scalar.subi v72 v74
  let c2_i32_40 : BitVec 32 := 2#32
  let c0_i32_43 : BitVec 32 := 0#32
  let v76 : BitVec 1 := Scalar.cmpi .sgt c2_i32_40 c0_i32_43
  let v77 : BitVec 32 := Scalar.extui v76
  let c0_i32_44 : BitVec 32 := 0#32
  let v78 : BitVec 1 := Scalar.cmpi .slt c2_i32_40 c0_i32_44
  let v79 : BitVec 32 := Scalar.extui v78
  let v80 : BitVec 32 := Scalar.subi v77 v79
  let v81 : BitVec 1 := Scalar.cmpi .ne v75 v80
  let v82 : BitVec 32 := Scalar.remsi v17 c2_i32_40
  let c0_i32_45 : BitVec 32 := 0#32
  let v83 : BitVec 1 := Scalar.cmpi .ne v82 c0_i32_45
  let v84 : BitVec 1 := Scalar.andi v81 v83
  let v70 : BitVec 32 := Scalar.divsi v17 c2_i32_40
  let c1_i32_46 : BitVec 32 := 1#32
  let v85 : BitVec 32 := Scalar.subi v70 c1_i32_46
  let v86 : BitVec 32 := Scalar.select v84 v85 v70
  let v87 : BitVec 32 := Scalar.muli c2_i32_47 v86
  let c1024_i32_97 : BitVec 32 := 1024#32
  let v155 : BitVec 32 := Scalar.muli v87 c1024_i32_97
  v155
def k0_off8 (i : grid0.Coords) : Fin 3 → Nat :=
  let c0_98 : Index := 0#32
  let c2_i32_47 : BitVec 32 := 2#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c0_i32_41 : BitVec 32 := 0#32
  let v71 : BitVec 1 := Scalar.cmpi .sgt v17 c0_i32_41
  let v72 : BitVec 32 := Scalar.extui v71
  let c0_i32_42 : BitVec 32 := 0#32
  let v73 : BitVec 1 := Scalar.cmpi .slt v17 c0_i32_42
  let v74 : BitVec 32 := Scalar.extui v73
  let v75 : BitVec 32 := Scalar.subi v72 v74
  let c2_i32_40 : BitVec 32 := 2#32
  let c0_i32_43 : BitVec 32 := 0#32
  let v76 : BitVec 1 := Scalar.cmpi .sgt c2_i32_40 c0_i32_43
  let v77 : BitVec 32 := Scalar.extui v76
  let c0_i32_44 : BitVec 32 := 0#32
  let v78 : BitVec 1 := Scalar.cmpi .slt c2_i32_40 c0_i32_44
  let v79 : BitVec 32 := Scalar.extui v78
  let v80 : BitVec 32 := Scalar.subi v77 v79
  let v81 : BitVec 1 := Scalar.cmpi .ne v75 v80
  let v82 : BitVec 32 := Scalar.remsi v17 c2_i32_40
  let c0_i32_45 : BitVec 32 := 0#32
  let v83 : BitVec 1 := Scalar.cmpi .ne v82 c0_i32_45
  let v84 : BitVec 1 := Scalar.andi v81 v83
  let v70 : BitVec 32 := Scalar.divsi v17 c2_i32_40
  let c1_i32_46 : BitVec 32 := 1#32
  let v85 : BitVec 32 := Scalar.subi v70 c1_i32_46
  let v86 : BitVec 32 := Scalar.select v84 v85 v70
  let v87 : BitVec 32 := Scalar.muli c2_i32_47 v86
  let c1024_i32_97 : BitVec 32 := 1024#32
  let v155 : BitVec 32 := Scalar.muli v87 c1024_i32_97
  let v156 : BitVec 32 := v155
  let v157 : Index := Scalar.indexCast v156
  let c0_99 : Index := 0#32
  ![0, v157.toNat, 0]
def k0_cond2 (i : grid0.Coords) : BitVec 1 :=
  let arg2 : BitVec 32 := BitVec.ofNat 32 (i 2).val
  let c256_i32_148 : BitVec 32 := 256#32
  let v228 : BitVec 32 := Scalar.muli arg2 c256_i32_148
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_149 : BitVec 32 := 1024#32
  let v229 : BitVec 32 := Scalar.muli v17 c1024_i32_149
  let v230 : BitVec 32 := Scalar.subi v228 v229
  let c0_i32_151 : BitVec 32 := 0#32
  let v232 : BitVec 1 := Scalar.cmpi .sgt v230 c0_i32_151
  let v233 : BitVec 32 := Scalar.extui v232
  let c0_i32_152 : BitVec 32 := 0#32
  let v234 : BitVec 1 := Scalar.cmpi .slt v230 c0_i32_152
  let v235 : BitVec 32 := Scalar.extui v234
  let v236 : BitVec 32 := Scalar.subi v233 v235
  let c256_i32_150 : BitVec 32 := 256#32
  let c0_i32_153 : BitVec 32 := 0#32
  let v237 : BitVec 1 := Scalar.cmpi .sgt c256_i32_150 c0_i32_153
  let v238 : BitVec 32 := Scalar.extui v237
  let c0_i32_154 : BitVec 32 := 0#32
  let v239 : BitVec 1 := Scalar.cmpi .slt c256_i32_150 c0_i32_154
  let v240 : BitVec 32 := Scalar.extui v239
  let v241 : BitVec 32 := Scalar.subi v238 v240
  let v242 : BitVec 1 := Scalar.cmpi .ne v236 v241
  let v243 : BitVec 32 := Scalar.remsi v230 c256_i32_150
  let c0_i32_155 : BitVec 32 := 0#32
  let v244 : BitVec 1 := Scalar.cmpi .ne v243 c0_i32_155
  let v245 : BitVec 1 := Scalar.andi v242 v244
  let v231 : BitVec 32 := Scalar.divsi v230 c256_i32_150
  let c1_i32_156 : BitVec 32 := 1#32
  let v246 : BitVec 32 := Scalar.subi v231 c1_i32_156
  let v247 : BitVec 32 := Scalar.select v245 v246 v231
  let c1_i32_157 : BitVec 32 := 1#32
  let v248 : BitVec 32 := Scalar.addi v247 c1_i32_157
  let c1_i32_158 : BitVec 32 := 1#32
  let v249 : BitVec 1 := Scalar.cmpi .eq v248 c1_i32_158
  let v250 : BitVec 32 := Scalar.extui v249
  let c0_i32_159 : BitVec 32 := 0#32
  let v251 : BitVec 1 := Scalar.cmpi .ne v250 c0_i32_159
  v251

def k0_mult12 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  v261
def k0_off9 (i : grid0.Coords) : Fin 3 → Nat :=
  let c0_165 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  let v262 : BitVec 32 := v261
  let v263 : Index := Scalar.indexCast v262
  let c0_166 : Index := 0#32
  ![0, v263.toNat, 0]
def k0_cond3 (i : grid0.Coords) : BitVec 1 :=
  let arg2 : BitVec 32 := BitVec.ofNat 32 (i 2).val
  let c256_i32_148 : BitVec 32 := 256#32
  let v228 : BitVec 32 := Scalar.muli arg2 c256_i32_148
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_149 : BitVec 32 := 1024#32
  let v229 : BitVec 32 := Scalar.muli v17 c1024_i32_149
  let v230 : BitVec 32 := Scalar.subi v228 v229
  let c0_i32_151 : BitVec 32 := 0#32
  let v232 : BitVec 1 := Scalar.cmpi .sgt v230 c0_i32_151
  let v233 : BitVec 32 := Scalar.extui v232
  let c0_i32_152 : BitVec 32 := 0#32
  let v234 : BitVec 1 := Scalar.cmpi .slt v230 c0_i32_152
  let v235 : BitVec 32 := Scalar.extui v234
  let v236 : BitVec 32 := Scalar.subi v233 v235
  let c256_i32_150 : BitVec 32 := 256#32
  let c0_i32_153 : BitVec 32 := 0#32
  let v237 : BitVec 1 := Scalar.cmpi .sgt c256_i32_150 c0_i32_153
  let v238 : BitVec 32 := Scalar.extui v237
  let c0_i32_154 : BitVec 32 := 0#32
  let v239 : BitVec 1 := Scalar.cmpi .slt c256_i32_150 c0_i32_154
  let v240 : BitVec 32 := Scalar.extui v239
  let v241 : BitVec 32 := Scalar.subi v238 v240
  let v242 : BitVec 1 := Scalar.cmpi .ne v236 v241
  let v243 : BitVec 32 := Scalar.remsi v230 c256_i32_150
  let c0_i32_155 : BitVec 32 := 0#32
  let v244 : BitVec 1 := Scalar.cmpi .ne v243 c0_i32_155
  let v245 : BitVec 1 := Scalar.andi v242 v244
  let v231 : BitVec 32 := Scalar.divsi v230 c256_i32_150
  let c1_i32_156 : BitVec 32 := 1#32
  let v246 : BitVec 32 := Scalar.subi v231 c1_i32_156
  let v247 : BitVec 32 := Scalar.select v245 v246 v231
  let c1_i32_157 : BitVec 32 := 1#32
  let v248 : BitVec 32 := Scalar.addi v247 c1_i32_157
  let c2_i32_160 : BitVec 32 := 2#32
  let v252 : BitVec 1 := Scalar.cmpi .eq v248 c2_i32_160
  let v253 : BitVec 32 := Scalar.extui v252
  let c0_i32_161 : BitVec 32 := 0#32
  let v254 : BitVec 1 := Scalar.cmpi .ne v253 c0_i32_161
  v254

def k0_mult13 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  v261
def k0_off10 (i : grid0.Coords) : Fin 3 → Nat :=
  let c0_165 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  let v262 : BitVec 32 := v261
  let v263 : Index := Scalar.indexCast v262
  let c0_166 : Index := 0#32
  ![0, v263.toNat, 0]
def k0_cond4 (i : grid0.Coords) : BitVec 1 :=
  let arg2 : BitVec 32 := BitVec.ofNat 32 (i 2).val
  let c256_i32_148 : BitVec 32 := 256#32
  let v228 : BitVec 32 := Scalar.muli arg2 c256_i32_148
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_149 : BitVec 32 := 1024#32
  let v229 : BitVec 32 := Scalar.muli v17 c1024_i32_149
  let v230 : BitVec 32 := Scalar.subi v228 v229
  let c0_i32_151 : BitVec 32 := 0#32
  let v232 : BitVec 1 := Scalar.cmpi .sgt v230 c0_i32_151
  let v233 : BitVec 32 := Scalar.extui v232
  let c0_i32_152 : BitVec 32 := 0#32
  let v234 : BitVec 1 := Scalar.cmpi .slt v230 c0_i32_152
  let v235 : BitVec 32 := Scalar.extui v234
  let v236 : BitVec 32 := Scalar.subi v233 v235
  let c256_i32_150 : BitVec 32 := 256#32
  let c0_i32_153 : BitVec 32 := 0#32
  let v237 : BitVec 1 := Scalar.cmpi .sgt c256_i32_150 c0_i32_153
  let v238 : BitVec 32 := Scalar.extui v237
  let c0_i32_154 : BitVec 32 := 0#32
  let v239 : BitVec 1 := Scalar.cmpi .slt c256_i32_150 c0_i32_154
  let v240 : BitVec 32 := Scalar.extui v239
  let v241 : BitVec 32 := Scalar.subi v238 v240
  let v242 : BitVec 1 := Scalar.cmpi .ne v236 v241
  let v243 : BitVec 32 := Scalar.remsi v230 c256_i32_150
  let c0_i32_155 : BitVec 32 := 0#32
  let v244 : BitVec 1 := Scalar.cmpi .ne v243 c0_i32_155
  let v245 : BitVec 1 := Scalar.andi v242 v244
  let v231 : BitVec 32 := Scalar.divsi v230 c256_i32_150
  let c1_i32_156 : BitVec 32 := 1#32
  let v246 : BitVec 32 := Scalar.subi v231 c1_i32_156
  let v247 : BitVec 32 := Scalar.select v245 v246 v231
  let c1_i32_157 : BitVec 32 := 1#32
  let v248 : BitVec 32 := Scalar.addi v247 c1_i32_157
  let c3_i32 : BitVec 32 := 3#32
  let v255 : BitVec 1 := Scalar.cmpi .eq v248 c3_i32
  let v256 : BitVec 32 := Scalar.extui v255
  let c0_i32_162 : BitVec 32 := 0#32
  let v257 : BitVec 1 := Scalar.cmpi .ne v256 c0_i32_162
  v257

def k0_mult14 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  v261
def k0_off11 (i : grid0.Coords) : Fin 3 → Nat :=
  let c0_165 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  let v262 : BitVec 32 := v261
  let v263 : Index := Scalar.indexCast v262
  let c0_166 : Index := 0#32
  ![0, v263.toNat, 0]
def k0_cond5 (i : grid0.Coords) : BitVec 1 :=
  let arg2 : BitVec 32 := BitVec.ofNat 32 (i 2).val
  let c256_i32_148 : BitVec 32 := 256#32
  let v228 : BitVec 32 := Scalar.muli arg2 c256_i32_148
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_149 : BitVec 32 := 1024#32
  let v229 : BitVec 32 := Scalar.muli v17 c1024_i32_149
  let v230 : BitVec 32 := Scalar.subi v228 v229
  let c0_i32_151 : BitVec 32 := 0#32
  let v232 : BitVec 1 := Scalar.cmpi .sgt v230 c0_i32_151
  let v233 : BitVec 32 := Scalar.extui v232
  let c0_i32_152 : BitVec 32 := 0#32
  let v234 : BitVec 1 := Scalar.cmpi .slt v230 c0_i32_152
  let v235 : BitVec 32 := Scalar.extui v234
  let v236 : BitVec 32 := Scalar.subi v233 v235
  let c256_i32_150 : BitVec 32 := 256#32
  let c0_i32_153 : BitVec 32 := 0#32
  let v237 : BitVec 1 := Scalar.cmpi .sgt c256_i32_150 c0_i32_153
  let v238 : BitVec 32 := Scalar.extui v237
  let c0_i32_154 : BitVec 32 := 0#32
  let v239 : BitVec 1 := Scalar.cmpi .slt c256_i32_150 c0_i32_154
  let v240 : BitVec 32 := Scalar.extui v239
  let v241 : BitVec 32 := Scalar.subi v238 v240
  let v242 : BitVec 1 := Scalar.cmpi .ne v236 v241
  let v243 : BitVec 32 := Scalar.remsi v230 c256_i32_150
  let c0_i32_155 : BitVec 32 := 0#32
  let v244 : BitVec 1 := Scalar.cmpi .ne v243 c0_i32_155
  let v245 : BitVec 1 := Scalar.andi v242 v244
  let v231 : BitVec 32 := Scalar.divsi v230 c256_i32_150
  let c1_i32_156 : BitVec 32 := 1#32
  let v246 : BitVec 32 := Scalar.subi v231 c1_i32_156
  let v247 : BitVec 32 := Scalar.select v245 v246 v231
  let c1_i32_157 : BitVec 32 := 1#32
  let v248 : BitVec 32 := Scalar.addi v247 c1_i32_157
  let c4_i32 : BitVec 32 := 4#32
  let v258 : BitVec 1 := Scalar.cmpi .eq v248 c4_i32
  let v259 : BitVec 32 := Scalar.extui v258
  let c0_i32_163 : BitVec 32 := 0#32
  let v260 : BitVec 1 := Scalar.cmpi .ne v259 c0_i32_163
  v260

def k0_mult15 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  v261
def k0_off12 (i : grid0.Coords) : Fin 3 → Nat :=
  let c0_165 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_164 : BitVec 32 := 1024#32
  let v261 : BitVec 32 := Scalar.muli v17 c1024_i32_164
  let v262 : BitVec 32 := v261
  let v263 : Index := Scalar.indexCast v262
  let c0_166 : Index := 0#32
  ![0, v263.toNat, 0]
def k0_cond6 (i : grid0.Coords) : BitVec 1 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c2_i32_56 : BitVec 32 := 2#32
  let c0_i32_57 : BitVec 32 := 0#32
  let v101 : BitVec 1 := Scalar.cmpi .eq c2_i32_56 c0_i32_57
  let c1_i32_58 : BitVec 32 := 1#32
  let v102 : BitVec 32 := Scalar.select v101 c1_i32_58 c2_i32_56
  let v103 : BitVec 32 := Scalar.remsi v17 v102
  let c0_i32_60 : BitVec 32 := 0#32
  let v105 : BitVec 1 := Scalar.cmpi .slt v103 c0_i32_60
  let c0_i32_61 : BitVec 32 := 0#32
  let v106 : BitVec 1 := Scalar.cmpi .slt v102 c0_i32_61
  let v107 : BitVec 1 := Scalar.xori v105 v106
  let c0_i32_59 : BitVec 32 := 0#32
  let v104 : BitVec 1 := Scalar.cmpi .ne v103 c0_i32_59
  let v108 : BitVec 1 := Scalar.andi v107 v104
  let v109 : BitVec 32 := Scalar.addi v103 v102
  let v110 : BitVec 32 := Scalar.select v108 v109 v103
  let c0_i32_62 : BitVec 32 := 0#32
  let v111 : BitVec 1 := Scalar.cmpi .eq v110 c0_i32_62
  let v112 : BitVec 32 := Scalar.extui v111
  let c0_i32_63 : BitVec 32 := 0#32
  let v113 : BitVec 1 := Scalar.cmpi .ne v112 c0_i32_63
  v113

def k0_cond7 (i : grid0.Coords) : BitVec 1 :=
  let arg2 : BitVec 32 := BitVec.ofNat 32 (i 2).val
  let c256_i32_79 : BitVec 32 := 256#32
  let v135 : BitVec 32 := Scalar.muli arg2 c256_i32_79
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_80 : BitVec 32 := 1024#32
  let v136 : BitVec 32 := Scalar.muli v17 c1024_i32_80
  let v137 : BitVec 32 := Scalar.subi v135 v136
  let c0_i32_82 : BitVec 32 := 0#32
  let v139 : BitVec 1 := Scalar.cmpi .sgt v137 c0_i32_82
  let v140 : BitVec 32 := Scalar.extui v139
  let c0_i32_83 : BitVec 32 := 0#32
  let v141 : BitVec 1 := Scalar.cmpi .slt v137 c0_i32_83
  let v142 : BitVec 32 := Scalar.extui v141
  let v143 : BitVec 32 := Scalar.subi v140 v142
  let c256_i32_81 : BitVec 32 := 256#32
  let c0_i32_84 : BitVec 32 := 0#32
  let v144 : BitVec 1 := Scalar.cmpi .sgt c256_i32_81 c0_i32_84
  let v145 : BitVec 32 := Scalar.extui v144
  let c0_i32_85 : BitVec 32 := 0#32
  let v146 : BitVec 1 := Scalar.cmpi .slt c256_i32_81 c0_i32_85
  let v147 : BitVec 32 := Scalar.extui v146
  let v148 : BitVec 32 := Scalar.subi v145 v147
  let v149 : BitVec 1 := Scalar.cmpi .ne v143 v148
  let v150 : BitVec 32 := Scalar.remsi v137 c256_i32_81
  let c0_i32_86 : BitVec 32 := 0#32
  let v151 : BitVec 1 := Scalar.cmpi .ne v150 c0_i32_86
  let v152 : BitVec 1 := Scalar.andi v149 v151
  let v138 : BitVec 32 := Scalar.divsi v137 c256_i32_81
  let c1_i32_87 : BitVec 32 := 1#32
  let v153 : BitVec 32 := Scalar.subi v138 c1_i32_87
  let v154 : BitVec 32 := Scalar.select v152 v153 v138
  let c1_i32_88 : BitVec 32 := 1#32
  let v155 : BitVec 32 := Scalar.addi v154 c1_i32_88
  let c1_i32_89 : BitVec 32 := 1#32
  let v156 : BitVec 1 := Scalar.cmpi .eq v155 c1_i32_89
  let v157 : BitVec 32 := Scalar.extui v156
  let c0_i32_90 : BitVec 32 := 0#32
  let v158 : BitVec 1 := Scalar.cmpi .ne v157 c0_i32_90
  v158

def k0_mult16 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  v168
def k0_off13 (i : grid0.Coords) : Fin 3 → Nat :=
  let c0_96 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  let v169 : BitVec 32 := v168
  let v170 : Index := Scalar.indexCast v169
  let c0_97 : Index := 0#32
  ![0, v170.toNat, 0]
def k0_cond8 (i : grid0.Coords) : BitVec 1 :=
  let arg2 : BitVec 32 := BitVec.ofNat 32 (i 2).val
  let c256_i32_79 : BitVec 32 := 256#32
  let v135 : BitVec 32 := Scalar.muli arg2 c256_i32_79
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_80 : BitVec 32 := 1024#32
  let v136 : BitVec 32 := Scalar.muli v17 c1024_i32_80
  let v137 : BitVec 32 := Scalar.subi v135 v136
  let c0_i32_82 : BitVec 32 := 0#32
  let v139 : BitVec 1 := Scalar.cmpi .sgt v137 c0_i32_82
  let v140 : BitVec 32 := Scalar.extui v139
  let c0_i32_83 : BitVec 32 := 0#32
  let v141 : BitVec 1 := Scalar.cmpi .slt v137 c0_i32_83
  let v142 : BitVec 32 := Scalar.extui v141
  let v143 : BitVec 32 := Scalar.subi v140 v142
  let c256_i32_81 : BitVec 32 := 256#32
  let c0_i32_84 : BitVec 32 := 0#32
  let v144 : BitVec 1 := Scalar.cmpi .sgt c256_i32_81 c0_i32_84
  let v145 : BitVec 32 := Scalar.extui v144
  let c0_i32_85 : BitVec 32 := 0#32
  let v146 : BitVec 1 := Scalar.cmpi .slt c256_i32_81 c0_i32_85
  let v147 : BitVec 32 := Scalar.extui v146
  let v148 : BitVec 32 := Scalar.subi v145 v147
  let v149 : BitVec 1 := Scalar.cmpi .ne v143 v148
  let v150 : BitVec 32 := Scalar.remsi v137 c256_i32_81
  let c0_i32_86 : BitVec 32 := 0#32
  let v151 : BitVec 1 := Scalar.cmpi .ne v150 c0_i32_86
  let v152 : BitVec 1 := Scalar.andi v149 v151
  let v138 : BitVec 32 := Scalar.divsi v137 c256_i32_81
  let c1_i32_87 : BitVec 32 := 1#32
  let v153 : BitVec 32 := Scalar.subi v138 c1_i32_87
  let v154 : BitVec 32 := Scalar.select v152 v153 v138
  let c1_i32_88 : BitVec 32 := 1#32
  let v155 : BitVec 32 := Scalar.addi v154 c1_i32_88
  let c2_i32_91 : BitVec 32 := 2#32
  let v159 : BitVec 1 := Scalar.cmpi .eq v155 c2_i32_91
  let v160 : BitVec 32 := Scalar.extui v159
  let c0_i32_92 : BitVec 32 := 0#32
  let v161 : BitVec 1 := Scalar.cmpi .ne v160 c0_i32_92
  v161

def k0_mult17 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  v168
def k0_off14 (i : grid0.Coords) : Fin 3 → Nat :=
  let c0_96 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  let v169 : BitVec 32 := v168
  let v170 : Index := Scalar.indexCast v169
  let c0_97 : Index := 0#32
  ![0, v170.toNat, 0]
def k0_cond9 (i : grid0.Coords) : BitVec 1 :=
  let arg2 : BitVec 32 := BitVec.ofNat 32 (i 2).val
  let c256_i32_79 : BitVec 32 := 256#32
  let v135 : BitVec 32 := Scalar.muli arg2 c256_i32_79
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_80 : BitVec 32 := 1024#32
  let v136 : BitVec 32 := Scalar.muli v17 c1024_i32_80
  let v137 : BitVec 32 := Scalar.subi v135 v136
  let c0_i32_82 : BitVec 32 := 0#32
  let v139 : BitVec 1 := Scalar.cmpi .sgt v137 c0_i32_82
  let v140 : BitVec 32 := Scalar.extui v139
  let c0_i32_83 : BitVec 32 := 0#32
  let v141 : BitVec 1 := Scalar.cmpi .slt v137 c0_i32_83
  let v142 : BitVec 32 := Scalar.extui v141
  let v143 : BitVec 32 := Scalar.subi v140 v142
  let c256_i32_81 : BitVec 32 := 256#32
  let c0_i32_84 : BitVec 32 := 0#32
  let v144 : BitVec 1 := Scalar.cmpi .sgt c256_i32_81 c0_i32_84
  let v145 : BitVec 32 := Scalar.extui v144
  let c0_i32_85 : BitVec 32 := 0#32
  let v146 : BitVec 1 := Scalar.cmpi .slt c256_i32_81 c0_i32_85
  let v147 : BitVec 32 := Scalar.extui v146
  let v148 : BitVec 32 := Scalar.subi v145 v147
  let v149 : BitVec 1 := Scalar.cmpi .ne v143 v148
  let v150 : BitVec 32 := Scalar.remsi v137 c256_i32_81
  let c0_i32_86 : BitVec 32 := 0#32
  let v151 : BitVec 1 := Scalar.cmpi .ne v150 c0_i32_86
  let v152 : BitVec 1 := Scalar.andi v149 v151
  let v138 : BitVec 32 := Scalar.divsi v137 c256_i32_81
  let c1_i32_87 : BitVec 32 := 1#32
  let v153 : BitVec 32 := Scalar.subi v138 c1_i32_87
  let v154 : BitVec 32 := Scalar.select v152 v153 v138
  let c1_i32_88 : BitVec 32 := 1#32
  let v155 : BitVec 32 := Scalar.addi v154 c1_i32_88
  let c3_i32 : BitVec 32 := 3#32
  let v162 : BitVec 1 := Scalar.cmpi .eq v155 c3_i32
  let v163 : BitVec 32 := Scalar.extui v162
  let c0_i32_93 : BitVec 32 := 0#32
  let v164 : BitVec 1 := Scalar.cmpi .ne v163 c0_i32_93
  v164

def k0_mult18 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  v168
def k0_off15 (i : grid0.Coords) : Fin 3 → Nat :=
  let c0_96 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  let v169 : BitVec 32 := v168
  let v170 : Index := Scalar.indexCast v169
  let c0_97 : Index := 0#32
  ![0, v170.toNat, 0]
def k0_cond10 (i : grid0.Coords) : BitVec 1 :=
  let arg2 : BitVec 32 := BitVec.ofNat 32 (i 2).val
  let c256_i32_79 : BitVec 32 := 256#32
  let v135 : BitVec 32 := Scalar.muli arg2 c256_i32_79
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_80 : BitVec 32 := 1024#32
  let v136 : BitVec 32 := Scalar.muli v17 c1024_i32_80
  let v137 : BitVec 32 := Scalar.subi v135 v136
  let c0_i32_82 : BitVec 32 := 0#32
  let v139 : BitVec 1 := Scalar.cmpi .sgt v137 c0_i32_82
  let v140 : BitVec 32 := Scalar.extui v139
  let c0_i32_83 : BitVec 32 := 0#32
  let v141 : BitVec 1 := Scalar.cmpi .slt v137 c0_i32_83
  let v142 : BitVec 32 := Scalar.extui v141
  let v143 : BitVec 32 := Scalar.subi v140 v142
  let c256_i32_81 : BitVec 32 := 256#32
  let c0_i32_84 : BitVec 32 := 0#32
  let v144 : BitVec 1 := Scalar.cmpi .sgt c256_i32_81 c0_i32_84
  let v145 : BitVec 32 := Scalar.extui v144
  let c0_i32_85 : BitVec 32 := 0#32
  let v146 : BitVec 1 := Scalar.cmpi .slt c256_i32_81 c0_i32_85
  let v147 : BitVec 32 := Scalar.extui v146
  let v148 : BitVec 32 := Scalar.subi v145 v147
  let v149 : BitVec 1 := Scalar.cmpi .ne v143 v148
  let v150 : BitVec 32 := Scalar.remsi v137 c256_i32_81
  let c0_i32_86 : BitVec 32 := 0#32
  let v151 : BitVec 1 := Scalar.cmpi .ne v150 c0_i32_86
  let v152 : BitVec 1 := Scalar.andi v149 v151
  let v138 : BitVec 32 := Scalar.divsi v137 c256_i32_81
  let c1_i32_87 : BitVec 32 := 1#32
  let v153 : BitVec 32 := Scalar.subi v138 c1_i32_87
  let v154 : BitVec 32 := Scalar.select v152 v153 v138
  let c1_i32_88 : BitVec 32 := 1#32
  let v155 : BitVec 32 := Scalar.addi v154 c1_i32_88
  let c4_i32 : BitVec 32 := 4#32
  let v165 : BitVec 1 := Scalar.cmpi .eq v155 c4_i32
  let v166 : BitVec 32 := Scalar.extui v165
  let c0_i32_94 : BitVec 32 := 0#32
  let v167 : BitVec 1 := Scalar.cmpi .ne v166 c0_i32_94
  v167

def k0_mult19 (i : grid0.Coords) : BitVec 32 :=
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  v168
def k0_off16 (i : grid0.Coords) : Fin 3 → Nat :=
  let c0_96 : Index := 0#32
  let arg2 : BitVec 32 := BitVec.ofNat 32 (i 2).val
  let c256_i32 : BitVec 32 := 256#32
  let v0 : BitVec 32 := Scalar.muli arg2 c256_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c1024_i32 : BitVec 32 := 1024#32
  let c0_i32_1 : BitVec 32 := 0#32
  let v7 : BitVec 1 := Scalar.cmpi .sgt c1024_i32 c0_i32_1
  let v8 : BitVec 32 := Scalar.extui v7
  let c0_i32_2 : BitVec 32 := 0#32
  let v9 : BitVec 1 := Scalar.cmpi .slt c1024_i32 c0_i32_2
  let v10 : BitVec 32 := Scalar.extui v9
  let v11 : BitVec 32 := Scalar.subi v8 v10
  let v12 : BitVec 1 := Scalar.cmpi .ne v6 v11
  let v13 : BitVec 32 := Scalar.remsi v0 c1024_i32
  let c0_i32_3 : BitVec 32 := 0#32
  let v14 : BitVec 1 := Scalar.cmpi .ne v13 c0_i32_3
  let v15 : BitVec 1 := Scalar.andi v12 v14
  let v1 : BitVec 32 := Scalar.divsi v0 c1024_i32
  let c1_i32 : BitVec 32 := 1#32
  let v16 : BitVec 32 := Scalar.subi v1 c1_i32
  let v17 : BitVec 32 := Scalar.select v15 v16 v1
  let c1024_i32_95 : BitVec 32 := 1024#32
  let v168 : BitVec 32 := Scalar.muli v17 c1024_i32_95
  let v169 : BitVec 32 := v168
  let v170 : Index := Scalar.indexCast v169
  let c0_97 : Index := 0#32
  ![0, v170.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x4x96 : Shape := ⟨4, ![4, 8192, 4, 96]⟩
abbrev S4x8192x4x64 : Shape := ⟨4, ![4, 8192, 4, 64]⟩
abbrev S8192 : Shape := ⟨1, ![8192]⟩
abbrev S4x4x8192x8192 : Shape := ⟨4, ![4, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x256 : Shape := ⟨3, ![4, 8192, 256]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x4x96, .f32⟩
  | .hbm, ⟨1, _⟩ => ⟨S4x8192x4x96, .f32⟩
  | .hbm, ⟨2, _⟩ => ⟨S4x8192x4x64, .f32⟩
  | .hbm, ⟨3, _⟩ => ⟨S8192, .i32⟩
  | .hbm, ⟨4, _⟩ => ⟨S4x4x8192x8192, .f32⟩
  | .hbm, ⟨5, _⟩ => ⟨S_, .f32⟩
  | .hbm, ⟨6, _⟩ => ⟨S_, .f32⟩
  | .hbm, ⟨7, _⟩ => ⟨S4x4x8192x8192, .f32⟩
  | .hbm, ⟨8, _⟩ => ⟨S4x4x8192x8192, .f32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x4x8192x8192, .i1⟩
  | .hbm, ⟨17, _⟩ => ⟨S4x4x8192x8192, .f32⟩
  | .hbm, ⟨18, _⟩ => ⟨S4x4x8192x8192, .f32⟩
  | .hbm, ⟨19, _⟩ => ⟨S_, .f32⟩
  | .hbm, ⟨20, _⟩ => ⟨S4x4x8192, .f32⟩
  | .hbm, ⟨21, _⟩ => ⟨S_, .f32⟩
  | .hbm, ⟨22, _⟩ => ⟨S4x4x8192, .f32⟩
  | .hbm, ⟨23, _⟩ => ⟨S4x4x8192, .f32⟩
  | .hbm, ⟨24, _⟩ => ⟨S4x4x8192x1, .f32⟩
  | .hbm, ⟨25, _⟩ => ⟨S4x4x8192x8192, .f32⟩
  | .hbm, ⟨26, _⟩ => ⟨S4x4x8192x8192, .f32⟩
  | .hbm, ⟨27, _⟩ => ⟨S4x4x8192x8192, .f32⟩
  | .hbm, ⟨28, _⟩ => ⟨S_, .f32⟩
  | .hbm, ⟨29, _⟩ => ⟨S4x4x8192, .f32⟩
  | .hbm, ⟨30, _⟩ => ⟨S4x4x8192x1, .f32⟩
  | .hbm, ⟨31, _⟩ => ⟨S4x4x8192x8192, .f32⟩
  | .hbm, ⟨32, _⟩ => ⟨S4x4x8192x8192, .f32⟩
  | .hbm, ⟨33, _⟩ => ⟨S4x4x64x8192, .f32⟩
  | .hbm, ⟨34, _⟩ => ⟨S4x8192x4x64, .f32⟩
  | .hbm, ⟨35, _⟩ => ⟨S4x8192x256, .f32⟩
  | _, _ => ⟨S4x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x2816 : Shape := ⟨2, ![1024, 2816]⟩
abbrev S2816x1024 : Shape := ⟨2, ![2816, 1024]⟩
abbrev S32768x1024 : Shape := ⟨2, ![32768, 1024]⟩
abbrev S256x1024 : Shape := ⟨2, ![256, 1024]⟩
abbrev S256x2816 : Shape := ⟨2, ![256, 2816]⟩

abbrev nBuf : Space → Nat
  | .hbm => 12
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![128, 1], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .sgt arg1 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S4x8192x1024 : Shape := ⟨3, ![4, 8192, 1024]⟩
abbrev S1024x2816 : Shape := ⟨2, ![1024, 2816]⟩
abbrev S2816x1024 : Shape := ⟨2, ![2816, 1024]⟩
abbrev S4x8192x2816 : Shape := ⟨3, ![4, 8192, 2816]⟩
abbrev S_ : Shape := ⟨0, ![]⟩
abbrev S32768x1024 : Shape := ⟨2, ![32768, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x2816, .f32⟩
  | .hbm, ⟨6, _⟩ => ⟨S4x8192x2816, .f32⟩
  | .hbm, ⟨7, _⟩ => ⟨S4x8192x2816, .f32⟩
  | .hbm, ⟨8, _⟩ => ⟨S_, .f32⟩
  | .hbm, ⟨9, _⟩ => ⟨S4x8192x2816, .f32⟩
  | .hbm, ⟨10, _⟩ => ⟨S4x8192x2816, .f32⟩
  | .hbm, ⟨11, _⟩ => ⟨S_, .f32⟩
  | .hbm, ⟨12, _⟩ => ⟨S4x8192x2816, .f32⟩
  | .hbm, ⟨13, _⟩ => ⟨S4x8192x2816, .f32⟩
  | .hbm, ⟨14, _⟩ => ⟨S4x8192x2816, .f32⟩
  | .hbm, ⟨15, _⟩ => ⟨S4x8192x2816, .f32⟩
  | .hbm, ⟨16, _⟩ => ⟨S4x8192x2816, .f32⟩
  | .hbm, ⟨17, _⟩ => ⟨S4x8192x1024, .f32⟩
  | .hbm, ⟨18, _⟩ => ⟨S4x8192x1024, .f32⟩
  | .hbm, ⟨19, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel3.lean ====
abbrev S69632x1024 : Shape := ⟨2, ![69632, 1024]⟩
abbrev S32768x2 : Shape := ⟨2, ![32768, 2]⟩
abbrev S8x1024x3584 : Shape := ⟨3, ![8, 1024, 3584]⟩
abbrev S8x3584x1024 : Shape := ⟨3, ![8, 3584, 1024]⟩
abbrev S65536 : Shape := ⟨1, ![65536]⟩
abbrev S65536x1 : Shape := ⟨2, ![65536, 1]⟩
abbrev S8 : Shape := ⟨1, ![8]⟩
abbrev S1x8 : Shape := ⟨2, ![1, 8]⟩
abbrev S65536x8 : Shape := ⟨2, ![65536, 8]⟩
abbrev S_ : Shape := ⟨0, ![]⟩
abbrev S136 : Shape := ⟨1, ![136]⟩
abbrev S136x1 : Shape := ⟨2, ![136, 1]⟩
abbrev S136x8 : Shape := ⟨2, ![136, 8]⟩
abbrev S1 : Shape := ⟨1, ![1]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 84
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S32768x2, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S65536, .i32⟩
  | .hbm, ⟨6, _⟩ => ⟨S65536x1, .i32⟩
  | .hbm, ⟨7, _⟩ => ⟨S8, .i32⟩
  | .hbm, ⟨8, _⟩ => ⟨S1x8, .i32⟩
  | .hbm, ⟨9, _⟩ => ⟨S65536x8, .i32⟩
  | .hbm, ⟨10, _⟩ => ⟨S65536x8, .i32⟩
  | .hbm, ⟨11, _⟩ => ⟨S65536x8, .i1⟩
  | .hbm, ⟨12, _⟩ => ⟨S65536x8, .i32⟩
  | .hbm, ⟨13, _⟩ => ⟨S_, .i32⟩
  | .hbm, ⟨14, _⟩ => ⟨S_, .i32⟩
  | .hbm, ⟨15, _⟩ => ⟨S65536x8, .i32⟩
  | .hbm, ⟨16, _⟩ => ⟨S1x8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S8, .i32⟩
  | .hbm, ⟨31, _⟩ => ⟨S8, .i1⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S8, .i1⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S8, .i32⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S_, .i32⟩
  | .hbm, ⟨46, _⟩ => ⟨S_, .i32⟩
  | .hbm, ⟨47, _⟩ => ⟨S8, .i32⟩
  | .hbm, ⟨48, _⟩ => ⟨S136, .i32⟩
  | .hbm, ⟨49, _⟩ => ⟨S_, .i32⟩
  | .hbm, ⟨50, _⟩ => ⟨S136, .i32⟩
  | .hbm, ⟨51, _⟩ => ⟨S136, .i32⟩
  | .hbm, ⟨52, _⟩ => ⟨S1x8, .i32⟩
  | .hbm, ⟨53, _⟩ => ⟨S136x1, .i32⟩
  | .hbm, ⟨54, _⟩ => ⟨S136x8, .i32⟩
  | .hbm, ⟨55, _⟩ => ⟨S136x8, .i32⟩
  | .hbm, ⟨56, _⟩ => ⟨S136x8, .i1⟩
  | .hbm, ⟨57, _⟩ => ⟨S136x8, .i32⟩
  | .hbm, ⟨58, _⟩ => ⟨S_, .i32⟩
  | .hbm, ⟨59, _⟩ => ⟨S136, .i32⟩
  | .hbm, ⟨60, _⟩ => ⟨S_, .i32⟩
  | .hbm, ⟨61, _⟩ => ⟨S136, .i32⟩
  | .hbm, ⟨62, _⟩ => ⟨S1, .i32⟩
  | .hbm, ⟨63, _⟩ => ⟨S_, .i32⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i1⟩
  | .hbm, ⟨71, _⟩ => ⟨S1, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S1, .i1⟩
  | .hbm, ⟨76, _⟩ => ⟨S1, .i1⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S8x1024x3584, .bf16⟩
  | .hbm, ⟨81, _⟩ => ⟨S8x1024x3584, .bf16⟩
  | .hbm, ⟨82, _⟩ => ⟨S8x3584x1024, .bf16⟩
  | .hbm, ⟨83, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_call2_call0_c : Ref sig .tc := ⟨.hbm, 45, rfl⟩
abbrev main_call2_call0_v0 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v31 : Ref sig .tc := ⟨.hbm, 62, rfl⟩
abbrev main_c_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v30 : Ref sig .tc := ⟨.smem, 0, rfl⟩
abbrev main_v32 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_v30.idx, main_v32.idx], fun | 0 => main_v30.names | 1 => main_v32.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_15 : BitVec 32 := 0#32
  let v24 : BitVec 1 := Scalar.cmpi .eq arg1 c0_i32_15
  let v25 : BitVec 32 := Scalar.extui v24
  let c0_i32_16 : BitVec 32 := 0#32
  let v26 : BitVec 1 := Scalar.cmpi .ne v25 c0_i32_16
  v26

def k0_cond3 (i : grid0.Coords) : BitVec 1 :=
  let arg1 : BitVec 32 := BitVec.ofNat 32 (i 1).val
  let c0_i32_17 : BitVec 32 := 0#32
  let v27 : BitVec 1 := Scalar.cmpi .sgt arg1 c0_i32_17
  let v28 : BitVec 32 := Scalar.extui v27
  let c0_i32_18 : BitVec 32 := 0#32
  let v29 : BitVec 1 := Scalar.cmpi .ne v28 c0_i32_18
  v29

def k0_cond4 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let c1_i32_4 : BitVec 32 := 1#32
  let v13 : BitVec 32 := Scalar.subi c1_i32_4 arg1
  let v14 : BitVec 32 := Scalar.select v12 arg1 v13
  let c0_i32_5 : BitVec 32 := 0#32
  let c0_i32_6 : BitVec 32 := 0#32
  ![v1.toNat, c0_i32_5.toNat, v14.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let c1_i32_4 : BitVec 32 := 1#32
  let v13 : BitVec 32 := Scalar.subi c1_i32_4 arg1
  let v14 : BitVec 32 := Scalar.select v12 arg1 v13
  let c0_i32_5 : BitVec 32 := 0#32
  let c0_i32_6 : BitVec 32 := 0#32
  ![v1.toNat, c0_i32_5.toNat, v14.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let c1_i32_4 : BitVec 32 := 1#32
  let v13 : BitVec 32 := Scalar.subi c1_i32_4 arg1
  let v14 : BitVec 32 := Scalar.select v12 arg1 v13
  let c0_i32_5 : BitVec 32 := 0#32
  let c0_i32_6 : BitVec 32 := 0#32
  ![v1.toNat, v14.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S69632x1024 : Shape := ⟨2, ![69632, 1024]⟩
abbrev S32768x2 : Shape := ⟨2, ![32768, 2]⟩
abbrev S8x1024x3584 : Shape := ⟨3, ![8, 1024, 3584]⟩
abbrev S8x3584x1024 : Shape := ⟨3, ![8, 3584, 1024]⟩
abbrev S65536 : Shape := ⟨1, ![65536]⟩
abbrev S65536x1 : Shape := ⟨2, ![65536, 1]⟩
abbrev S1x8 : Shape := ⟨2, ![1, 8]⟩
abbrev S65536x8 : Shape := ⟨2, ![65536, 8]⟩
abbrev S_ : Shape := ⟨0, ![]⟩
abbrev S8 : Shape := ⟨1, ![8]⟩
abbrev S136 : Shape := ⟨1, ![136]⟩
abbrev S136x1 : Shape := ⟨2, ![136, 1]⟩
abbrev S136x8 : Shape := ⟨2, ![136, 8]⟩
abbrev S136x512x1024 : Shape := ⟨3, ![136, 512, 1024]⟩
abbrev S136x1024x3584 : Shape := ⟨3, ![136, 1024, 3584]⟩
abbrev S136x512x3584 : Shape := ⟨3, ![136, 512, 3584]⟩
abbrev S136x3584x1024 : Shape := ⟨3, ![136, 3584, 1024]⟩
abbrev S1 : Shape := ⟨1, ![1]⟩
abbrev S136x1x1 : Shape := ⟨3, ![136, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S32768x2, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S65536, .i32⟩
  | .hbm, ⟨6, _⟩ => ⟨S65536x1, .i32⟩
  | .hbm, ⟨7, _⟩ => ⟨S1x8, .i32⟩
  | .hbm, ⟨8, _⟩ => ⟨S65536x8, .i32⟩
  | .hbm, ⟨9, _⟩ => ⟨S65536x8, .i32⟩
  | .hbm, ⟨10, _⟩ => ⟨S65536x8, .i1⟩
  | .hbm, ⟨11, _⟩ => ⟨S65536x8, .i32⟩
  | .hbm, ⟨12, _⟩ => ⟨S_, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i1⟩
  | .hbm, ⟨33, _⟩ => ⟨S8, .i1⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S_, .i32⟩
  | .hbm, ⟨42, _⟩ => ⟨S_, .i32⟩
  | .hbm, ⟨43, _⟩ => ⟨S8, .i32⟩
  | .hbm, ⟨44, _⟩ => ⟨S136, .i32⟩
  | .hbm, ⟨45, _⟩ => ⟨S1x8, .i32⟩
  | .hbm, ⟨46, _⟩ => ⟨S_, .i32⟩
  | .hbm, ⟨47, _⟩ => ⟨S136, .i32⟩
  | .hbm, ⟨48, _⟩ => ⟨S136, .i32⟩
  | .hbm, ⟨49, _⟩ => ⟨S136x1, .i32⟩
  | .hbm, ⟨50, _⟩ => ⟨S136x8, .i32⟩
  | .hbm, ⟨51, _⟩ => ⟨S136x8, .i32⟩
  | .hbm, ⟨52, _⟩ => ⟨S136x8, .i1⟩
  | .hbm, ⟨53, _⟩ => ⟨S136x8, .i32⟩
  | .hbm, ⟨54, _⟩ => ⟨S_, .i32⟩
  | .hbm, ⟨55, _⟩ => ⟨S136, .i32⟩
  | .hbm, ⟨56, _⟩ => ⟨S_, .i32⟩
  | .hbm, ⟨57, _⟩ => ⟨S136, .i32⟩
  | .hbm, ⟨58, _⟩ => ⟨S136, .i32⟩
  | .hbm, ⟨59, _⟩ => ⟨S136x512x1024, .f32⟩
  | .hbm, ⟨60, _⟩ => ⟨S_, .i32⟩
  | .hbm, ⟨61, _⟩ => ⟨S136, .i32⟩
  | .hbm, ⟨62, _⟩ => ⟨S136, .i1⟩
  | .hbm, ⟨63, _⟩ => ⟨S_, .i32⟩
  | .hbm, ⟨64, _⟩ => ⟨S136, .i32⟩
  | .hbm, ⟨65, _⟩ => ⟨S136, .i32⟩
  | .hbm, ⟨66, _⟩ => ⟨S136, .i32⟩
  | .hbm, ⟨67, _⟩ => ⟨S136x1, .i32⟩
  | .hbm, ⟨68, _⟩ => ⟨S136x1024x3584, .f32⟩
  | .hbm, ⟨69, _⟩ => ⟨S136x512x3584, .f32⟩
  | .hbm, ⟨70, _⟩ => ⟨S_, .i32⟩
  | .hbm, ⟨71, _⟩ => ⟨S136, .i32⟩
  | .hbm, ⟨72, _⟩ => ⟨S136, .i1⟩
  | .hbm, ⟨73, _⟩ => ⟨S_, .i32⟩
  | .hbm, ⟨74, _⟩ => ⟨S136, .i32⟩
  | .hbm, ⟨75, _⟩ => ⟨S136, .i32⟩
  | .hbm, ⟨76, _⟩ => ⟨S136, .i32⟩
  | .hbm, ⟨77, _⟩ => ⟨S136x1, .i32⟩
  | .hbm, ⟨78, _⟩ => ⟨S136x1024x3584, .f32⟩
  | .hbm, ⟨79, _⟩ => ⟨S136x512x3584, .f32⟩
  | .hbm, ⟨80, _⟩ => ⟨S136x512x3584, .f32⟩
  | .hbm, ⟨81, _⟩ => ⟨S136x512x3584, .f32⟩
  | .hbm, ⟨82, _⟩ => ⟨S_, .f32⟩
  | .hbm, ⟨83, _⟩ => ⟨S136x512x3584, .f32⟩
  | .hbm, ⟨84, _⟩ => ⟨S136x512x3584, .f32⟩
  | .hbm, ⟨85, _⟩ => ⟨S_, .f32⟩
  | .hbm, ⟨86, _⟩ => ⟨S136x512x3584, .f32⟩
  | .hbm, ⟨87, _⟩ => ⟨S136x512x3584, .f32⟩
  | .hbm, ⟨88, _⟩ => ⟨S136x512x3584, .f32⟩
  | .hbm, ⟨89, _⟩ => ⟨S136x512x3584, .f32⟩
  | .hbm, ⟨90, _⟩ => ⟨S_, .i32⟩
  | .hbm, ⟨91, _⟩ => ⟨S136, .i32⟩
  | .hbm, ⟨92, _⟩ => ⟨S136, .i1⟩
  | .hbm, ⟨93, _⟩ => ⟨S_, .i32⟩
  | .hbm, ⟨94, _⟩ => ⟨S136, .i32⟩
  | .hbm, ⟨95, _⟩ => ⟨S136, .i32⟩
  | .hbm, ⟨96, _⟩ => ⟨S136, .i32⟩
  | .hbm, ⟨97, _⟩ => ⟨S136x1, .i32⟩
  | .hbm, ⟨98, _⟩ => ⟨S136x3584x1024, .f32⟩
  | .hbm, ⟨99, _⟩ => ⟨S136x512x1024, .f32⟩
  | .hbm, ⟨100, _⟩ => ⟨S1, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .i32⟩
  | .hbm, ⟨109, _⟩ => ⟨S_, .i32⟩
  | .hbm, ⟨110, _⟩ => ⟨S_, .i1⟩
  | .hbm, ⟨111, _⟩ => ⟨S_, .i1⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S136, .i32⟩
  | .hbm, ⟨116, _⟩ => ⟨S136, .i1⟩
  | .hbm, ⟨117, _⟩ => ⟨S136x1x1, .i1⟩
  | .hbm, ⟨118, _⟩ => ⟨S_, .f32⟩
  | .hbm, ⟨119, _⟩ => ⟨S_, .f32⟩
  | .hbm, ⟨120, _⟩ => ⟨S136x512x1024, .i1⟩
  | .hbm, ⟨121, _⟩ => ⟨S136x512x1024, .f32⟩
  | .hbm, ⟨122, _⟩ => ⟨S136x512x1024, .f32⟩
  | .hbm, ⟨123, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v7 : Ref sig .tc := ⟨.hbm, 37, rfl⟩
abbrev main_c_3 : Ref sig .tc := ⟨.hbm, 38, rfl⟩
abbrev main_v8 : Ref sig .tc := ⟨.hbm, 39, rfl⟩
abbrev main_v9 : Ref sig .tc := ⟨.hbm, 40, rfl⟩
abbrev main_call2_call0_c : Ref sig .tc := ⟨.hbm, 41, rfl⟩
abbrev main_call2_call0_v0 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_5 : Ref sig .tc := ⟨.hbm, 54, rfl⟩
abbrev main_v20 : Ref sig .tc := ⟨.hbm, 55, rfl⟩
abbrev main_c_6 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_7 : Ref sig .tc := ⟨.hbm, 60, rfl⟩
abbrev main_v24 : Ref sig .tc := ⟨.hbm, 61, rfl⟩
abbrev main_v25 : Ref sig .tc := ⟨.hbm, 62, rfl⟩
abbrev main_c_8 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_9 : Ref sig .tc := ⟨.hbm, 70, rfl⟩
abbrev main_v32 : Ref sig .tc := ⟨.hbm, 71, rfl⟩
abbrev main_v33 : Ref sig .tc := ⟨.hbm, 72, rfl⟩
abbrev main_c_10 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v40 : Ref sig .tc := ⟨.hbm, 88, rfl⟩
abbrev main_v41 : Ref sig .tc := ⟨.hbm, 89, rfl⟩
abbrev main_c_11 : Ref sig .tc := ⟨.hbm, 90, rfl⟩
abbrev main_v42 : Ref sig .tc := ⟨.hbm, 91, rfl⟩
abbrev main_v43 : Ref sig .tc := ⟨.hbm, 92, rfl⟩
abbrev main_c_12 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_c_13 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c : Ref sig .tc := ⟨.hbm, 109, rfl⟩
abbrev main_call4_v6 : Ref sig .tc := ⟨.hbm, 110, rfl⟩
abbrev main_call4_v7 : Ref sig .tc := ⟨.hbm, 111, rfl⟩
abbrev main_call4_c_0 : Ref sig .tc := ⟨.hbm, 112, rfl⟩
abbrev main_call4_v8 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_cst : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v56 : Ref sig .tc := ⟨.hbm, 122, rfl⟩
abbrev main_v57 : Ref sig .tc := ⟨.hbm, 123, rfl⟩

abbrev nD : Nat := 1
abbrev τ : Topo := Topo.v7x

variable {F : FTy → Type} [FloatOps F]
-- ==== Kernel4.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024 : Shape := ⟨1, ![1024]⟩
abbrev S1024x1024 : Shape := ⟨2, ![1024, 1024]⟩
abbrev S32768x256 : Shape := ⟨2, ![32768, 256]⟩
abbrev S32768x512 : Shape := ⟨2, ![32768, 512]⟩
abbrev S32768x1024 : Shape := ⟨2, ![32768, 1024]⟩
abbrev S1x1024 : Shape := ⟨2, ![1, 1024]⟩
abbrev S1024x256 : Shape := ⟨2, ![1024, 256]⟩
abbrev S1024x512 : Shape := ⟨2, ![1024, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S512x1024 : Shape := ⟨2, ![512, 1024]⟩
abbrev S256x1024 : Shape := ⟨2, ![256, 1024]⟩

abbrev nBuf : Space → Nat
  | .hbm => 16
  | .vmem => 15
  | .smem => 0
  | _ => 0

abbrev bufTy : (tb : Table) → Fin (tcTables nBuf tb) → BufTy
  | .hbm, ⟨0, _⟩ => ⟨S4x8192x256, .f32⟩
  | .hbm, ⟨1, _⟩ => ⟨S4x8192x512, .f32⟩
  | .hbm, ⟨2, _⟩ => ⟨S4x8192x256, .f32⟩
  | .hbm, ⟨3, _⟩ => ⟨S4x8192x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S32768x256, .f32⟩
  | .hbm, ⟨8, _⟩ => ⟨S32768x512, .f32⟩
  | .hbm, ⟨9, _⟩ => ⟨S32768x256, .f32⟩
  | .hbm, ⟨10, _⟩ => ⟨S32768x1024, .f32⟩
  | .hbm, ⟨11, _⟩ => ⟨S1x1024, .f32⟩
  | .hbm, ⟨12, _⟩ => ⟨S1024x1024, .bf16⟩
  | .hbm, ⟨13, _⟩ => ⟨S1x1024, .f32⟩
  | .hbm, ⟨14, _⟩ => ⟨S32768x1024, .f32⟩
  | .hbm, ⟨15, _⟩ => ⟨S32768x1024, .bf16⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024 : Shape := ⟨1, ![1024]⟩
abbrev S1024x1024 : Shape := ⟨2, ![1024, 1024]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S512 : Shape := ⟨1, ![512]⟩
abbrev S1x1x512 : Shape := ⟨3, ![1, 1, 512]⟩
abbrev S1x1x1024 : Shape := ⟨3, ![1, 1, 1024]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S4x8192x512, .f32⟩
  | .hbm, ⟨2, _⟩ => ⟨S4x8192x256, .f32⟩
  | .hbm, ⟨3, _⟩ => ⟨S4x8192x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S256, .f32⟩
  | .hbm, ⟨8, _⟩ => ⟨S4x8192x256, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S1x1x256, .f32⟩
  | .hbm, ⟨22, _⟩ => ⟨S4x8192x256, .f32⟩
  | .hbm, ⟨23, _⟩ => ⟨S4x8192x256, .f32⟩
  | .hbm, ⟨24, _⟩ => ⟨S512, .f32⟩
  | .hbm, ⟨25, _⟩ => ⟨S4x8192x512, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x512, .f32⟩
  | .hbm, ⟨37, _⟩ => ⟨S4x8192x512, .f32⟩
  | .hbm, ⟨38, _⟩ => ⟨S1x1x512, .f32⟩
  | .hbm, ⟨39, _⟩ => ⟨S4x8192x512, .f32⟩
  | .hbm, ⟨40, _⟩ => ⟨S4x8192x512, .f32⟩
  | .hbm, ⟨41, _⟩ => ⟨S256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x256, .f32⟩
  | .hbm, ⟨54, _⟩ => ⟨S4x8192x256, .f32⟩
  | .hbm, ⟨55, _⟩ => ⟨S1x1x256, .f32⟩
  | .hbm, ⟨56, _⟩ => ⟨S4x8192x256, .f32⟩
  | .hbm, ⟨57, _⟩ => ⟨S4x8192x256, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S4x8192x1, .f32⟩
  | .hbm, ⟨72, _⟩ => ⟨S4x8192x1024, .f32⟩
  | .hbm, ⟨73, _⟩ => ⟨S4x8192x1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | .hbm, ⟨77, _⟩ => ⟨S32768x1024, .f32⟩
  | .hbm, ⟨78, _⟩ => ⟨S32768x1024, .f32⟩
  | .hbm, ⟨79, _⟩ => ⟨S32768x1024, .bf16⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel5.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024 : Shape := ⟨1, ![1024]⟩
abbrev S1024x1024 : Shape := ⟨2, ![1024, 1024]⟩
abbrev S1024x8 : Shape := ⟨2, ![1024, 8]⟩
abbrev S1x1024 : Shape := ⟨2, ![1, 1024]⟩
abbrev S_ : Shape := ⟨0, ![]⟩
abbrev S1024x128 : Shape := ⟨2, ![1024, 128]⟩
abbrev S32768x256 : Shape := ⟨2, ![32768, 256]⟩
abbrev S32768x512 : Shape := ⟨2, ![32768, 512]⟩
abbrev S32768x1024 : Shape := ⟨2, ![32768, 1024]⟩
abbrev S32768x128 : Shape := ⟨2, ![32768, 128]⟩
abbrev S1024x256 : Shape := ⟨2, ![1024, 256]⟩
abbrev S1024x512 : Shape := ⟨2, ![1024, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S512x1024 : Shape := ⟨2, ![512, 1024]⟩
abbrev S256x1024 : Shape := ⟨2, ![256, 1024]⟩
abbrev S512x128 : Shape := ⟨2, ![512, 128]⟩

abbrev nBuf : Space → Nat
  | .hbm => 25
  | .vmem => 19
  | .smem => 0
  | _ => 0

abbrev bufTy : (tb : Table) → Fin (tcTables nBuf tb) → BufTy
  | .hbm, ⟨0, _⟩ => ⟨S4x8192x256, .f32⟩
  | .hbm, ⟨1, _⟩ => ⟨S4x8192x512, .f32⟩
  | .hbm, ⟨2, _⟩ => ⟨S4x8192x256, .f32⟩
  | .hbm, ⟨3, _⟩ => ⟨S4x8192x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S1x1024, .f32⟩
  | .hbm, ⟨9, _⟩ => ⟨S1024x1024, .bf16⟩
  | .hbm, ⟨10, _⟩ => ⟨S1x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S32768x256, .f32⟩
  | .hbm, ⟨19, _⟩ => ⟨S32768x512, .f32⟩
  | .hbm, ⟨20, _⟩ => ⟨S32768x256, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x128, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1024x128, .bf16⟩
  | .local _ .vmem, ⟨12, _⟩ => ⟨S1024x128, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x128, .f32⟩
  | .local _ .vmem, ⟨18, _⟩ => ⟨S1024x128, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S4x8192x256 : Shape := ⟨3, ![4, 8192, 256]⟩
abbrev S4x8192x512 : Shape := ⟨3, ![4, 8192, 512]⟩
abbrev S4x8192x1024 : Shape := ⟨3, ![4, 8192, 1024]⟩
abbrev S1024 : Shape := ⟨1, ![1024]⟩
abbrev S1024x1024 : Shape := ⟨2, ![1024, 1024]⟩
abbrev S1024x8 : Shape := ⟨2, ![1024, 8]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S512 : Shape := ⟨1, ![512]⟩
abbrev S1x1x512 : Shape := ⟨3, ![1, 1, 512]⟩
abbrev S1x1x1024 : Shape := ⟨3, ![1, 1, 1024]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x256, .f32⟩
  | .hbm, ⟨1, _⟩ => ⟨S4x8192x512, .f32⟩
  | .hbm, ⟨2, _⟩ => ⟨S4x8192x256, .f32⟩
  | .hbm, ⟨3, _⟩ => ⟨S4x8192x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S256, .f32⟩
  | .hbm, ⟨9, _⟩ => ⟨S4x8192x256, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S1x1x256, .f32⟩
  | .hbm, ⟨23, _⟩ => ⟨S4x8192x256, .f32⟩
  | .hbm, ⟨24, _⟩ => ⟨S4x8192x256, .f32⟩
  | .hbm, ⟨25, _⟩ => ⟨S512, .f32⟩
  | .hbm, ⟨26, _⟩ => ⟨S4x8192x512, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x512, .f32⟩
  | .hbm, ⟨38, _⟩ => ⟨S4x8192x512, .f32⟩
  | .hbm, ⟨39, _⟩ => ⟨S1x1x512, .f32⟩
  | .hbm, ⟨40, _⟩ => ⟨S4x8192x512, .f32⟩
  | .hbm, ⟨41, _⟩ => ⟨S4x8192x512, .f32⟩
  | .hbm, ⟨42, _⟩ => ⟨S256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x256, .f32⟩
  | .hbm, ⟨55, _⟩ => ⟨S4x8192x256, .f32⟩
  | .hbm, ⟨56, _⟩ => ⟨S1x1x256, .f32⟩
  | .hbm, ⟨57, _⟩ => ⟨S4x8192x256, .f32⟩
  | .hbm, ⟨58, _⟩ => ⟨S4x8192x256, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192x1, .f32⟩
  | .hbm, ⟨73, _⟩ => ⟨S4x8192x1024, .f32⟩
  | .hbm, ⟨74, _⟩ => ⟨S4x8192x1024, .f32⟩
  | .hbm, ⟨75, _⟩ => ⟨S1x1x1024, .f32⟩
  | .hbm, ⟨76, _⟩ => ⟨S4x8192x1024, .f32⟩
  | .hbm, ⟨77, _⟩ => ⟨S4x8192x1024, .f32⟩
  | .hbm, ⟨78, _⟩ => ⟨S32768x1024, .f32⟩
  | .hbm, ⟨79, _⟩ => ⟨S32768x1024, .f32⟩
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Proof.Keeps.lean ====
/- The kernel as it runs on words: what one run of its body needs and gives back. -/
module

public import proofs.«01_k».proof.Proof.Gen.Kernel.Frame.Runs

@[expose] public section

set_option maxRecDepth 16384

noncomputable section

namespace Cert.Mla.Machine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (F) in
/-- What the body does with its buffers: from the blocks of queries, keys and values and any contents of the others,
    it runs and gives the three blocks back as they were, and the others at some contents. -/
def Keeps (c : Dev nD) (i : grid0.Coords) : Prop :=
  ∀ (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole)
    (x0 : Vec F S1x256x256 .bf16) (x1 : Vec F S1x8192x256 .bf16) (x2 : Vec F S1x8192x128 .bf16)
    (E : Set ℕ) (K : PUnit → sProp 𝕄),
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_mla_attention i arg3 harg3 arg4 harg4 arg5 harg5 arg6 harg6 arg7 harg7 arg8 harg8 arg9 harg9 arg10 harg10 arg11 harg11) K

/-- The buffers as the run leaves them, named again. -/
theorem hand_back (c : Thread nD τ) (arg3 : Memref sig c.2.kind .vmem S1x256x256 .bf16) (harg3 : arg3.IsWhole) (arg4 : Memref sig c.2.kind .vmem S1x8192x256 .bf16) (harg4 : arg4.IsWhole) (arg5 : Memref sig c.2.kind .vmem S1x8192x128 .bf16) (harg5 : arg5.IsWhole) (arg6 : Memref sig c.2.kind .vmem S1x256x128 .f32) (arg7 : Memref sig c.2.kind .vmem S2x256x1024 .f32) (arg8 : Memref sig c.2.kind .vmem S2x256x1024 .f32) (arg9 : Memref sig c.2.kind .vmem S2x256x1 .f32) (arg10 : Memref sig c.2.kind .vmem S2x256x1 .f32) (arg11 : Memref sig c.2.kind .vmem S2x256x128 .f32)
    (x0 : Vec F S1x256x256 .bf16) (x1 : Vec F S1x8192x256 .bf16) (x2 : Vec F S1x8192x128 .bf16) :
    iprop((arg3.view.loc c ↦[arg3.view.set]{fullShare} harg3.unread x0) ∗ (arg4.view.loc c ↦[arg4.view.set]{fullShare} harg4.unread x1)
        ∗ (arg5.view.loc c ↦[arg5.view.set]{fullShare} harg5.unread x2)
        ∗ (∃ f, arg6.view.loc c ↦[arg6.view.set]{fullShare} f) ∗ (∃ f, arg7.view.loc c ↦[arg7.view.set]{fullShare} f) ∗ (∃ f, arg8.view.loc c ↦[arg8.view.set]{fullShare} f) ∗ (∃ f, arg9.view.loc c ↦[arg9.view.set]{fullShare} f) ∗ (∃ f, arg10.view.loc c ↦[arg10.view.set]{fullShare} f) ∗ (∃ f, arg11.view.loc c ↦[arg11.view.set]{fullShare} f))
      ⊢ (iprop(owns c arg3 fullShare x0 ∗ owns c arg4 fullShare x1 ∗ owns c arg5 fullShare x2 ∗ (∃ d, owns c arg6 fullShare d) ∗ (∃ d, owns c arg7 fullShare d) ∗ (∃ d, owns c arg8 fullShare d) ∗ (∃ d, owns c arg9 fullShare d) ∗ (∃ d, owns c arg10 fullShare d) ∗ (∃ d, owns c arg11 fullShare d)) : sProp 𝕄) := by
  unfold owns
  iintro ⟨H0, H1, H2, ⟨%f3, H3⟩, ⟨%f4, H4⟩, ⟨%f5, H5⟩, ⟨%f6, H6⟩, ⟨%f7, H7⟩, ⟨%f8, H8⟩⟩
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Cert.Mla.Machine

end
-- ==== Proof.KeepsEven.lean ====
/- The kernel as it runs on words, with an even number of full tiles. -/
module

public import proofs.«01_k».proof.Proof.Keeps

@[expose] public section

set_option maxRecDepth 16384

noncomputable section

namespace Cert.Mla.Machine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- An even number of full tiles and a last tile of 256 keys. -/
theorem keepsA (c : Dev nD) (i : grid0.Coords) (hc0 : ¬cond0_0 i) (hc5 : cond0_5 i) (hc6 : cond0_6 i) (hc7 : ¬cond0_7 i) (hc8 : ¬cond0_8 i) (hc9 : ¬cond0_9 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part22_eq_skeleton, k0_part23_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc5 | sl_exact hc6 | sl_exact hc7 | sl_exact hc8 | sl_exact hc9)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

set_option maxHeartbeats 1000000 in
/-- An even number of full tiles and a last tile of 512 keys. -/
theorem keepsB (c : Dev nD) (i : grid0.Coords) (hc0 : ¬cond0_0 i) (hc5 : cond0_5 i) (hc6 : ¬cond0_6 i) (hc7 : cond0_7 i) (hc8 : ¬cond0_8 i) (hc9 : ¬cond0_9 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part24_eq_skeleton, k0_part25_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc5 | sl_exact hc6 | sl_exact hc7 | sl_exact hc8 | sl_exact hc9)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

set_option maxHeartbeats 1000000 in
/-- An even number of full tiles and a last tile of 768 keys. -/
theorem keepsC (c : Dev nD) (i : grid0.Coords) (hc0 : ¬cond0_0 i) (hc5 : cond0_5 i) (hc6 : ¬cond0_6 i) (hc7 : ¬cond0_7 i) (hc8 : cond0_8 i) (hc9 : ¬cond0_9 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part26_eq_skeleton, k0_part27_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc5 | sl_exact hc6 | sl_exact hc7 | sl_exact hc8 | sl_exact hc9)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

set_option maxHeartbeats 1000000 in
/-- An even number of full tiles and a last tile of 1024 keys. -/
theorem keepsD (c : Dev nD) (i : grid0.Coords) (hc0 : ¬cond0_0 i) (hc5 : cond0_5 i) (hc6 : ¬cond0_6 i) (hc7 : ¬cond0_7 i) (hc8 : ¬cond0_8 i) (hc9 : cond0_9 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part28_eq_skeleton, k0_part29_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc5 | sl_exact hc6 | sl_exact hc7 | sl_exact hc8 | sl_exact hc9)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

end Cert.Mla.Machine

end
-- ==== Proof.KeepsOdd.lean ====
/- The kernel as it runs on words, with an odd number of full tiles. -/
module

public import proofs.«01_k».proof.Proof.KeepsEven

@[expose] public section

set_option maxRecDepth 16384

noncomputable section

namespace Cert.Mla.Machine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- An odd number of full tiles and a last tile of 256 keys. -/
theorem keepsE (c : Dev nD) (i : grid0.Coords) (hc0 : cond0_0 i) (hc1 : cond0_1 i) (hc2 : ¬cond0_2 i) (hc3 : ¬cond0_3 i) (hc4 : ¬cond0_4 i) (hc5 : ¬cond0_5 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part19_eq_skeleton, k0_part20_eq_skeleton, k0_part21_eq_skeleton, k0_part11_eq_skeleton, k0_part12_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc1 | sl_exact hc2 | sl_exact hc3 | sl_exact hc4 | sl_exact hc5)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

set_option maxHeartbeats 1000000 in
/-- An odd number of full tiles and a last tile of 512 keys. -/
theorem keepsF (c : Dev nD) (i : grid0.Coords) (hc0 : cond0_0 i) (hc1 : ¬cond0_1 i) (hc2 : cond0_2 i) (hc3 : ¬cond0_3 i) (hc4 : ¬cond0_4 i) (hc5 : ¬cond0_5 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part19_eq_skeleton, k0_part20_eq_skeleton, k0_part21_eq_skeleton, k0_part13_eq_skeleton, k0_part14_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc1 | sl_exact hc2 | sl_exact hc3 | sl_exact hc4 | sl_exact hc5)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

set_option maxHeartbeats 1000000 in
/-- An odd number of full tiles and a last tile of 768 keys. -/
theorem keepsG (c : Dev nD) (i : grid0.Coords) (hc0 : cond0_0 i) (hc1 : ¬cond0_1 i) (hc2 : ¬cond0_2 i) (hc3 : cond0_3 i) (hc4 : ¬cond0_4 i) (hc5 : ¬cond0_5 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part19_eq_skeleton, k0_part20_eq_skeleton, k0_part21_eq_skeleton, k0_part15_eq_skeleton, k0_part16_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc1 | sl_exact hc2 | sl_exact hc3 | sl_exact hc4 | sl_exact hc5)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

set_option maxHeartbeats 1000000 in
/-- An odd number of full tiles and a last tile of 1024 keys. -/
theorem keepsH (c : Dev nD) (i : grid0.Coords) (hc0 : cond0_0 i) (hc1 : ¬cond0_1 i) (hc2 : ¬cond0_2 i) (hc3 : ¬cond0_3 i) (hc4 : cond0_4 i) (hc5 : ¬cond0_5 i) : Keeps F c i := by
  intro arg3 harg3 arg4 harg4 arg5 harg5 arg6 harg6 arg7 harg7 arg8 harg8 arg9 harg9 arg10 harg10 arg11 harg11 x0 x1 x2 E K
  simp only [cc0_mla_attention_eq_skeleton]; unfold cc0_mla_attention_skel
  simp only [k0_part33_eq_skeleton, k0_part30_eq_skeleton, k0_part31_eq_skeleton, k0_part32_eq_skeleton, k0_part19_eq_skeleton, k0_part20_eq_skeleton, k0_part21_eq_skeleton, k0_part17_eq_skeleton, k0_part18_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg3.eq_unread hf0; obtain rfl := harg4.eq_unread hf1; obtain rfl := harg5.eq_unread hf2
  sl_exec (disch := first | sl_exact hc0 | sl_exact hc1 | sl_exact hc2 | sl_exact hc3 | sl_exact hc4 | sl_exact hc5)
  sl_step
  iapply Hk
  iapply hand_back (c : Thread nD τ) arg3 harg3 arg4 harg4 arg5 harg5 arg6 arg7 arg8 arg9 arg10 arg11 x0 x1 x2
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  isplitl [HS3]; · iexists _; iexact HS3
  iexists _; iexact HS4

end Cert.Mla.Machine

end
-- ==== Proof.WordFrame.lean ====
/- The frame of the kernel as it runs on words. Nothing reads what its body leaves in the result's buffer or in its
   scratch, so nothing is said of their contents. -/
module

public import proofs.«01_k».proof.Proof.KeepsOdd
public import Idealize.ShloMosaic.Lib.Claim

@[expose] public section

set_option maxRecDepth 16384

noncomputable section

namespace Cert.Mla.Machine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Of the four windows the result's is the one whose contents are left open. -/
def opened : Fin 4 → Bool := fun w => w.val == 3

/-- The data of the pipeline: an input's buffer holds its block after the body as before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it gives back. -/
def back (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- A body that keeps its blocks meets what the pipeline asks of it at a point. -/
theorem sound_of (c : Dev nD) (t : Fin cfg0.N) (run : Keeps F c (grid0.coords t)) :
    given m c t ⊢ wp frame (wpE (defs₀ (F := F)) Variants.none c none) Set.univ (bodyAt0 t) (fun _ => back m c t) := by
  unfold given back bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩⟩
  iapply (run _ _ _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  iexact H3

/-- The body at any point of the grid: of eight points in a row each meets another of the eight cases. -/
theorem keeps (c : Dev nD) (t : Fin cfg0.N) : Keeps F c (grid0.coords t) := by
  have hN : t.val < 256 := lt_of_lt_of_eq t.isLt (show cfg0.N = 256 from N_0)
  by_cases h0 : (t.val % 8 = 4 ∨ t.val % 8 = 5 ∨ t.val % 8 = 6 ∨ t.val % 8 = 7)
  · obtain h4 | h4 | h4 | h4 : t.val % 4 = 0 ∨ t.val % 4 = 1 ∨ t.val % 4 = 2 ∨ t.val % 4 = 3 := by omega
    · exact keepsE c _ ((hcond0_0 t).mpr h0) ((hcond0_1 t).mpr h4) (fun h => absurd ((hcond0_2 t).mp h) (by omega)) (fun h => absurd ((hcond0_3 t).mp h) (by omega)) (fun h => absurd ((hcond0_4 t).mp h) (by omega)) (fun h => absurd ((hcond0_5 t).mp h) (by omega))
    · exact keepsF c _ ((hcond0_0 t).mpr h0) (fun h => absurd ((hcond0_1 t).mp h) (by omega)) ((hcond0_2 t).mpr h4) (fun h => absurd ((hcond0_3 t).mp h) (by omega)) (fun h => absurd ((hcond0_4 t).mp h) (by omega)) (fun h => absurd ((hcond0_5 t).mp h) (by omega))
    · exact keepsG c _ ((hcond0_0 t).mpr h0) (fun h => absurd ((hcond0_1 t).mp h) (by omega)) (fun h => absurd ((hcond0_2 t).mp h) (by omega)) ((hcond0_3 t).mpr h4) (fun h => absurd ((hcond0_4 t).mp h) (by omega)) (fun h => absurd ((hcond0_5 t).mp h) (by omega))
    · exact keepsH c _ ((hcond0_0 t).mpr h0) (fun h => absurd ((hcond0_1 t).mp h) (by omega)) (fun h => absurd ((hcond0_2 t).mp h) (by omega)) (fun h => absurd ((hcond0_3 t).mp h) (by omega)) ((hcond0_4 t).mpr h4) (fun h => absurd ((hcond0_5 t).mp h) (by omega))
  · obtain h4 | h4 | h4 | h4 : t.val % 4 = 0 ∨ t.val % 4 = 1 ∨ t.val % 4 = 2 ∨ t.val % 4 = 3 := by omega
    · exact keepsA c _ (fun h => h0 ((hcond0_0 t).mp h)) ((hcond0_5 t).mpr (by omega)) ((hcond0_6 t).mpr h4) (fun h => absurd ((hcond0_7 t).mp h) (by omega)) (fun h => absurd ((hcond0_8 t).mp h) (by omega)) (fun h => absurd ((hcond0_9 t).mp h) (by omega))
    · exact keepsB c _ (fun h => h0 ((hcond0_0 t).mp h)) ((hcond0_5 t).mpr (by omega)) (fun h => absurd ((hcond0_6 t).mp h) (by omega)) ((hcond0_7 t).mpr h4) (fun h => absurd ((hcond0_8 t).mp h) (by omega)) (fun h => absurd ((hcond0_9 t).mp h) (by omega))
    · exact keepsC c _ (fun h => h0 ((hcond0_0 t).mp h)) ((hcond0_5 t).mpr (by omega)) (fun h => absurd ((hcond0_6 t).mp h) (by omega)) (fun h => absurd ((hcond0_7 t).mp h) (by omega)) ((hcond0_8 t).mpr h4) (fun h => absurd ((hcond0_9 t).mp h) (by omega))
    · exact keepsD c _ (fun h => h0 ((hcond0_0 t).mp h)) ((hcond0_5 t).mpr (by omega)) (fun h => absurd ((hcond0_6 t).mp h) (by omega)) (fun h => absurd ((hcond0_7 t).mp h) (by omega)) (fun h => absurd ((hcond0_8 t).mp h) (by omega)) ((hcond0_9 t).mpr h4)

/-- The table's row of the body is the body. -/
theorem defs₀_row (t : Fin cfg0.N) :
    defs₀ (F := F) .tc cfg0.body (cfg0.bodyArgs t (cfg0.slots t)) = bodyAt0 t := by
  unfold defs₀; rw [Defs.onTc_tc]

/-- What the launch asks of the body, at every point. -/
theorem body_obligation (c : Dev nD) : BodyObligation (dats (F := F) m 0 c) (defs₀ (F := F)) Variants.none () Set.univ opened := fun t => by
  rw [bigSep_W0, bigSep_W0, defs₀_row]
  exact triple_restated (sound_of m c t (keeps c t)) rfl .rfl fun _ => .rfl

set_option backward.isDefEq.respectTransparency.types false in
/-- The launch: every run ends, with the arrays of the inputs and the other buffers as the call found them, and every
    counter at zero. -/
theorem run_quiescent : θ_run defs (onTc (τ := τ) (main (F := F))) (s₀ m ρ) (fun r => (Pipeline.RDat.FramePost (cfgs 0) (fun c => (dats m 0 c).toRForget opened) (V m)) r ∧ r.2.sem = fun _ => 0) :=
  Pipeline.θ_run_frame_forget (Q' := _) cfgs (dats m) (0 : Fin 1) launch0 defs₀ Variants.none opened m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run ends, with the arguments unchanged and every counter at zero. -/
theorem frame_words : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).2 main_arg0 (Pipeline.mem_restRefs_of main_arg0 (by decide) (by decide)) |>.trans (V_main_arg0 m c),
      (h.1 c).2 main_arg1 (Pipeline.mem_restRefs_of main_arg1 (by decide) (by decide)) |>.trans (V_main_arg1 m c),
      (h.1 c).2 main_arg2 (Pipeline.mem_restRefs_of main_arg2 (by decide) (by decide)) |>.trans (V_main_arg2 m c)⟩, h.2⟩) (run_quiescent m ρ)

end Cert.Mla.Machine

end
-- ==== Proof.Softmax.lean ====
/- The mathematics of a softmax taken tile by tile, on extended reals.

   A row of scores `s 0, s 1, …` (each a real number, or `⊥` where the mask removes the key) and a row of values
   `v 0, v 1, …` (arbitrary extended reals) are read a tile at a time. After `n` keys the three numbers kept are
   the greatest score so far (`top s n`), the sum of `2 ^ (s j - top)` (`den s n`) and the sum of those weights
   times the values (`num s v n`). This module states how one tile takes the three numbers from `n` keys to
   `n + w` keys, and that the quotient at the end is the softmax written in the natural exponential. -/
module

public import Idealize.ShloMosaic.PureOps.Ideal
public import Idealize.ShloMosaic.PureOps.Ideal.Laws

@[expose] public section

noncomputable section

namespace Cert.Mla

open Idealize.ShloMosaic

/-- The greatest of the first `n` scores (`⊥` for none). -/
def top (s : ℕ → EReal) (n : ℕ) : EReal := (Finset.range n).sup s

/-- The weight of a score against a running maximum. -/
def wt (s m : EReal) : EReal := Ideal.exp2 (s - m)

/-- The sum of the first `n` weights. -/
def den (s : ℕ → EReal) (n : ℕ) : EReal := ∑ j ∈ Finset.range n, wt (s j) (top s n)

/-- The sum of the first `n` weights, each times its value. -/
def num (s v : ℕ → EReal) (n : ℕ) : EReal := ∑ j ∈ Finset.range n, wt (s j) (top s n) * v j

/-- A sum over a product by a nonnegative extended real other than `⊤`. -/
theorem mul_sum_of_nonneg {ι : Type} (A : Finset ι) (c : EReal) (h0 : 0 ≤ c) (ht : c ≠ ⊤) (f : ι → EReal) :
    c * ∑ j ∈ A, f j = ∑ j ∈ A, c * f j := by
  classical
  induction A using Finset.induction_on with
  | empty => simp
  | insert a A ha ih => rw [Finset.sum_insert ha, Finset.sum_insert ha, EReal.left_distrib_of_nonneg_of_ne_top h0 ht, ih]

/-- `2 ^ x` is not negative. -/
theorem exp2_nonneg (x : EReal) : 0 ≤ Ideal.exp2 x := by
  induction x using EReal.rec with
  | bot => simp
  | top => simp
  | coe r => rw [Ideal.exp2_coe]; exact EReal.coe_nonneg.mpr (Real.rpow_nonneg (by norm_num) _)

/-- `2 ^ x` is `⊤` at `⊤` only. -/
theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

/-- A score below `⊤` minus a real number is below `⊤`. -/
theorem sub_coe_ne_top {x : EReal} (h : x ≠ ⊤) (m : ℝ) : x - (m : EReal) ≠ ⊤ := by
  induction x using EReal.rec with
  | bot => simp
  | top => exact absurd rfl h
  | coe r => rw [← EReal.coe_sub]; exact EReal.coe_ne_top _

/-- A weight is not negative. -/
theorem wt_nonneg (s m : EReal) : 0 ≤ wt s m := exp2_nonneg _

/-- A weight against a real maximum is not `⊤`. -/
theorem wt_ne_top {s : EReal} (h : s ≠ ⊤) (m : ℝ) : wt s m ≠ ⊤ := exp2_ne_top (sub_coe_ne_top h m)

/-- A weight against one real number, carried over to another. -/
theorem wt_mul_wt {s : EReal} (h : s ≠ ⊤) (m M : ℝ) : wt (m : EReal) M * wt s m = wt s M := by
  unfold wt
  induction s using EReal.rec with
  | bot => simp
  | top => exact absurd rfl h
  | coe r =>
    rw [← EReal.coe_sub, ← EReal.coe_sub, ← EReal.coe_sub, Ideal.exp2_coe, Ideal.exp2_coe, Ideal.exp2_coe, ← EReal.coe_mul]
    congr 1
    show (2 : ℝ) ^ (m - M) * (2 : ℝ) ^ (r - m) = (2 : ℝ) ^ (r - M)
    rw [← Real.rpow_add (by norm_num)]
    congr 1; ring

/-- The maximum of the first `n + w` scores from that of the first `n` and that of the tile. -/
theorem top_add (s : ℕ → EReal) (n w : ℕ) :
    top s (n + w) = max (top s n) ((Finset.range w).sup fun j => s (n + j)) := by
  unfold top
  apply le_antisymm
  · refine Finset.sup_le fun j hj => ?_
    rw [Finset.mem_range] at hj
    by_cases h : j < n
    · exact le_max_of_le_left (Finset.le_sup (f := s) (Finset.mem_range.mpr h))
    · refine le_max_of_le_right ?_
      have := Finset.le_sup (f := fun j => s (n + j)) (Finset.mem_range.mpr (show j - n < w by omega))
      simpa [show n + (j - n) = j by omega] using this
  · refine max_le (Finset.sup_le fun j hj => ?_) (Finset.sup_le fun j hj => ?_)
    · exact Finset.le_sup (f := s) (Finset.mem_range.mpr (by have := Finset.mem_range.mp hj; omega))
    · exact Finset.le_sup (f := s) (Finset.mem_range.mpr (by have := Finset.mem_range.mp hj; omega))

/-- Where the first score is a real number and none is `⊤`, the maximum of one or more is a real number. -/
theorem exists_top (s : ℕ → EReal) (n : ℕ) (hn : 0 < n) (h0 : s 0 ≠ ⊥) (hs : ∀ j, s j ≠ ⊤) : ∃ m : ℝ, top s n = m := by
  have hb : top s n ≠ ⊥ := fun h => h0 (le_bot_iff.mp (h ▸ Finset.le_sup (f := s) (Finset.mem_range.mpr hn)))
  have ht : top s n ≠ ⊤ := by
    unfold top
    intro h
    have := (Finset.sup_lt_iff (f := s) (s := Finset.range n) (a := ⊤) bot_lt_top).mpr fun j _ => lt_top_iff_ne_top.mpr (hs j)
    exact absurd h this.ne
  exact ⟨(top s n).toReal, (EReal.coe_toReal ht hb).symm⟩

/-- ONE TILE, THE DENOMINATOR: the sum of weights after `n + w` keys from the sum after `n`. -/
theorem den_add (s : ℕ → EReal) (n w : ℕ) (hw : 0 < w) (h0 : s 0 ≠ ⊥) (hs : ∀ j, s j ≠ ⊤) :
    den s (n + w) = wt (top s n) (top s (n + w)) * den s n + ∑ j ∈ Finset.range w, wt (s (n + j)) (top s (n + w)) := by
  obtain ⟨M, hM⟩ := exists_top s (n + w) (by omega) h0 hs
  unfold den
  rw [Finset.sum_range_add, hM]
  congr 1
  rcases Nat.eq_zero_or_pos n with rfl | hn
  · simp
  · obtain ⟨m, hm⟩ := exists_top s n hn h0 hs
    rw [hm, mul_sum_of_nonneg _ _ (wt_nonneg _ _) (wt_ne_top (EReal.coe_ne_top m) M)]
    exact Finset.sum_congr rfl fun j _ => (wt_mul_wt (hs j) m M).symm

/-- ONE TILE, THE NUMERATOR: the weighted sum of the values after `n + w` keys from that after `n`. -/
theorem num_add (s v : ℕ → EReal) (n w : ℕ) (hw : 0 < w) (h0 : s 0 ≠ ⊥) (hs : ∀ j, s j ≠ ⊤) :
    num s v (n + w) = wt (top s n) (top s (n + w)) * num s v n + ∑ j ∈ Finset.range w, wt (s (n + j)) (top s (n + w)) * v (n + j) := by
  obtain ⟨M, hM⟩ := exists_top s (n + w) (by omega) h0 hs
  unfold num
  rw [Finset.sum_range_add, hM]
  congr 1
  rcases Nat.eq_zero_or_pos n with rfl | hn
  · simp
  · obtain ⟨m, hm⟩ := exists_top s n hn h0 hs
    rw [hm, mul_sum_of_nonneg _ _ (wt_nonneg _ _) (wt_ne_top (EReal.coe_ne_top m) M)]
    exact Finset.sum_congr rfl fun j _ => by rw [← mul_assoc, wt_mul_wt (hs j) m M]

/-- Before any key: the three numbers the state starts from. -/
theorem top_zero (s : ℕ → EReal) : top s 0 = ⊥ := by simp [top]
theorem den_zero (s : ℕ → EReal) : den s 0 = 0 := by simp [den]
theorem num_zero (s v : ℕ → EReal) : num s v 0 = 0 := by simp [num]

/-- A masked key weighs nothing. -/
theorem wt_bot (m : ℝ) : wt ⊥ (m : EReal) = 0 := by simp [wt]

/-- The maximum does not see masked keys past `n`. -/
theorem top_of_masked (s : ℕ → EReal) (n N : ℕ) (hN : n ≤ N) (h : ∀ j, n ≤ j → s j = ⊥) : top s N = top s n := by
  obtain ⟨w, rfl⟩ := Nat.exists_eq_add_of_le hN
  rw [top_add]
  have : ((Finset.range w).sup fun j => s (n + j)) = ⊥ := by
    rw [Finset.sup_eq_bot_iff]; exact fun j _ => h _ (by omega)
  rw [this, max_eq_left bot_le]

/-- The exponential in base 2 of a score in units of `log 2` is the natural exponential. -/
theorem exp2_div_log_two (x : EReal) : Ideal.exp2 (x * (((Real.log 2)⁻¹ : ℝ) : EReal)) = Ideal.exp x := by
  have hl : 0 < Real.log 2 := Real.log_pos (by norm_num)
  induction x using EReal.rec with
  | bot => rw [EReal.bot_mul_coe_of_pos (inv_pos.mpr hl)]; rfl
  | top => rw [EReal.top_mul_coe_of_pos (inv_pos.mpr hl)]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1; field_simp

/-- Scores in units of `log 2` have the maximum in units of `log 2`. -/
theorem top_scale (x : ℕ → EReal) (n : ℕ) (c : ℝ) (hc : 0 < c) :
    top (fun j => x j * (c : EReal)) n = top x n * (c : EReal) := by
  unfold top
  have hm : Monotone fun y : EReal => y * (c : EReal) := fun a b h =>
    mul_le_mul_of_nonneg_right h (EReal.coe_nonneg.mpr hc.le)
  induction n with
  | zero => simp [EReal.bot_mul_coe_of_pos hc]
  | succ n ih =>
    rw [Finset.range_add_one, Finset.sup_insert, Finset.sup_insert, ih]
    exact (hm.map_sup _ _).symm

/-- The softmax in the natural exponential: the weight of a score against the maximum of the row. -/
def soft (x : ℕ → EReal) (N j : ℕ) : EReal :=
  Ideal.div (Ideal.exp (x j - top x N)) (∑ k ∈ Finset.range N, Ideal.exp (x k - top x N))

/-- A sum of real numbers, read as extended reals. -/
theorem coe_sum {ι : Type} (A : Finset ι) (f : ι → ℝ) : ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- THE QUOTIENT AT THE END. Scores `x` (natural units, real or `⊥`, the first one real, masked from key `n` on), kept by
    the tiles in units of `log 2`: the weighted sum over the sum of the weights after `n` keys is the softmax over all `N`
    keys applied to the values. -/
theorem num_div_den (x v : ℕ → EReal) (n N : ℕ) (hn : 0 < n) (hN : n ≤ N) (h0 : x 0 ≠ ⊥) (hs : ∀ j, x j ≠ ⊤)
    (hmask : ∀ j, n ≤ j → x j = ⊥) :
    Ideal.div (num (fun j => x j * (((Real.log 2)⁻¹ : ℝ) : EReal)) v n) (den (fun j => x j * (((Real.log 2)⁻¹ : ℝ) : EReal)) n)
      = ∑ j ∈ Finset.range N, v j * soft x N j := by
  have hl : 0 < (Real.log 2)⁻¹ := inv_pos.mpr (Real.log_pos (by norm_num))
  obtain ⟨m, hm⟩ := exists_top x n hn h0 hs
  have hM : top x N = m := (top_of_masked x n N hN hmask).trans hm
  have hw : ∀ j, wt (x j * (((Real.log 2)⁻¹ : ℝ) : EReal)) (top (fun j => x j * (((Real.log 2)⁻¹ : ℝ) : EReal)) n) = Ideal.exp (x j - m) := by
    intro j
    rw [top_scale x n _ hl, hm]
    unfold wt
    rw [← exp2_div_log_two]
    congr 1
    have hj := hs j
    generalize x j = y at hj
    induction y using EReal.rec with
    | bot => rw [EReal.bot_sub, EReal.bot_mul_coe_of_pos hl, EReal.bot_sub]
    | top => exact absurd rfl hj
    | coe r => rw [← EReal.coe_sub, ← EReal.coe_mul, ← EReal.coe_mul, ← EReal.coe_mul, ← EReal.coe_sub]; congr 1; ring
  have hmz : ∀ j, n ≤ j → Ideal.exp (x j - m) = 0 := fun j hj => by rw [hmask j hj, EReal.bot_sub]; rfl
  have hreal : ∀ j, ∃ r : ℝ, 0 ≤ r ∧ Ideal.exp (x j - m) = r := by
    intro j
    have hj := hs j
    generalize x j = y at hj
    induction y using EReal.rec with
    | bot => exact ⟨0, le_rfl, by rw [EReal.bot_sub]; rfl⟩
    | top => exact absurd rfl hj
    | coe r => exact ⟨_, (Real.exp_pos _).le, by rw [← EReal.coe_sub, Ideal.exp_coe]⟩
  choose e he0 he using hreal
  have hden : den (fun j => x j * (((Real.log 2)⁻¹ : ℝ) : EReal)) n = ((∑ j ∈ Finset.range n, e j : ℝ) : EReal) := by
    unfold den
    rw [coe_sum]
    exact Finset.sum_congr rfl fun j _ => by rw [hw, he]
  have hez : ∀ j, n ≤ j → e j = 0 := fun j hj => by
    have := (he j).symm.trans (hmz j hj)
    exact_mod_cast this
  have hdenN : (∑ k ∈ Finset.range N, Ideal.exp (x k - top x N)) = ((∑ j ∈ Finset.range n, e j : ℝ) : EReal) := by
    obtain ⟨w, rfl⟩ := Nat.exists_eq_add_of_le hN
    rw [hM, Finset.sum_range_add, coe_sum, Finset.sum_congr rfl fun j _ => he j]
    rw [Finset.sum_eq_zero (s := Finset.range w) fun j _ => hmz _ (by omega), add_zero]
  have hpos : 0 < ∑ j ∈ Finset.range n, e j := by
    refine Finset.sum_pos' (fun j _ => he0 j) ⟨0, Finset.mem_range.mpr hn, ?_⟩
    have h1 := he 0
    have hj := hs 0
    generalize x 0 = y at h1 h0 hj
    induction y using EReal.rec with
    | bot => exact absurd rfl h0
    | top => exact absurd rfl hj
    | coe r =>
      rw [← EReal.coe_sub, Ideal.exp_coe] at h1
      rw [← EReal.coe_injective h1]; exact Real.exp_pos _
  set Z := ∑ j ∈ Finset.range n, e j with hZ
  have hsoft : ∀ j, soft x N j = (e j * (1 / Z) : ℝ) := fun j => by
    unfold soft
    rw [hdenN, Ideal.div_coe hpos.ne', hM, he, ← EReal.coe_mul]
  have hsum : ∑ j ∈ Finset.range N, v j * soft x N j = ∑ j ∈ Finset.range n, v j * soft x N j := by
    obtain ⟨w, rfl⟩ := Nat.exists_eq_add_of_le hN
    rw [Finset.sum_range_add, Finset.sum_eq_zero (s := Finset.range w), add_zero]
    intro j _
    rw [hsoft, hez _ (by omega)]; simp
  rw [hsum, hden, Ideal.div_coe hpos.ne', mul_comm]
  unfold num
  rw [mul_sum_of_nonneg _ _ (EReal.coe_nonneg.mpr (by positivity)) (EReal.coe_ne_top _)]
  refine Finset.sum_congr rfl fun j _ => ?_
  rw [hw, he, hsoft, ← mul_assoc, ← EReal.coe_mul, mul_comm (v j)]
  congr 2; ring

end Cert.Mla

end
-- ==== Proof.Ops.lean ====
/- The kernel's vector operations, read at an index.

   Every lemma takes one operation as the kernel applies it to a row tile of `W` keys and says what number it holds at
   row `r` and column `c`: a reduction along a row is a supremum or a sum, a product of matrices is a sum of products,
   and a change of shape or a broadcast reads its operand elsewhere. -/
module

public import proofs.«01_k».proof.Proof.Gen.KernelIdeal.Skeleton
public import Idealize.ShloMosaic.Lib.Pointwise
public import Idealize.ShloMosaic.PureOps.Ideal
public import Idealize.ShloMosaic.PureOps.Ideal.Laws

@[expose] public section

noncomputable section

namespace Cert.Mla

open Idealize.ShloMosaic Cert.KernelIdeal Cert.KernelIdeal.Gen

variable {α : Type}

/-- A fold of `max` from `⊥` is the supremum. -/
theorem fold_max_bot {n : ℕ} (f : Fin n → EReal) :
    (Finset.univ : Finset (Fin n)).fold max ⊥ f = Finset.univ.sup f := rfl

/-- The bit pattern a maximum starts from is `⊥`. -/
theorem ofBits_bot : Ideal.ofBits .f32 0xFF800000#32 = ⊥ := by simp [Ideal.ofBits, Ideal.ieee]

/-- The greatest of a row. -/
theorem rowMax_apply {W : ℕ} (v : FVec Ideal ⟨2, ![256, W]⟩ .f32) (h : (⟨2, ![256, W]⟩ : Shape).Reduces [1] S256)
    (h1 h2) (r : Fin 256) :
    multiReduction .maximumf [1] S256 v 0xFF800000#32 h h1 h2 (ix1 r) = Finset.univ.sup fun c : Fin W => v (ix2 r c) := by
  rw [← fold_max_bot]
  pointwise
  rw [ofBits_bot]

/-- The sum of a row. -/
theorem rowSum_apply {W : ℕ} (v : FVec Ideal ⟨2, ![256, W]⟩ .f32) (h : (⟨2, ![256, W]⟩ : Shape).Reduces [1] S256)
    (h1 h2) (r : Fin 256) :
    multiReduction .add [1] S256 v 0x00000000#32 h h1 h2 (ix1 r) = ∑ c : Fin W, v (ix2 r c) := by
  pointwise

/-- The greatest of a row of 1024. -/
theorem rowMax1024 (v : FVec Ideal S256x1024 .f32) (ax : List (Fin 2)) (hax : ax = [1])
    (h : S256x1024.Reduces ax S256) (h1 : FTy.f32 = FTy.f32 ∨ FTy.f32 = FTy.bf16)
    (h2 : (0xFF800000#32 : BitVec FTy.f32.bits) = 0xFF800000#32) (r : Fin 256) :
    multiReduction .maximumf ax S256 v 0xFF800000#32 h h1 h2 (ix1 r) = Finset.univ.sup fun c : Fin 1024 => v (ix2 r c) := by
  subst hax
  exact rowMax_apply v h h1 h2 r

/-- The sum of a row of 1024. -/
theorem rowSum1024 (v : FVec Ideal S256x1024 .f32) (ax : List (Fin 2)) (hax : ax = [1])
    (h : S256x1024.Reduces ax S256) (h1 : FTy.f32 = FTy.f32 ∨ FTy.f32 = FTy.bf16)
    (h2 : (0x00000000#32 : BitVec FTy.f32.bits) = 0x00000000#32) (r : Fin 256) :
    multiReduction .add ax S256 v 0x00000000#32 h h1 h2 (ix1 r) = ∑ c : Fin 1024, v (ix2 r c) := by
  subst hax
  exact rowSum_apply v h h1 h2 r

/-- The greatest of a row of 768. -/
theorem rowMax768 (v : FVec Ideal S256x768 .f32) (ax : List (Fin 2)) (hax : ax = [1])
    (h : S256x768.Reduces ax S256) (h1 : FTy.f32 = FTy.f32 ∨ FTy.f32 = FTy.bf16)
    (h2 : (0xFF800000#32 : BitVec FTy.f32.bits) = 0xFF800000#32) (r : Fin 256) :
    multiReduction .maximumf ax S256 v 0xFF800000#32 h h1 h2 (ix1 r) = Finset.univ.sup fun c : Fin 768 => v (ix2 r c) := by
  subst hax
  exact rowMax_apply v h h1 h2 r

/-- The sum of a row of 768. -/
theorem rowSum768 (v : FVec Ideal S256x768 .f32) (ax : List (Fin 2)) (hax : ax = [1])
    (h : S256x768.Reduces ax S256) (h1 : FTy.f32 = FTy.f32 ∨ FTy.f32 = FTy.bf16)
    (h2 : (0x00000000#32 : BitVec FTy.f32.bits) = 0x00000000#32) (r : Fin 256) :
    multiReduction .add ax S256 v 0x00000000#32 h h1 h2 (ix1 r) = ∑ c : Fin 768, v (ix2 r c) := by
  subst hax
  exact rowSum_apply v h h1 h2 r

/-- The greatest of a row of 512. -/
theorem rowMax512 (v : FVec Ideal S256x512 .f32) (ax : List (Fin 2)) (hax : ax = [1])
    (h : S256x512.Reduces ax S256) (h1 : FTy.f32 = FTy.f32 ∨ FTy.f32 = FTy.bf16)
    (h2 : (0xFF800000#32 : BitVec FTy.f32.bits) = 0xFF800000#32) (r : Fin 256) :
    multiReduction .maximumf ax S256 v 0xFF800000#32 h h1 h2 (ix1 r) = Finset.univ.sup fun c : Fin 512 => v (ix2 r c) := by
  subst hax
  exact rowMax_apply v h h1 h2 r

/-- The sum of a row of 512. -/
theorem rowSum512 (v : FVec Ideal S256x512 .f32) (ax : List (Fin 2)) (hax : ax = [1])
    (h : S256x512.Reduces ax S256) (h1 : FTy.f32 = FTy.f32 ∨ FTy.f32 = FTy.bf16)
    (h2 : (0x00000000#32 : BitVec FTy.f32.bits) = 0x00000000#32) (r : Fin 256) :
    multiReduction .add ax S256 v 0x00000000#32 h h1 h2 (ix1 r) = ∑ c : Fin 512, v (ix2 r c) := by
  subst hax
  exact rowSum_apply v h h1 h2 r

/-- The greatest of a row of 256. -/
theorem rowMax256 (v : FVec Ideal S256x256 .f32) (ax : List (Fin 2)) (hax : ax = [1])
    (h : S256x256.Reduces ax S256) (h1 : FTy.f32 = FTy.f32 ∨ FTy.f32 = FTy.bf16)
    (h2 : (0xFF800000#32 : BitVec FTy.f32.bits) = 0xFF800000#32) (r : Fin 256) :
    multiReduction .maximumf ax S256 v 0xFF800000#32 h h1 h2 (ix1 r) = Finset.univ.sup fun c : Fin 256 => v (ix2 r c) := by
  subst hax
  exact rowMax_apply v h h1 h2 r

/-- The sum of a row of 256. -/
theorem rowSum256 (v : FVec Ideal S256x256 .f32) (ax : List (Fin 2)) (hax : ax = [1])
    (h : S256x256.Reduces ax S256) (h1 : FTy.f32 = FTy.f32 ∨ FTy.f32 = FTy.bf16)
    (h2 : (0x00000000#32 : BitVec FTy.f32.bits) = 0x00000000#32) (r : Fin 256) :
    multiReduction .add ax S256 v 0x00000000#32 h h1 h2 (ix1 r) = ∑ c : Fin 256, v (ix2 r c) := by
  subst hax
  exact rowSum_apply v h h1 h2 r

/-- A column of 256 numbers kept as a 256 × 1 array. -/
theorem col_apply (v : S256.Idx → α) (h : S256.ShapeCasts S256x1) (r : Fin 256) (z : Fin 1) :
    shapeCast S256x1 v h (ix2 r z) = v (ix1 r) := by
  pointwise

/-- A column read along a row tile. -/
theorem spread_apply {W : ℕ} (v : S256x1.Idx → α) (h : S256x1.Broadcasts ⟨2, ![256, W]⟩) (r : Fin 256) (c : Fin W) :
    broadcastTo ⟨2, ![256, W]⟩ v h (ix2 r c) = v (ix2 r 0) := by
  pointwise

/-- A block of 1 × R × W read as R × W. -/
theorem flat_apply {R W : ℕ} (v : (⟨3, ![1, R, W]⟩ : Shape).Idx → α) (h : (⟨3, ![1, R, W]⟩ : Shape).ShapeCasts ⟨2, ![R, W]⟩)
    (r : Fin R) (c : Fin W) : shapeCast ⟨2, ![R, W]⟩ v h (ix2 r c) = v (ix3 0 r c) :=
  congrArg v (Shape.reshapeEquiv_eq_of_vals h (ix2 r c) (ix3 0 r c) _ _ (rowMajor_val3 _ (R * W) W rfl rfl)
    (rowMajor_val2 _ W rfl) (by simp))

/-- A block of R × W read as 1 × R × W. -/
theorem unflat_apply {R W : ℕ} (v : (⟨2, ![R, W]⟩ : Shape).Idx → α) (h : (⟨2, ![R, W]⟩ : Shape).ShapeCasts ⟨3, ![1, R, W]⟩)
    (z : Fin 1) (r : Fin R) (c : Fin W) : shapeCast ⟨3, ![1, R, W]⟩ v h (ix3 z r c) = v (ix2 r c) :=
  congrArg v (Shape.reshapeEquiv_eq_of_vals h (ix3 z r c) (ix2 r c) _ _ (rowMajor_val2 _ W rfl)
    (rowMajor_val3 _ (R * W) W rfl rfl) (by have := z.isLt; simp))

/-- Columns `o` to `o + 127` of a block. -/
theorem cols_apply {R o : ℕ} (ho : o + 128 ≤ 256) (v : (⟨2, ![R, 256]⟩ : Shape).Idx → α)
    (h : (⟨2, ![R, 256]⟩ : Shape).Slices ![0, o] ⟨2, ![R, 128]⟩) (r : Fin R) (c : Fin 128) :
    extractStridedSlice ⟨2, ![R, 128]⟩ ![0, o] v h (ix2 r c) = v (ix2 r ⟨o + c.val, by omega⟩) := by
  pointwise
  simp [Shape.Idx.norm]
  refine congrArg v (funext fun a => ?_)
  match a with
  | ⟨0, _⟩ => simp [Fin.ext_iff]
  | ⟨1, _⟩ => rfl

/-- Columns 0 to 127 of a block of 1024 keys. -/
theorem cols0 (v : S1024x256.Idx → α) (h) (r : Fin 1024) (c : Fin 128) :
    extractStridedSlice S1024x128 ![0, 0] v h (ix2 r c) = v (ix2 r ⟨0 + c.val, by have := c.isLt; omega⟩) :=
  cols_apply (by decide) v h r c

/-- Columns 128 to 255 of a block of 1024 keys. -/
theorem cols128 (v : S1024x256.Idx → α) (h) (r : Fin 1024) (c : Fin 128) :
    extractStridedSlice S1024x128 ![0, 128] v h (ix2 r c) = v (ix2 r ⟨128 + c.val, by have := c.isLt; omega⟩) :=
  cols_apply (by decide) v h r c

/-- The scores of a tile of keys: queries by keys, over the 128 coordinates of a head. -/
theorem scores_apply (q : FVec Ideal S256x128 .bf16) (k : FVec Ideal S1024x128 .bf16) (r : Fin 256) (c : Fin 1024) :
    matmul dot_S256x128_S1024x128_S256x1024_1_1_0_0_n_n none q k (constant S256x1024 .f32 0x00000000#32) (ix2 r c)
      = ∑ x : Fin 128, q (ix2 r x) * k (ix2 c x) := by
  pointwise

/-- Weights of 1024 keys by their values. -/
theorem mix1024_apply (p : FVec Ideal S256x1024 .bf16) (v : FVec Ideal S1024x128 .bf16) (r : Fin 256) (c : Fin 128) :
    matmul dot_S256x1024_S1024x128_S256x128_1_0_0_1_n_n none p v (constant S256x128 .f32 0x00000000#32) (ix2 r c)
      = ∑ x : Fin 1024, p (ix2 r x) * v (ix2 x c) := by
  pointwise

/-- Weights of 768 keys by their values. -/
theorem mix768_apply (p : FVec Ideal S256x768 .bf16) (v : FVec Ideal S768x128 .bf16) (r : Fin 256) (c : Fin 128) :
    matmul dot_S256x768_S768x128_S256x128_1_0_0_1_n_n none p v (constant S256x128 .f32 0x00000000#32) (ix2 r c)
      = ∑ x : Fin 768, p (ix2 r x) * v (ix2 x c) := by
  pointwise

/-- Weights of 512 keys by their values. -/
theorem mix512_apply (p : FVec Ideal S256x512 .bf16) (v : FVec Ideal S512x128 .bf16) (r : Fin 256) (c : Fin 128) :
    matmul dot_S256x512_S512x128_S256x128_1_0_0_1_n_n none p v (constant S256x128 .f32 0x00000000#32) (ix2 r c)
      = ∑ x : Fin 512, p (ix2 r x) * v (ix2 x c) := by
  pointwise

/-- Weights of 256 keys by their values. -/
theorem mix256_apply (p : FVec Ideal S256x256 .bf16) (v : FVec Ideal S256x128 .bf16) (r : Fin 256) (c : Fin 128) :
    matmul dot_S256x256_S256x128_S256x128_1_0_0_1_n_n none p v (constant S256x128 .f32 0x00000000#32) (ix2 r c)
      = ∑ x : Fin 256, p (ix2 r x) * v (ix2 x c) := by
  pointwise

/-- The named constant of the mask is `⊥`. -/
theorem mask_eq : (Named.named κ "mask" 0xF149F2CA#32 : Ideal .f32) = ⊥ :=
  IdealRules.named_const.ideal_named_scalar _ _ _ _ rfl

/-- A small number as a signed word. -/
theorem toInt_small (a : BitVec 32) (h : a.toNat < 65536) : a.toInt = a.toNat := by
  rw [BitVec.toInt_eq_toNat_of_lt]; omega

/-- A difference of small numbers as a signed word. -/
theorem toInt_sub_small (a b : BitVec 32) (ha : a.toNat < 65536) (hb : b.toNat < 65536) :
    (a - b).toInt = (a.toNat : ℤ) - b.toNat := by
  rw [BitVec.toInt_sub, toInt_small a ha, toInt_small b hb]
  exact Int.bmod_eq_of_le (by omega) (by omega)

/-- The mask of a tile: a key beside or before the query is kept. -/
theorem masked_apply {W : ℕ} (hW : W ≤ 1024) (a n : BitVec 32) (ha : a.toNat < 32) (hn : n.toNat < 8) (x : FVec Ideal ⟨2, ![256, W]⟩ .f32)
    (y : FVec Ideal ⟨2, ![256, W]⟩ .f32) (h0 h1) (r : Fin 256) (c : Fin W) :
    select (cmpi .sle (subi (iota .tc ⟨2, ![256, W]⟩ 32 [1] h1) (iota .tc ⟨2, ![256, W]⟩ 32 [0] h0))
      (broadcast ⟨2, ![256, W]⟩ (Scalar.subi (Scalar.muli a 256#32) (Scalar.muli n 1024#32)))) x y (ix2 r c)
      = if 1024 * n.toNat + c.val ≤ 256 * a.toNat + r.val then x (ix2 r c) else y (ix2 r c) := by
  pointwise
  have hc := c.isLt
  have hr := r.isLt
  have e1 : (BitVec.ofNat 32 c.val - BitVec.ofNat 32 r.val).toInt = (c.val : ℤ) - r.val := by
    rw [toInt_sub_small _ _ (by simp; omega) (by simp; omega)]
    simp only [BitVec.toNat_ofNat]
    omega
  have e2 : (a * 256#32 - n * 1024#32).toInt = (256 * a.toNat : ℤ) - 1024 * n.toNat := by
    have h1 : (a * 256#32).toNat = a.toNat * 256 := by rw [BitVec.toNat_mul]; simp; omega
    have h2 : (n * 1024#32).toNat = n.toNat * 1024 := by rw [BitVec.toNat_mul]; simp; omega
    rw [toInt_sub_small _ _ (by omega) (by omega), h1, h2]
    push_cast
    ring
  have e3 : IntOp.cmpi .sle (IntOp.subi (BitVec.ofNat 32 c.val) (BitVec.ofNat 32 r.val))
      (Scalar.subi (Scalar.muli a 256#32) (Scalar.muli n 1024#32))
      = BitVec.ofBool (decide (1024 * n.toNat + c.val ≤ 256 * a.toNat + r.val)) := by
    show BitVec.ofBool (BitVec.sle (BitVec.ofNat 32 c.val - BitVec.ofNat 32 r.val) (a * 256#32 - n * 1024#32)) = _
    refine congrArg BitVec.ofBool ?_
    rw [BitVec.sle, e1, e2]
    exact decide_eq_decide.mpr (by omega)
  rw [e3]
  by_cases h : 1024 * n.toNat + c.val ≤ 256 * a.toNat + r.val <;> simp [h, Scalar.select]

end Cert.Mla
-- ==== Proof.Reads.lean ====
/- Stores and loads of the kernel's buffers, read at an index.

   The working buffers hold one slab of 256 rows per head of the pair, so that a store or a load of one head touches
   one slab and leaves the other. The input blocks are read from the row and the column where a load begins. -/
module

public import Idealize.ShloMosaic.Lib.Pointwise
public import Idealize.ShloMosaic.Lib.VecWindow
public import Idealize.ShloMosaic.PureOps.Ideal
public import Idealize.ShloMosaic.Lib.Pipeline.Frame
public import Idealize.ShloMosaic.Lib.WritesUnit
public import Idealize.ShloMosaic.Lib.Exec

@[expose] public section

noncomputable section

namespace Cert.Mla

open Idealize.ShloMosaic

variable {sig : RefSig} {κ : Kind} {sp : Space} {e : EltTy} {Val : EltTy → Type}

/-- A head's slab is what was last stored there. -/
theorem put_same {C : ℕ} (v : View sig κ sp ⟨3, ![2, 256, C]⟩ e) (f : v.ty.Contents Val) (o : ℕ)
    (inb : ∀ a, (![o, 0, 0] : Fin 3 → ℕ) a + (![1, 256, C] : Fin 3 → ℕ) a ≤ (⟨3, ![2, 256, C]⟩ : Shape).size a)
    (w : (Rect.unit (s := ⟨3, ![2, 256, C]⟩) ![o, 0, 0] ![1, 256, C] inb).shape.Idx → Val e)
    (L : List (View.Piece Val ⟨3, ![2, 256, C]⟩ e)) (h : Fin 2) (hh : h.val = o) (r : Fin 256) (c : Fin C) :
    v.read Val (v.writes Val f (⟨Rect.unit ![o, 0, 0] ![1, 256, C] inb, w⟩ :: L)) (ix3 h r c)
      = w (ix3 (0 : Fin 1) r c) :=
  View.read_writes_cons_unit_of_mem v f inb w L (ix3 h r c) (ix3 (0 : Fin 1) r c) rfl fun a => by
    match a with
    | ⟨0, _⟩ => simpa using hh
    | ⟨1, _⟩ => simp
    | ⟨2, _⟩ => simp

/-- The other head's slab is what it was. -/
theorem put_other {C : ℕ} (v : View sig κ sp ⟨3, ![2, 256, C]⟩ e) (f : v.ty.Contents Val) (o : ℕ)
    (inb : ∀ a, (![o, 0, 0] : Fin 3 → ℕ) a + (![1, 256, C] : Fin 3 → ℕ) a ≤ (⟨3, ![2, 256, C]⟩ : Shape).size a)
    (w : (Rect.unit (s := ⟨3, ![2, 256, C]⟩) ![o, 0, 0] ![1, 256, C] inb).shape.Idx → Val e)
    (L : List (View.Piece Val ⟨3, ![2, 256, C]⟩ e)) (h : Fin 2) (hh : h.val ≠ o) (r : Fin 256) (c : Fin C) :
    v.read Val (v.writes Val f (⟨Rect.unit ![o, 0, 0] ![1, 256, C] inb, w⟩ :: L)) (ix3 h r c)
      = v.read Val (v.writes Val f L) (ix3 h r c) :=
  View.read_writes_cons_unit_of_not_mem v f inb w L (ix3 h r c) rfl (0 : Fin 3) (by
    show h.val < o ∨ o + 1 ≤ h.val
    omega)

/-- A store to slab 0, read in slab 0. -/
theorem put00 {C : ℕ} (v : View sig κ sp ⟨3, ![2, 256, C]⟩ e) (f : v.ty.Contents Val)
    (inb : ∀ a, (![0, 0, 0] : Fin 3 → ℕ) a + (![1, 256, C] : Fin 3 → ℕ) a ≤ (⟨3, ![2, 256, C]⟩ : Shape).size a)
    (w : (Rect.unit (s := ⟨3, ![2, 256, C]⟩) ![0, 0, 0] ![1, 256, C] inb).shape.Idx → Val e)
    (L : List (View.Piece Val ⟨3, ![2, 256, C]⟩ e)) (r : Fin 256) (c : Fin C) :
    v.read Val (v.writes Val f (⟨Rect.unit ![0, 0, 0] ![1, 256, C] inb, w⟩ :: L)) (ix3 (0 : Fin 2) r c)
      = w (ix3 (0 : Fin 1) r c) :=
  put_same v f 0 inb w L 0 rfl r c

/-- A store to slab 0, read in slab 1. -/
theorem put01 {C : ℕ} (v : View sig κ sp ⟨3, ![2, 256, C]⟩ e) (f : v.ty.Contents Val)
    (inb : ∀ a, (![0, 0, 0] : Fin 3 → ℕ) a + (![1, 256, C] : Fin 3 → ℕ) a ≤ (⟨3, ![2, 256, C]⟩ : Shape).size a)
    (w : (Rect.unit (s := ⟨3, ![2, 256, C]⟩) ![0, 0, 0] ![1, 256, C] inb).shape.Idx → Val e)
    (L : List (View.Piece Val ⟨3, ![2, 256, C]⟩ e)) (r : Fin 256) (c : Fin C) :
    v.read Val (v.writes Val f (⟨Rect.unit ![0, 0, 0] ![1, 256, C] inb, w⟩ :: L)) (ix3 (1 : Fin 2) r c)
      = v.read Val (v.writes Val f L) (ix3 (1 : Fin 2) r c) :=
  put_other v f 0 inb w L 1 (by decide) r c

/-- A store to slab 1, read in slab 0. -/
theorem put10 {C : ℕ} (v : View sig κ sp ⟨3, ![2, 256, C]⟩ e) (f : v.ty.Contents Val)
    (inb : ∀ a, (![1, 0, 0] : Fin 3 → ℕ) a + (![1, 256, C] : Fin 3 → ℕ) a ≤ (⟨3, ![2, 256, C]⟩ : Shape).size a)
    (w : (Rect.unit (s := ⟨3, ![2, 256, C]⟩) ![1, 0, 0] ![1, 256, C] inb).shape.Idx → Val e)
    (L : List (View.Piece Val ⟨3, ![2, 256, C]⟩ e)) (r : Fin 256) (c : Fin C) :
    v.read Val (v.writes Val f (⟨Rect.unit ![1, 0, 0] ![1, 256, C] inb, w⟩ :: L)) (ix3 (0 : Fin 2) r c)
      = v.read Val (v.writes Val f L) (ix3 (0 : Fin 2) r c) :=
  put_other v f 1 inb w L 0 (by decide) r c

/-- A store to slab 1, read in slab 1. -/
theorem put11 {C : ℕ} (v : View sig κ sp ⟨3, ![2, 256, C]⟩ e) (f : v.ty.Contents Val)
    (inb : ∀ a, (![1, 0, 0] : Fin 3 → ℕ) a + (![1, 256, C] : Fin 3 → ℕ) a ≤ (⟨3, ![2, 256, C]⟩ : Shape).size a)
    (w : (Rect.unit (s := ⟨3, ![2, 256, C]⟩) ![1, 0, 0] ![1, 256, C] inb).shape.Idx → Val e)
    (L : List (View.Piece Val ⟨3, ![2, 256, C]⟩ e)) (r : Fin 256) (c : Fin C) :
    v.read Val (v.writes Val f (⟨Rect.unit ![1, 0, 0] ![1, 256, C] inb, w⟩ :: L)) (ix3 (1 : Fin 2) r c)
      = w (ix3 (0 : Fin 1) r c) :=
  put_same v f 1 inb w L 1 rfl r c

/-- A store of both slabs, read anywhere. -/
theorem put_both {C : ℕ} (v : View sig κ sp ⟨3, ![2, 256, C]⟩ e) (f : v.ty.Contents Val)
    (inb : ∀ a, (![0, 0, 0] : Fin 3 → ℕ) a + (⟨3, ![2, 256, C]⟩ : Shape).size a ≤ (⟨3, ![2, 256, C]⟩ : Shape).size a)
    (w : (Rect.unit (s := ⟨3, ![2, 256, C]⟩) ![0, 0, 0] ![2, 256, C] inb).shape.Idx → Val e)
    (L : List (View.Piece Val ⟨3, ![2, 256, C]⟩ e)) (h : Fin 2) (r : Fin 256) (c : Fin C) :
    v.read Val (v.writes Val f (⟨Rect.unit ![0, 0, 0] ![2, 256, C] inb, w⟩ :: L)) (ix3 h r c)
      = w (ix3 h r c) :=
  congrFun (View.read_writes_full v f inb w L) (ix3 h r c)

/-- A load from slab 0, read at an index. -/
theorem get0 {C W : ℕ} (v : View sig κ sp ⟨3, ![2, 256, C]⟩ e) (f : v.ty.Contents Val)
    (inb : ∀ a, (![0, 0, 0] : Fin 3 → ℕ) a + (![1, 256, W] : Fin 3 → ℕ) a ≤ (⟨3, ![2, 256, C]⟩ : Shape).size a)
    (z : Fin 1) (r : Fin 256) (c : Fin W) :
    v.readAt Val (Rect.unit (s := ⟨3, ![2, 256, C]⟩) ![0, 0, 0] ![1, 256, W] inb).toLoadRect f (ix3 z r c)
      = v.read Val f (ix3 (0 : Fin 2) r ⟨c.val, by have := inb 2; have := c.isLt; simp at this; simp at *; omega⟩) := by
  rw [View.readAt_apply]
  refine congrArg (v.read Val f) (funext fun a => Fin.ext ?_)
  have hz := z.isLt
  match a with
  | ⟨0, _⟩ => show 0 + 1 * z.val = 0; omega
  | ⟨1, _⟩ => show 0 + 1 * r.val = r.val; omega
  | ⟨2, _⟩ => show 0 + 1 * c.val = c.val; omega

/-- A load from slab 1, read at an index. -/
theorem get1 {C W : ℕ} (v : View sig κ sp ⟨3, ![2, 256, C]⟩ e) (f : v.ty.Contents Val)
    (inb : ∀ a, (![1, 0, 0] : Fin 3 → ℕ) a + (![1, 256, W] : Fin 3 → ℕ) a ≤ (⟨3, ![2, 256, C]⟩ : Shape).size a)
    (z : Fin 1) (r : Fin 256) (c : Fin W) :
    v.readAt Val (Rect.unit (s := ⟨3, ![2, 256, C]⟩) ![1, 0, 0] ![1, 256, W] inb).toLoadRect f (ix3 z r c)
      = v.read Val f (ix3 (1 : Fin 2) r ⟨c.val, by have := inb 2; have := c.isLt; simp at this; simp at *; omega⟩) := by
  rw [View.readAt_apply]
  refine congrArg (v.read Val f) (funext fun a => Fin.ext ?_)
  have hz := z.isLt
  match a with
  | ⟨0, _⟩ => show 1 + 1 * z.val = 1; omega
  | ⟨1, _⟩ => show 0 + 1 * r.val = r.val; omega
  | ⟨2, _⟩ => show 0 + 1 * c.val = c.val; omega

/-- A load from an input block, read at an index. -/
theorem getIn {R C R' C' : ℕ} (v : View sig κ sp ⟨3, ![1, R, C]⟩ e) (f : v.ty.Contents Val) (off : Fin 3 → ℕ)
    (inb : ∀ a, off a + (![1, R', C'] : Fin 3 → ℕ) a ≤ (⟨3, ![1, R, C]⟩ : Shape).size a)
    (z : Fin 1) (r : Fin R') (c : Fin C') :
    v.readAt Val (Rect.unit (s := ⟨3, ![1, R, C]⟩) off ![1, R', C'] inb).toLoadRect f (ix3 z r c)
      = v.read Val f (ix3 (0 : Fin 1)
          ⟨off 1 + r.val, lt_of_lt_of_le (Nat.add_lt_add_left r.isLt _) (inb 1)⟩
          ⟨off 2 + c.val, lt_of_lt_of_le (Nat.add_lt_add_left c.isLt _) (inb 2)⟩) := by
  rw [View.readAt_apply]
  refine congrArg (v.read Val f) (funext fun a => Fin.ext ?_)
  have hz := z.isLt
  have h0 : off 0 + 1 ≤ 1 := inb 0
  match a with
  | ⟨0, _⟩ => show off 0 + 1 * z.val = 0; omega
  | ⟨1, _⟩ => show off 1 + 1 * r.val = off 1 + r.val; omega
  | ⟨2, _⟩ => show off 2 + 1 * c.val = off 2 + c.val; omega

/-- A block of one matrix, read at natural numbers: 0 outside. -/
def natAt {R C : ℕ} (x : (⟨3, ![1, R, C]⟩ : Shape).Idx → EReal) (r c : ℕ) : EReal :=
  if h : r < R ∧ c < C then x (ix3 (0 : Fin 1) ⟨r, h.1⟩ ⟨c, h.2⟩) else 0

/-- A load from an input block of which the contents are known. -/
theorem getNat {R C R' C' : ℕ} (m : Memref sig κ sp ⟨3, ![1, R, C]⟩ .bf16) (hm : m.IsWhole)
    (x : Vec Ideal ⟨3, ![1, R, C]⟩ .bf16) (off : Fin 3 → ℕ)
    (inb : ∀ a, off a + (![1, R', C'] : Fin 3 → ℕ) a ≤ (⟨3, ![1, R, C]⟩ : Shape).size a)
    (z : Fin 1) (r : Fin R') (c : Fin C') :
    m.view.readAt (Elt Ideal) (Rect.unit (s := ⟨3, ![1, R, C]⟩) off ![1, R', C'] inb).toLoadRect (hm.unread x) (ix3 z r c)
      = natAt x (off 1 + r.val) (off 2 + c.val) := by
  have h1 : off 1 + r.val < R := lt_of_lt_of_le (Nat.add_lt_add_left r.isLt _) (inb 1)
  have h2 : off 2 + c.val < C := lt_of_lt_of_le (Nat.add_lt_add_left c.isLt _) (inb 2)
  rw [getIn, Memref.IsWhole.read_unread, natAt, dif_pos ⟨h1, h2⟩]

end Cert.Mla
-- ==== Proof.State.lean ====
/- What the kernel keeps per row while it goes through the keys, a tile of 1024 keys at a time.

   For one query row of one head, `raw` is the score of a key and `vrow` the value of a key in one output lane. After
   `n` tiles the kernel has a running maximum `mS`, a running sum of weights `lS` and a running weighted sum of the
   values `aS`; the last tile, of `W` keys, gives `mF`, `lF` and `aF`. -/
module

public import proofs.«01_k».proof.Proof.Gen.KernelIdeal.Skeleton
public import proofs.«01_k».proof.Proof.Reads
public import Idealize.ShloMosaic.PureOps.Ideal

@[expose] public section

noncomputable section

namespace Cert.Mla

open Idealize.ShloMosaic Cert.KernelIdeal

/-- The score of key `j` for query row `r` of the pair's head `h`. -/
def raw (x0 : Vec Ideal S1x256x256 .bf16) (x1 : Vec Ideal S1x8192x256 .bf16) (h : Fin 2) (r j : ℕ) : EReal :=
  ∑ d : Fin 128, natAt x0 r (128 * h.val + d.val) * natAt x1 j (128 * h.val + d.val)

/-- The value of key `j` in one output lane. -/
def vrow (x2 : Vec Ideal S1x8192x128 .bf16) (lane j : ℕ) : EReal := natAt x2 j lane

/-- The scores of head 0, coordinate by coordinate. -/
theorem raw_zero (x0 : Vec Ideal S1x256x256 .bf16) (x1 : Vec Ideal S1x8192x256 .bf16) (r j : ℕ) :
    ∑ d : Fin 128, natAt x0 r d.val * natAt x1 j d.val = raw x0 x1 0 r j := by
  simp [raw]

/-- The scores of head 1, coordinate by coordinate. -/
theorem raw_one (x0 : Vec Ideal S1x256x256 .bf16) (x1 : Vec Ideal S1x8192x256 .bf16) (r j : ℕ) :
    ∑ d : Fin 128, natAt x0 r (128 + d.val) * natAt x1 j (128 + d.val) = raw x0 x1 1 r j := by
  simp [raw]

/-- The running maximum after `n` tiles. -/
def mS (s : ℕ → EReal) : ℕ → EReal
  | 0 => ⊥
  | n + 1 => max (mS s n) (Finset.univ.sup fun c : Fin 1024 => s (1024 * n + c.val))

/-- The running sum of weights after `n` tiles. -/
def lS (s : ℕ → EReal) : ℕ → EReal
  | 0 => 0
  | n + 1 => Ideal.exp2 (mS s n - mS s (n + 1)) * lS s n + ∑ c : Fin 1024, Ideal.exp2 (s (1024 * n + c.val) - mS s (n + 1))

/-- The running weighted sum of the values after `n` tiles. -/
def aS (s v : ℕ → EReal) : ℕ → EReal
  | 0 => 0
  | n + 1 => Ideal.exp2 (mS s n - mS s (n + 1)) * aS s v n
      + ∑ c : Fin 1024, Ideal.exp2 (s (1024 * n + c.val) - mS s (n + 1)) * v (1024 * n + c.val)

/-- The maximum after `n` tiles and a last one of `W` keys. -/
def mF (s s' : ℕ → EReal) (n W : ℕ) : EReal := max (mS s n) (Finset.univ.sup fun c : Fin W => s' (1024 * n + c.val))

/-- The sum of weights after `n` tiles and a last one of `W` keys. -/
def lF (s s' : ℕ → EReal) (n W : ℕ) : EReal :=
  Ideal.exp2 (mS s n - mF s s' n W) * lS s n + ∑ c : Fin W, Ideal.exp2 (s' (1024 * n + c.val) - mF s s' n W)

/-- The weighted sum of the values after `n` tiles and a last one of `W` keys. -/
def aF (s s' v : ℕ → EReal) (n W : ℕ) : EReal :=
  Ideal.exp2 (mS s n - mF s s' n W) * aS s v n
    + ∑ c : Fin W, Ideal.exp2 (s' (1024 * n + c.val) - mF s s' n W) * v (1024 * n + c.val)

/-- The kernel's state after `n` tiles: the scores of the next tile, and the three running numbers, for both heads. -/
structure Inv (x0 : Vec Ideal S1x256x256 .bf16) (x1 : Vec Ideal S1x8192x256 .bf16) (x2 : Vec Ideal S1x8192x128 .bf16) (n : ℕ)
    (s : Vec Ideal S2x256x1024 .f32) (m l : Vec Ideal S2x256x1 .f32) (a : Vec Ideal S2x256x128 .f32) : Prop where
  s0 : ∀ (r : Fin 256) (c : Fin 1024), s (ix3 (0 : Fin 2) r c) = raw x0 x1 0 r.val (1024 * n + c.val)
  s1 : ∀ (r : Fin 256) (c : Fin 1024), s (ix3 (1 : Fin 2) r c) = raw x0 x1 1 r.val (1024 * n + c.val)
  m0 : ∀ r : Fin 256, m (ix3 (0 : Fin 2) r (0 : Fin 1)) = mS (raw x0 x1 0 r.val) n
  m1 : ∀ r : Fin 256, m (ix3 (1 : Fin 2) r (0 : Fin 1)) = mS (raw x0 x1 1 r.val) n
  l0 : ∀ r : Fin 256, l (ix3 (0 : Fin 2) r (0 : Fin 1)) = lS (raw x0 x1 0 r.val) n
  l1 : ∀ r : Fin 256, l (ix3 (1 : Fin 2) r (0 : Fin 1)) = lS (raw x0 x1 1 r.val) n
  a0 : ∀ (r : Fin 256) (c : Fin 128), a (ix3 (0 : Fin 2) r c) = aS (raw x0 x1 0 r.val) (vrow x2 c.val) n
  a1 : ∀ (r : Fin 256) (c : Fin 128), a (ix3 (1 : Fin 2) r c) = aS (raw x0 x1 1 r.val) (vrow x2 c.val) n

end Cert.Mla
-- ==== Proof.Tiles.lean ====
/- The kernel's three numbers after its tiles are the maximum, the sum of weights and the weighted sum over all keys read,
   and one head's result is the softmax of its row. -/
module

public import proofs.«01_k».proof.Proof.Softmax
public import proofs.«01_k».proof.Proof.State

@[expose] public section

noncomputable section

namespace Cert.Mla

open Idealize.ShloMosaic

/-- The greatest of a tile's scores, over its keys by number. -/
theorem sup_fin (W : ℕ) (f : ℕ → EReal) : (Finset.univ.sup fun c : Fin W => f c.val) = (Finset.range W).sup f := by
  apply le_antisymm
  · exact Finset.sup_le fun c _ => Finset.le_sup (f := f) (Finset.mem_range.mpr c.isLt)
  · exact Finset.sup_le fun j hj =>
      Finset.le_sup (f := fun c : Fin W => f c.val) (Finset.mem_univ (⟨j, Finset.mem_range.mp hj⟩ : Fin W))

/-- The running maximum is the greatest score so far. -/
theorem mS_eq (s : ℕ → EReal) (n : ℕ) : mS s n = top s (1024 * n) := by
  induction n with
  | zero => simp [mS, top]
  | succ n ih => rw [mS, ih, sup_fin 1024 fun j => s (1024 * n + j), Nat.mul_succ, top_add]

/-- The maximum after the last tile is the greatest score. -/
theorem mF_eq (s : ℕ → EReal) (n W : ℕ) : mF s s n W = top s (1024 * n + W) := by
  rw [mF, mS_eq, sup_fin W fun j => s (1024 * n + j), top_add]

/-- The running sum of weights is the sum of the weights so far. -/
theorem lS_eq (s : ℕ → EReal) (h0 : s 0 ≠ ⊥) (hs : ∀ j, s j ≠ ⊤) (n : ℕ) : lS s n = den s (1024 * n) := by
  induction n with
  | zero => simp [lS, den]
  | succ n ih =>
    rw [lS, ih, mS_eq, mS_eq, Nat.mul_succ, den_add s _ 1024 (by norm_num) h0 hs,
      Fin.sum_univ_eq_sum_range fun j => Ideal.exp2 (s (1024 * n + j) - top s (1024 * n + 1024))]
    rfl

/-- The sum of weights after the last tile is the sum of all weights. -/
theorem lF_eq (s : ℕ → EReal) (h0 : s 0 ≠ ⊥) (hs : ∀ j, s j ≠ ⊤) (n W : ℕ) (hW : 0 < W) :
    lF s s n W = den s (1024 * n + W) := by
  rw [lF, lS_eq s h0 hs, mF_eq, mS_eq, den_add s _ W hW h0 hs,
    Fin.sum_univ_eq_sum_range fun j => Ideal.exp2 (s (1024 * n + j) - top s (1024 * n + W))]
  rfl

/-- The running weighted sum is the weighted sum so far. -/
theorem aS_eq (s v : ℕ → EReal) (h0 : s 0 ≠ ⊥) (hs : ∀ j, s j ≠ ⊤) (n : ℕ) : aS s v n = num s v (1024 * n) := by
  induction n with
  | zero => simp [aS, num]
  | succ n ih =>
    rw [aS, ih, mS_eq, mS_eq, Nat.mul_succ, num_add s v _ 1024 (by norm_num) h0 hs,
      Fin.sum_univ_eq_sum_range fun j => Ideal.exp2 (s (1024 * n + j) - top s (1024 * n + 1024)) * v (1024 * n + j)]
    rfl

/-- The weighted sum after the last tile is the weighted sum over all keys. -/
theorem aF_eq (s v : ℕ → EReal) (h0 : s 0 ≠ ⊥) (hs : ∀ j, s j ≠ ⊤) (n W : ℕ) (hW : 0 < W) :
    aF s s v n W = num s v (1024 * n + W) := by
  rw [aF, aS_eq s v h0 hs, mF_eq, mS_eq, num_add s v _ W hW h0 hs,
    Fin.sum_univ_eq_sum_range fun j => Ideal.exp2 (s (1024 * n + j) - top s (1024 * n + W)) * v (1024 * n + j)]
  rfl

/-- The running maximum depends on the scores of the tiles read only. -/
theorem mS_congr {s s' : ℕ → EReal} (n : ℕ) (h : ∀ j < 1024 * n, s j = s' j) : mS s n = mS s' n := by
  rw [mS_eq, mS_eq]
  exact Finset.sup_congr rfl fun j hj => h j (Finset.mem_range.mp hj)

/-- The running sum of weights depends on the scores of the tiles read only. -/
theorem lS_congr {s s' : ℕ → EReal} (n : ℕ) (h : ∀ j < 1024 * n, s j = s' j) : lS s n = lS s' n := by
  induction n with
  | zero => rfl
  | succ n ih =>
    rw [lS, lS, ih fun j hj => h j (by omega), mS_congr n fun j hj => h j (by omega), mS_congr (n + 1) h]
    congr 1
    exact Finset.sum_congr rfl fun c _ => by rw [h _ (by have := c.isLt; omega)]

/-- The running weighted sum depends on the scores of the tiles read only. -/
theorem aS_congr {s s' : ℕ → EReal} (v : ℕ → EReal) (n : ℕ) (h : ∀ j < 1024 * n, s j = s' j) : aS s v n = aS s' v n := by
  induction n with
  | zero => rfl
  | succ n ih =>
    rw [aS, aS, ih fun j hj => h j (by omega), mS_congr n fun j hj => h j (by omega), mS_congr (n + 1) h]
    congr 1
    exact Finset.sum_congr rfl fun c _ => by rw [h _ (by have := c.isLt; omega)]

/-- ONE ROW. The full tiles' scores `s`, in units of `log 2`, and the last tile's `s'`, which is `⊥` past the query `row`:
    the kernel's quotient is the softmax of the row's scores over all `N` keys, times the values. -/
theorem row_softmax (s y v : ℕ → EReal) (row n W N : ℕ) (hW : 0 < W) (hn : 1024 * n ≤ row) (hr : row < 1024 * n + W)
    (hN : 1024 * n + W ≤ N) (hy : ∀ j, y j ≠ ⊤ ∧ y j ≠ ⊥) (hs : ∀ j, s j = y j * (((Real.log 2)⁻¹ : ℝ) : EReal)) :
    Ideal.div (aF s (fun j => if j ≤ row then s j else ⊥) v n W) (lF s (fun j => if j ≤ row then s j else ⊥) n W)
      = ∑ j ∈ Finset.range N, v j * soft (fun j => if j ≤ row then y j else ⊥) N j := by
  have hl : 0 < (Real.log 2)⁻¹ := inv_pos.mpr (Real.log_pos (by norm_num))
  have e : (fun j => if j ≤ row then s j else ⊥)
      = fun j => (if j ≤ row then y j else ⊥) * (((Real.log 2)⁻¹ : ℝ) : EReal) := by
    funext j
    split_ifs
    · exact hs j
    · rw [EReal.bot_mul_coe_of_pos hl]
  have hreal : ∀ j, ∃ a : ℝ, y j = a := fun j => ⟨(y j).toReal, (EReal.coe_toReal (hy j).1 (hy j).2).symm⟩
  have h0 : (fun j => if j ≤ row then s j else (⊥ : EReal)) 0 ≠ ⊥ := by
    obtain ⟨a, ha⟩ := hreal 0
    simp only [Nat.zero_le, if_true, hs, ha, ← EReal.coe_mul]
    exact EReal.coe_ne_bot _
  have ht : ∀ j, (fun j => if j ≤ row then s j else (⊥ : EReal)) j ≠ ⊤ := by
    intro j
    obtain ⟨a, ha⟩ := hreal j
    dsimp only
    split_ifs
    · rw [hs, ha, ← EReal.coe_mul]
      exact EReal.coe_ne_top _
    · exact bot_ne_top
  have hc : ∀ j < 1024 * n, s j = (fun j => if j ≤ row then s j else (⊥ : EReal)) j := fun j hj => by
    simp only [show j ≤ row by omega, if_true]
  have eA : aF s (fun j => if j ≤ row then s j else ⊥) v n W
      = aF (fun j => if j ≤ row then s j else ⊥) (fun j => if j ≤ row then s j else ⊥) v n W := by
    unfold aF mF
    rw [aS_congr v n hc, mS_congr n hc]
  have eL : lF s (fun j => if j ≤ row then s j else ⊥) n W
      = lF (fun j => if j ≤ row then s j else ⊥) (fun j => if j ≤ row then s j else ⊥) n W := by
    unfold lF mF
    rw [lS_congr n hc, mS_congr n hc]
  rw [eA, eL, aF_eq (fun j => if j ≤ row then s j else ⊥) v h0 ht n W hW,
    lF_eq (fun j => if j ≤ row then s j else ⊥) h0 ht n W hW, e]
  refine num_div_den _ v _ N (by omega) hN ?_ ?_ ?_
  · simp only [Nat.zero_le, if_true]
    exact (hy 0).2
  · intro j
    split_ifs
    · exact (hy j).1
    · exact bot_ne_top
  · intro j hj
    simp only [show ¬ j ≤ row by omega, if_false]

end Cert.Mla
-- ==== Proof.RefRow.lean ====
/- The reference, read at one entry of its result: the softmax of one query's scores, times the values. -/
module

public import proofs.«01_k».proof.Proof.Gen.ReferenceIdeal.Read
public import proofs.«01_k».proof.Proof.Softmax
public import proofs.«01_k».proof.Proof.Ops
public import proofs.«01_k».proof.Proof.Tiles
public import Idealize.ShloMosaic.Lib.Pointwise

@[expose] public section

noncomputable section

namespace Cert.Mla

open Idealize.ShloMosaic
open Cert.ReferenceIdeal.Read

/-- An array of rank 4 at natural coordinates, 0 outside it. -/
def at4 {A B C D : ℕ} (x : (⟨4, ![A, B, C, D]⟩ : Shape).Idx → EReal) (a b c d : ℕ) : EReal :=
  if h : a < A ∧ b < B ∧ c < C ∧ d < D then x (ix4 ⟨a, h.1⟩ ⟨b, h.2.1⟩ ⟨c, h.2.2.1⟩ ⟨d, h.2.2.2⟩) else 0

/-- Inside the array it is the entry. -/
theorem at4_fin {A B C D : ℕ} (x : (⟨4, ![A, B, C, D]⟩ : Shape).Idx → EReal) (a : Fin A) (b : Fin B) (c : Fin C) (d : Fin D) :
    at4 x a.val b.val c.val d.val = x (ix4 a b c d) := by
  rw [at4, dif_pos ⟨a.isLt, b.isLt, c.isLt, d.isLt⟩]

/-- The product of query `r` and key `j` of batch `b` and head `h`. -/
def dotp (q k : (⟨4, ![4, 8192, 4, 96]⟩ : Shape).Idx → EReal) (b h r j : ℕ) : EReal :=
  ∑ d : Fin 96, at4 q b r h d.val * at4 k b j h d.val

/-- Its score. -/
def score (q k : (⟨4, ![4, 8192, 4, 96]⟩ : Shape).Idx → EReal) (b h r j : ℕ) : EReal :=
  Ideal.div (dotp q k b h r j) ((Real.sqrt 96 : ℝ) : EReal)

/-- Its score under the causal mask. -/
def seen (q k : (⟨4, ![4, 8192, 4, 96]⟩ : Shape).Idx → EReal) (b h r j : ℕ) : EReal :=
  if j ≤ r then score q k b h r j else ⊥

/-- Lane `d` of the attention of query `r` of batch `b` and head `h`. -/
def att (q k : (⟨4, ![4, 8192, 4, 96]⟩ : Shape).Idx → EReal) (v : (⟨4, ![4, 8192, 4, 64]⟩ : Shape).Idx → EReal)
    (b h r d : ℕ) : EReal :=
  ∑ j ∈ Finset.range 8192, at4 v b j h d * soft (seen q k b h r) 8192 j

/-- The word of 96. -/
theorem bits96 : Ideal.ofBits .f32 0x42C00000#32 = ((96 : ℝ) : EReal) := by
  simp [Ideal.ofBits, Ideal.ieee]
  rw [← EReal.coe_mul]
  norm_num

/-- The comparison of two key numbers, as words. -/
theorem sle_word (r j : Fin 8192) : IntOp.cmpi .sle (BitVec.ofNat 32 j.val) (BitVec.ofNat 32 r.val) = if j.val ≤ r.val then 1#1 else 0#1 := by
  have hj := j.isLt
  have hr := r.isLt
  unfold IntOp.cmpi
  have n : ∀ m : ℕ, m < 8192 → (BitVec.ofNat 32 m).toInt = (m : ℤ) := fun m hm => by
    rw [BitVec.toInt_eq_toNat_cond, BitVec.toNat_ofNat]
    omega
  have e : BitVec.sle (BitVec.ofNat 32 j.val) (BitVec.ofNat 32 r.val) = decide (j.val ≤ r.val) := by
    rw [BitVec.sle_eq_decide, n _ hj, n _ hr]
    exact decide_eq_decide.mpr Int.ofNat_le
  by_cases h : j.val ≤ r.val
  · rw [if_pos h]; simp [e, h]
  · rw [if_neg h]; simp [e, h]

variable (x0 x1 : (⟨4, ![4, 8192, 4, 96]⟩ : Shape).Idx → EReal) (x2 : (⟨4, ![4, 8192, 4, 64]⟩ : Shape).Idx → EReal)

/-- The masked scores. -/
theorem seen_apply (b h : Fin 4) (r j : Fin 8192) :
    val_main_v10 (F := Ideal) x0 x1 (ix4 b h r j) = seen x0 x1 b.val h.val r.val j.val := by
  rw [val_main_v10_apply, val_main_call0_v1_apply, val_main_call0_v2_apply, val_main_call0_v0_apply, val_main_cst_0_apply,
    val_main_v9_apply, val_main_v7_apply, val_main_v8_apply, val_main_v5_apply, val_main_v6_apply, val_main_v0_apply,
    val_main_v0_apply, val_main_v4_apply, val_main_v1_apply, val_main_v3_apply, val_main_v2_apply, val_main_cst_apply]
  have e : IntOp.cmpi .sle (BitVec.ofNat 32 j.val) (BitVec.ofNat 32 r.val) = _ := sle_word r j
  have hd : ∀ d : Fin 96, x0 (lidx_main_v1 (ix4 b h r j) d) * x1 (ridx_main_v1 (ix4 b h r j) d)
      = at4 x0 b.val r.val h.val d.val * at4 x1 b.val j.val h.val d.val := fun d => by
    rw [at4_fin x0 b r h d, at4_fin x1 b j h d]
    congr 2 <;> (funext a; match a with | ⟨0, _⟩ => rfl | ⟨1, _⟩ => rfl | ⟨2, _⟩ => rfl | ⟨3, _⟩ => rfl)
  rw [Finset.sum_congr rfl fun d _ => hd d]
  have hs : (FloatOps.hostUnary (F := Ideal) .sqrt (FloatOps.ofBits .f32 0x42C00000#32) : EReal) = ((Real.sqrt 96 : ℝ) : EReal) := by
    show Ideal.sqrt (Ideal.ofBits .f32 0x42C00000#32) = _
    rw [bits96, Ideal.sqrt_coe, if_neg (by norm_num)]
  rw [hs]
  have hb : (FloatOps.ofBits (F := Ideal) .f32 0xFF800000#32 : EReal) = ⊥ := ofBits_bot
  rw [hb]
  show Scalar.select (IntOp.cmpi .sle (BitVec.ofNat 32 j.val) (BitVec.ofNat 32 r.val)) _ _ = _
  rw [e, seen, score, dotp]
  by_cases hjr : j.val ≤ r.val
  · rw [if_pos hjr, if_pos hjr]; rfl
  · rw [if_neg hjr, if_neg hjr]; rfl

/-- The greatest score of a row of a rank-4 array. -/
theorem rowMax4 (y : (⟨4, ![4, 4, 8192, 8192]⟩ : Shape).Idx → EReal) (init : (⟨0, ![]⟩ : Shape).Idx → EReal)
    (hinit : ∀ z, init z = ⊥) (h : (⟨4, ![4, 4, 8192, 8192]⟩ : Shape).ReducesTo [3] ⟨3, ![4, 4, 8192]⟩)
    (hu : 0 < (⟨0, ![]⟩ : Shape).numel) (b c : Fin 4) (r : Fin 8192) :
    Host.reduce (FloatOps.maximumf (F := Ideal) (φ := .f32)) y init h hu (ix3 b c r)
      = Finset.univ.sup fun j : Fin 8192 => y (ix4 b c r j) := by
  rw [← fold_max_bot]
  pointwise
  rw [hinit]

/-- The greatest score of a row, guarded below by `⊥`. -/
theorem greatest_apply (b h : Fin 4) (r : Fin 8192) :
    val_main_v13 (F := Ideal) x0 x1 (ix3 b h r) = top (seen x0 x1 b.val h.val r.val) 8192 := by
  rw [val_main_v13_apply, val_main_v12_apply, val_main_cst_2_apply, val_main_v11]
  have hb : (FloatOps.ofBits (F := Ideal) .f32 0xFF800000#32 : EReal) = ⊥ := ofBits_bot
  rw [rowMax4 (val_main_v10 (F := Ideal) x0 x1) (val_main_cst_1 (F := Ideal)) (fun _ => hb), hb]
  show max ⊥ _ = _
  rw [bot_sup_eq, Finset.sup_congr rfl fun j _ => seen_apply x0 x1 b h r j, sup_fin 8192 (seen x0 x1 b.val h.val r.val)]
  rfl

/-- The exponential of a score against the greatest one. -/
theorem weight_apply (b h : Fin 4) (r j : Fin 8192) :
    val_main_v17 (F := Ideal) x0 x1 (ix4 b h r j)
      = Ideal.exp (seen x0 x1 b.val h.val r.val j.val - top (seen x0 x1 b.val h.val r.val) 8192) := by
  rw [val_main_v17_apply, val_main_v16_apply, val_main_v15_apply, val_main_v14_apply, seen_apply]
  have e : idx_main_v14 (idx_main_v15 (ix4 b h r j)) = ix3 b h r := by
    funext a; match a with | ⟨0, _⟩ => rfl | ⟨1, _⟩ => rfl | ⟨2, _⟩ => rfl
  rw [e, greatest_apply]
  rfl

/-- The sum of a row's exponentials. -/
theorem weights_apply (b h : Fin 4) (r : Fin 8192) :
    val_main_v18 (F := Ideal) x0 x1 (ix3 b h r)
      = ∑ j ∈ Finset.range 8192, Ideal.exp (seen x0 x1 b.val h.val r.val j - top (seen x0 x1 b.val h.val r.val) 8192) := by
  rw [val_main_v18_apply, val_main_cst_3_apply]
  have e : ∀ j : Fin 8192, idx_main_v18 (ix3 b h r) j = ix4 b h r j := fun j => by
    funext a; match a with | ⟨0, _⟩ => rfl | ⟨1, _⟩ => rfl | ⟨2, _⟩ => rfl | ⟨3, _⟩ => rfl
  rw [Finset.sum_congr rfl fun j _ => (congrArg _ (e j)).trans (weight_apply x0 x1 b h r j),
    Fin.sum_univ_eq_sum_range fun j => Ideal.exp (seen x0 x1 b.val h.val r.val j - top (seen x0 x1 b.val h.val r.val) 8192)]
  have z : (FloatOps.ofBits (F := Ideal) .f32 0x00000000#32 : EReal) = 0 := by
    show Ideal.ofBits .f32 0x00000000#32 = 0
    simp [Ideal.ofBits, Ideal.ieee]
  rw [z, zero_add]

/-- The softmax of a row. -/
theorem soft_apply (b h : Fin 4) (r j : Fin 8192) :
    val_main_v21 (F := Ideal) x0 x1 (ix4 b h r j) = soft (seen x0 x1 b.val h.val r.val) 8192 j.val := by
  rw [val_main_v21_apply, val_main_v20_apply, val_main_v19_apply, weight_apply]
  have e : idx_main_v19 (idx_main_v20 (ix4 b h r j)) = ix3 b h r := by
    funext a; match a with | ⟨0, _⟩ => rfl | ⟨1, _⟩ => rfl | ⟨2, _⟩ => rfl
  rw [e, weights_apply]
  rfl

/-- The softmax times the values. -/
theorem mix_apply (b h : Fin 4) (d : Fin 64) (r : Fin 8192) :
    val_main_v22 (F := Ideal) x0 x1 x2 (ix4 b h d r) = att x0 x1 x2 b.val h.val r.val d.val := by
  rw [val_main_v22_apply]
  have e : ∀ j : Fin 8192, x2 (lidx_main_v22 (ix4 b h d r) j) * val_main_v21 (F := Ideal) x0 x1 (ridx_main_v22 (ix4 b h d r) j)
      = at4 x2 b.val j.val h.val d.val * soft (seen x0 x1 b.val h.val r.val) 8192 j.val := fun j => by
    have e1 : lidx_main_v22 (ix4 b h d r) j = ix4 b j h d := by
      funext a; match a with | ⟨0, _⟩ => rfl | ⟨1, _⟩ => rfl | ⟨2, _⟩ => rfl | ⟨3, _⟩ => rfl
    have e2 : ridx_main_v22 (ix4 b h d r) j = ix4 b h r j := by
      funext a; match a with | ⟨0, _⟩ => rfl | ⟨1, _⟩ => rfl | ⟨2, _⟩ => rfl | ⟨3, _⟩ => rfl
    rw [e1, e2, soft_apply, at4_fin x2 b j h d]
  rw [Finset.sum_congr rfl fun j _ => e j,
    Fin.sum_univ_eq_sum_range fun j => at4 x2 b.val j h.val d.val * soft (seen x0 x1 b.val h.val r.val) 8192 j]
  rfl

/-- The result: the four heads of 64 lanes side by side. -/
theorem ref_apply (i : (⟨3, ![4, 8192, 256]⟩ : Shape).Idx) :
    val_main_v24 (F := Ideal) x0 x1 x2 i
      = att x0 x1 x2 (i 0).val ((i 2).val / 64) (i 1).val ((i 2).val % 64) := by
  have h0 : (i 0).val < 4 := (i 0).isLt
  have h1 : (i 1).val < 8192 := (i 1).isLt
  have h2 : (i 2).val < 256 := (i 2).isLt
  rw [val_main_v24_apply, val_main_v23_apply]
  have e : idx_main_v23 (idx_main_v24 i)
      = ix4 (⟨(i 0).val, h0⟩ : Fin 4) (⟨(i 2).val / 64, by omega⟩ : Fin 4) (⟨(i 2).val % 64, by omega⟩ : Fin 64)
          (⟨(i 1).val, h1⟩ : Fin 8192) := by
    funext a
    apply Fin.ext
    match a with
    | ⟨0, _⟩ => simp [ix4]; omega
    | ⟨1, _⟩ => simp [ix4]; omega
    | ⟨2, _⟩ => simp [ix4]; omega
    | ⟨3, _⟩ => simp [ix4]; omega
  rw [e, mix_apply]

end Cert.Mla
-- ==== Proof.Inputs.lean ====
/- The kernel's three operands, as the host code leaves them, read at an entry.

   The queries are multiplied by the scale; queries and keys are padded from 96 to 128 lanes and their four heads laid side by
   side; the values' four heads are laid side by side. -/
module

public import proofs.«01_k».proof.Proof.Gen.KernelIdeal.Frame.Runs
public import proofs.«01_k».proof.Proof.RefRow
public import Idealize.ShloMosaic.Lib.Pipeline.Value
public import Idealize.ShloMosaic.Lib.KernelVsHost
public import Idealize.ShloMosaic.Lib.StableHlo.Run

@[expose] public section

noncomputable section

namespace Cert.Mla

open Idealize.ShloMosaic Idealize.ShloMosaic.TcCoe Idealize.ShloMosaic.StableHlo
open Cert.KernelIdeal Cert.KernelIdeal.Gen

variable (m : (ℓ : Loc nD τ sig) → Buf (Elt Ideal) ℓ)

/-- The scale as the host code computes it. -/
def scaleS : FVec Ideal S_ .f32 :=
  Host.divf (constant S_ .f32 0x3F800000#32)
    (mulf (Host.sqrt (constant S_ .f32 0x42C00000#32)) (Host.log (constant S_ .f32 0x40000000#32)))

/-- Heads of 96 lanes padded to 128 and laid side by side. -/
def heads (x : FVec Ideal S4x8192x4x96 .f32) : FVec Ideal S4x8192x512 .bf16 :=
  shapeCast S4x8192x512 (truncf .bf16 (shapeCast S32768x512
    (pad S4x8192x4x128 ![0, 0, 0, 0] ![0, 0, 0, 32] ![0, 0, 0, 0] x (sitofp (F := Ideal) .f32 (constantI S_ 32 0#32))
      pads_S4x8192x4x96_S4x8192x4x128_000_000_000_0320 h_S_) shapeCasts_S4x8192x4x128_S32768x512) bitsLt_bf16_f32)
    shapeCasts_S32768x512_S4x8192x512

/-- Heads of 64 lanes laid side by side. -/
def lanes (x : FVec Ideal S4x8192x4x64 .f32) : FVec Ideal S4x8192x256 .bf16 :=
  shapeCast S4x8192x256 (truncf .bf16 (shapeCast S32768x256 x shapeCasts_S4x8192x4x64_S32768x256) bitsLt_bf16_f32)
    shapeCasts_S32768x256_S4x8192x256

/-- The queries' operand. -/
theorem V_q (c : Dev nD) : V m c main_v14
    = heads (mulf (m ((c.tc : Thread nD τ).loc main_arg0)) (broadcastInDim S4x8192x4x96 ![] bcast_S_S4x8192x4x96 scaleS)) := by
  simp only [V, hostOps0, hostOps0_1, hostOps0_2, hostOps0_3, hostOps0_4, List.flatten_cons, List.flatten_nil, List.append_nil,
    List.cons_append, List.nil_append]
  after_results
  rfl

/-- The keys' operand. -/
theorem V_k (c : Dev nD) : V m c main_v15 = heads (m ((c.tc : Thread nD τ).loc main_arg1)) := by
  simp only [V, hostOps0, hostOps0_1, hostOps0_2, hostOps0_3, hostOps0_4, List.flatten_cons, List.flatten_nil, List.append_nil,
    List.cons_append, List.nil_append]
  after_results
  rfl

/-- The values' operand. -/
theorem V_v (c : Dev nD) : V m c main_v16 = lanes (m ((c.tc : Thread nD τ).loc main_arg2)) := by
  simp only [V, hostOps0, hostOps0_1, hostOps0_2, hostOps0_3, hostOps0_4, List.flatten_cons, List.flatten_nil, List.append_nil,
    List.cons_append, List.nil_append]
  after_results
  rfl

/-- The scale is `1 / (√96 · log 2)`. -/
theorem scaleS_apply (z : S_.Idx) : scaleS z = (((Real.sqrt 96)⁻¹ * (Real.log 2)⁻¹ : ℝ) : EReal) := by
  have b1 : Ideal.ofBits .f32 0x3F800000#32 = ((1 : ℝ) : EReal) := by
    simp [Ideal.ofBits, Ideal.ieee]
    rw [← EReal.coe_mul, ← EReal.coe_one]
    exact congrArg Real.toEReal (by norm_num)
  have b2 : Ideal.ofBits .f32 0x40000000#32 = ((2 : ℝ) : EReal) := by
    simp [Ideal.ofBits, Ideal.ieee]
    rw [← EReal.coe_mul]
    exact congrArg Real.toEReal (by norm_num)
  show Ideal.div (Ideal.ofBits .f32 0x3F800000#32)
    (Ideal.sqrt (Ideal.ofBits .f32 0x42C00000#32) * Ideal.log (Ideal.ofBits .f32 0x40000000#32)) = _
  have hs : (0 : ℝ) < Real.sqrt 96 := Real.sqrt_pos.mpr (by norm_num)
  have hl : (0 : ℝ) < Real.log 2 := Real.log_pos (by norm_num)
  rw [b1, b2, bits96, Ideal.sqrt_coe, if_neg (by norm_num), Ideal.log_coe, if_neg (by norm_num), ← EReal.coe_mul]
  unfold Ideal.div
  rw [if_neg (by rw [EReal.coe_eq_zero]; positivity), ← EReal.coe_inv, ← EReal.coe_mul, one_mul, mul_inv]

/-- A change of float type is the identity on extended reals. -/
theorem narrow_apply {s : Shape} (y : FVec Ideal s .f32) (h : FTy.bf16.bits < FTy.f32.bits) (k : s.Idx) : truncf .bf16 y h k = y k := rfl

/-- A head's lane of the padded heads: the head's own lane below 96, 0 after. -/
theorem heads_apply (x : FVec Ideal S4x8192x4x96 .f32) (b : Fin 4) (r : Fin 8192) (h : Fin 4) (d : Fin 128) (cc : Fin 512)
    (hc : cc.val = 128 * h.val + d.val) :
    heads x (ix3 b r cc) = if d.val < 96 then at4 x b.val r.val h.val d.val else 0 := by
  have hb := b.isLt
  have hr := r.isLt
  have hh := h.isLt
  have hd := d.isLt
  unfold heads
  rw [shapeCast_apply _ _ (ix3 b r cc) (ix2 (⟨8192 * b.val + r.val, by omega⟩ : Fin 32768) cc)
    (by rewrite [Shape.rowMajor_val_two, Shape.rowMajor_val_three]; simp [ix3, ix2]; omega)]
  rw [narrow_apply]
  rw [shapeCast_apply _ _ _ (ix4 b r h d)
    (by rewrite [Shape.rowMajor_val_two, Shape.rowMajor_val_four]; simp [ix4, ix2]; omega)]
  split_ifs with hlt
  · rw [pad_apply_of_inside ![0, 0, 0, 0] ![0, 0, 0, 32] ![0, 0, 0, 0] x _ _ _ (ix4 b r h d)
      (ix4 b r h (⟨d.val, hlt⟩ : Fin 96)) (fun a => by
        match a with
        | ⟨0, _⟩ => simp [ix4]
        | ⟨1, _⟩ => simp [ix4]
        | ⟨2, _⟩ => simp [ix4]
        | ⟨3, _⟩ => simp [ix4]), ← at4_fin x b r h (⟨d.val, hlt⟩ : Fin 96)]
  · rw [pad_apply_of_not_inside ![0, 0, 0, 0] ![0, 0, 0, 32] ![0, 0, 0, 0] x _ _ _ (ix4 b r h d) (3 : Fin 4) (by
      simp [ix4]
      omega)]
    show ((((0#32 : BitVec 32).toInt : ℝ)) : EReal) = 0
    simp

/-- A head's lane of the values. -/
theorem lanes_apply (x : FVec Ideal S4x8192x4x64 .f32) (b : Fin 4) (r : Fin 8192) (h : Fin 4) (d : Fin 64) (cc : Fin 256)
    (hc : cc.val = 64 * h.val + d.val) : lanes x (ix3 b r cc) = at4 x b.val r.val h.val d.val := by
  have hb := b.isLt
  have hr := r.isLt
  have hh := h.isLt
  have hd := d.isLt
  unfold lanes
  rw [shapeCast_apply _ _ (ix3 b r cc) (ix2 (⟨8192 * b.val + r.val, by omega⟩ : Fin 32768) cc)
    (by rewrite [Shape.rowMajor_val_two, Shape.rowMajor_val_three]; simp [ix3, ix2]; omega)]
  rw [narrow_apply]
  rw [shapeCast_apply _ _ _ (ix4 b r h d)
    (by rewrite [Shape.rowMajor_val_two, Shape.rowMajor_val_four]; simp [ix4, ix2]; omega), at4_fin]

end Cert.Mla
-- ==== Proof.Blocks.lean ====
/- The blocks of the operands at a point of the grid, read at an entry, and where a point's block of results lies. -/
module

public import proofs.«01_k».proof.Proof.Inputs
public import proofs.«01_k».proof.Proof.State
public import Idealize.ShloMosaic.Lib.Pipeline.ValueKit

@[expose] public section

noncomputable section

namespace Cert.Mla

open Idealize.ShloMosaic Idealize.ShloMosaic.TcCoe Idealize.ShloMosaic.StableHlo
open Cert.KernelIdeal Cert.KernelIdeal.Gen

variable (m : (ℓ : Loc nD τ sig) → Buf (Elt Ideal) ℓ)

/-- The grid's point of a batch, a pair of heads and a block of queries. -/
theorem coords_lt (t : Fin cfg0.N) : ((grid0.coords t) 0).val < 4 ∧ ((grid0.coords t) 1).val < 2 ∧ ((grid0.coords t) 2).val < 32 :=
  ⟨((grid0.coords t) 0).isLt, ((grid0.coords t) 1).isLt, ((grid0.coords t) 2).isLt⟩

/-- Where the queries' block lies. -/
theorem index_q (t : Fin cfg0.N) : win0_0.index t = ![((grid0.coords t) 0).val, ((grid0.coords t) 2).val, ((grid0.coords t) 1).val] := by
  have h := coords_lt t
  show cc0_transform_0 (grid0.coords t) = _
  unfold cc0_transform_0
  simp only [BitVec.toNat_ofNat]
  rw [Nat.mod_eq_of_lt (by omega), Nat.mod_eq_of_lt (by omega), Nat.mod_eq_of_lt (by omega)]

/-- Where the keys' block lies. -/
theorem index_k (t : Fin cfg0.N) : win0_1.index t = ![((grid0.coords t) 0).val, 0, ((grid0.coords t) 1).val] := by
  have h := coords_lt t
  show cc0_transform_1 (grid0.coords t) = _
  unfold cc0_transform_1
  simp only [BitVec.toNat_ofNat]
  rw [Nat.mod_eq_of_lt (a := ((grid0.coords t) 0).val) (by omega), Nat.mod_eq_of_lt (a := ((grid0.coords t) 1).val) (by omega)]

/-- Where the values' block lies. -/
theorem index_v (t : Fin cfg0.N) : win0_2.index t = ![((grid0.coords t) 0).val, 0, ((grid0.coords t) 1).val] := by
  have h := coords_lt t
  show cc0_transform_2 (grid0.coords t) = _
  unfold cc0_transform_2
  simp only [BitVec.toNat_ofNat]
  rw [Nat.mod_eq_of_lt (a := ((grid0.coords t) 0).val) (by omega), Nat.mod_eq_of_lt (a := ((grid0.coords t) 1).val) (by omega)]

/-- Where the results' block lies. -/
theorem index_o (t : Fin cfg0.N) : win0_3.index t = ![((grid0.coords t) 0).val, ((grid0.coords t) 2).val, ((grid0.coords t) 1).val] := by
  have h := coords_lt t
  show cc0_transform_3 (grid0.coords t) = _
  unfold cc0_transform_3
  simp only [BitVec.toNat_ofNat]
  rw [Nat.mod_eq_of_lt (by omega), Nat.mod_eq_of_lt (by omega), Nat.mod_eq_of_lt (by omega)]

/-- A read through the queries' block is a read of the array at the block's place. -/
theorem read_q (t : Fin cfg0.N) (y : ((cfg0.win 0).xblock (cfg0.grid.coords t)).Idx) (W : main_v14.ty.Contents (Elt Ideal)) :
    ((cfg0.win 0).blk t).view.read (Elt Ideal) W y = W (((cfg0.win 0).rect t).emb y) := by
  rw [View.read_apply]
  rfl

/-- Where an entry of the queries' block lies in the array. -/
theorem emb_q (t : Fin cfg0.N) (y : ((cfg0.win 0).xblock (cfg0.grid.coords t)).Idx) (k : S4x8192x512.Idx)
    (hk : ∀ a : Fin 3, (k a : ℕ) = win0_0.index t a * win0_0.size a + (y a : ℕ)) :
    ((cfg0.win 0).rect t).emb y = k :=
  funext fun a => Fin.ext ((Pipeline.Window.rect_emb_val win0_0 t y a).trans (hk a).symm)

/-- An entry of the queries' block. -/
theorem blk_q (c : Dev nD) (t : Fin cfg0.N) (y : ((cfg0.win 0).xblock (cfg0.grid.coords t)).Idx) (k : S4x8192x512.Idx)
    (hk : ∀ a : Fin 3, (k a : ℕ) = win0_0.index t a * win0_0.size a + (y a : ℕ)) :
    iblk m c 0 t y = V m c main_v14 k := by
  exact (read_q t y (V m c main_v14)).trans (congrArg (V m c main_v14) (emb_q t y k hk))

/-- A read through the keys' block is a read of the array at the block's place. -/
theorem read_k (t : Fin cfg0.N) (y : ((cfg0.win 1).xblock (cfg0.grid.coords t)).Idx) (W : main_v15.ty.Contents (Elt Ideal)) :
    ((cfg0.win 1).blk t).view.read (Elt Ideal) W y = W (((cfg0.win 1).rect t).emb y) := by
  rw [View.read_apply]
  rfl

/-- Where an entry of the keys' block lies in the array. -/
theorem emb_k (t : Fin cfg0.N) (y : ((cfg0.win 1).xblock (cfg0.grid.coords t)).Idx) (k : S4x8192x512.Idx)
    (hk : ∀ a : Fin 3, (k a : ℕ) = win0_1.index t a * win0_1.size a + (y a : ℕ)) :
    ((cfg0.win 1).rect t).emb y = k :=
  funext fun a => Fin.ext ((Pipeline.Window.rect_emb_val win0_1 t y a).trans (hk a).symm)

/-- An entry of the keys' block. -/
theorem blk_k (c : Dev nD) (t : Fin cfg0.N) (y : ((cfg0.win 1).xblock (cfg0.grid.coords t)).Idx) (k : S4x8192x512.Idx)
    (hk : ∀ a : Fin 3, (k a : ℕ) = win0_1.index t a * win0_1.size a + (y a : ℕ)) :
    iblk m c 1 t y = V m c main_v15 k := by
  exact (read_k t y (V m c main_v15)).trans (congrArg (V m c main_v15) (emb_k t y k hk))

/-- A read through the values' block is a read of the array at the block's place. -/
theorem read_v (t : Fin cfg0.N) (y : ((cfg0.win 2).xblock (cfg0.grid.coords t)).Idx) (W : main_v16.ty.Contents (Elt Ideal)) :
    ((cfg0.win 2).blk t).view.read (Elt Ideal) W y = W (((cfg0.win 2).rect t).emb y) := by
  rw [View.read_apply]
  rfl

/-- Where an entry of the values' block lies in the array. -/
theorem emb_v (t : Fin cfg0.N) (y : ((cfg0.win 2).xblock (cfg0.grid.coords t)).Idx) (k : S4x8192x256.Idx)
    (hk : ∀ a : Fin 3, (k a : ℕ) = win0_2.index t a * win0_2.size a + (y a : ℕ)) :
    ((cfg0.win 2).rect t).emb y = k :=
  funext fun a => Fin.ext ((Pipeline.Window.rect_emb_val win0_2 t y a).trans (hk a).symm)

/-- An entry of the values' block. -/
theorem blk_v (c : Dev nD) (t : Fin cfg0.N) (y : ((cfg0.win 2).xblock (cfg0.grid.coords t)).Idx) (k : S4x8192x256.Idx)
    (hk : ∀ a : Fin 3, (k a : ℕ) = win0_2.index t a * win0_2.size a + (y a : ℕ)) :
    iblk m c 2 t y = V m c main_v16 k := by
  exact (read_v t y (V m c main_v16)).trans (congrArg (V m c main_v16) (emb_v t y k hk))

/-- The scaled queries, entry by entry. -/
theorem at4_scaled (x : FVec Ideal S4x8192x4x96 .f32) (b r h d : ℕ) :
    at4 (mulf x (broadcastInDim S4x8192x4x96 ![] bcast_S_S4x8192x4x96 scaleS)) b r h d
      = at4 x b r h d * (((Real.sqrt 96)⁻¹ * (Real.log 2)⁻¹ : ℝ) : EReal) := by
  unfold at4
  split_ifs with hin
  · exact congrArg (_ * ·) (scaleS_apply _)
  · rw [zero_mul]

/-- A row of the queries' block: head `h` of the pair, lane `d`. -/
theorem nat_q (c : Dev nD) (t : Fin cfg0.N) (r : ℕ) (hr : r < 256) (h : Fin 2) (d : Fin 128) :
    natAt (R := 256) (C := 256) (iblk m c 0 t) r (128 * h.val + d.val)
      = if d.val < 96 then at4 (m ((c.tc : Thread nD τ).loc main_arg0) : FVec Ideal S4x8192x4x96 .f32) ((grid0.coords t) 0).val (256 * ((grid0.coords t) 2).val + r)
          (2 * ((grid0.coords t) 1).val + h.val) d.val * (((Real.sqrt 96)⁻¹ * (Real.log 2)⁻¹ : ℝ) : EReal) else 0 := by
  obtain ⟨h0, h1, h2⟩ := coords_lt t
  have hh := h.isLt
  have hd := d.isLt
  rw [natAt, dif_pos ⟨hr, by omega⟩, ← at4_scaled]
  have e := blk_q m c t (ix3 (0 : Fin 1) (⟨r, hr⟩ : Fin 256) (⟨128 * h.val + d.val, by omega⟩ : Fin 256))
    (ix3 (⟨((grid0.coords t) 0).val, h0⟩ : Fin 4) (⟨256 * ((grid0.coords t) 2).val + r, by omega⟩ : Fin 8192)
      (⟨256 * ((grid0.coords t) 1).val + (128 * h.val + d.val), by omega⟩ : Fin 512)) fun a => by
    rw [index_q]
    match a with
    | ⟨0, _⟩ => show ((grid0.coords t) 0).val = ((grid0.coords t) 0).val * 1 + 0; omega
    | ⟨1, _⟩ => show 256 * ((grid0.coords t) 2).val + r = ((grid0.coords t) 2).val * 256 + r; omega
    | ⟨2, _⟩ => show 256 * ((grid0.coords t) 1).val + (128 * h.val + d.val) = ((grid0.coords t) 1).val * 256 + (128 * h.val + d.val); omega
  refine e.trans ?_
  rw [V_q]
  exact heads_apply _ _ _ (⟨2 * ((grid0.coords t) 1).val + h.val, by omega⟩ : Fin 4) d _ (by
    show 256 * ((grid0.coords t) 1).val + (128 * h.val + d.val) = 128 * (2 * ((grid0.coords t) 1).val + h.val) + d.val
    omega)

/-- A row of the keys' block: head `h` of the pair, lane `d`. -/
theorem nat_k (c : Dev nD) (t : Fin cfg0.N) (j : ℕ) (h : Fin 2) (d : Fin 128) :
    natAt (R := 8192) (C := 256) (iblk m c 1 t) j (128 * h.val + d.val)
      = if d.val < 96 then at4 (m ((c.tc : Thread nD τ).loc main_arg1) : FVec Ideal S4x8192x4x96 .f32) ((grid0.coords t) 0).val j
          (2 * ((grid0.coords t) 1).val + h.val) d.val else 0 := by
  obtain ⟨h0, h1, h2⟩ := coords_lt t
  have hh := h.isLt
  have hd := d.isLt
  by_cases hj : j < 8192
  swap
  · rw [natAt, dif_neg fun hc => hj hc.1, at4, dif_neg fun hc => hj hc.2.1, ite_self]
  rw [natAt, dif_pos ⟨hj, by omega⟩]
  have e := blk_k m c t (ix3 (0 : Fin 1) (⟨j, hj⟩ : Fin 8192) (⟨128 * h.val + d.val, by omega⟩ : Fin 256))
    (ix3 (⟨((grid0.coords t) 0).val, h0⟩ : Fin 4) (⟨j, hj⟩ : Fin 8192)
      (⟨256 * ((grid0.coords t) 1).val + (128 * h.val + d.val), by omega⟩ : Fin 512)) fun a => by
    rw [index_k]
    match a with
    | ⟨0, _⟩ => show ((grid0.coords t) 0).val = ((grid0.coords t) 0).val * 1 + 0; omega
    | ⟨1, _⟩ => show j = 0 * 8192 + j; omega
    | ⟨2, _⟩ => show 256 * ((grid0.coords t) 1).val + (128 * h.val + d.val) = ((grid0.coords t) 1).val * 256 + (128 * h.val + d.val); omega
  refine e.trans ?_
  rw [V_k]
  exact heads_apply _ _ _ (⟨2 * ((grid0.coords t) 1).val + h.val, by omega⟩ : Fin 4) d _ (by
    show 256 * ((grid0.coords t) 1).val + (128 * h.val + d.val) = 128 * (2 * ((grid0.coords t) 1).val + h.val) + d.val
    omega)

/-- A row of the values' block: lane `l` of the pair of heads. -/
theorem nat_v (c : Dev nD) (t : Fin cfg0.N) (j l : ℕ) (hl : l < 128) :
    natAt (R := 8192) (C := 128) (iblk m c 2 t) j l
      = at4 (m ((c.tc : Thread nD τ).loc main_arg2) : FVec Ideal S4x8192x4x64 .f32) ((grid0.coords t) 0).val j
          (2 * ((grid0.coords t) 1).val + l / 64) (l % 64) := by
  obtain ⟨h0, h1, h2⟩ := coords_lt t
  by_cases hj : j < 8192
  swap
  · rw [natAt, dif_neg fun hc => hj hc.1, at4, dif_neg fun hc => hj hc.2.1]
  rw [natAt, dif_pos ⟨hj, hl⟩]
  have e := blk_v m c t (ix3 (0 : Fin 1) (⟨j, hj⟩ : Fin 8192) (⟨l, hl⟩ : Fin 128))
    (ix3 (⟨((grid0.coords t) 0).val, h0⟩ : Fin 4) (⟨j, hj⟩ : Fin 8192)
      (⟨128 * ((grid0.coords t) 1).val + l, by omega⟩ : Fin 256)) fun a => by
    rw [index_v]
    match a with
    | ⟨0, _⟩ => show ((grid0.coords t) 0).val = ((grid0.coords t) 0).val * 1 + 0; omega
    | ⟨1, _⟩ => show j = 0 * 8192 + j; omega
    | ⟨2, _⟩ => show 128 * ((grid0.coords t) 1).val + l = ((grid0.coords t) 1).val * 128 + l; omega
  refine e.trans ?_
  rw [V_v]
  exact lanes_apply _ _ _ (⟨2 * ((grid0.coords t) 1).val + l / 64, by omega⟩ : Fin 4) (⟨l % 64, by omega⟩ : Fin 64) _ (by
    show 128 * ((grid0.coords t) 1).val + l = 64 * (2 * ((grid0.coords t) 1).val + l / 64) + l % 64
    omega)

end Cert.Mla
-- ==== Proof.Out.lean ====
/- What the kernel writes for one block of queries.

   The block's full tiles of 1024 keys are taken without a mask; of the last tile a key after the query counts `⊥`.
   The left 64 lanes of the block come from head 0 of the pair, the right 64 from head 1. -/
module

public import proofs.«01_k».proof.Proof.State

@[expose] public section

noncomputable section

namespace Cert.Mla

open Idealize.ShloMosaic Cert.KernelIdeal

/-- The scores of the last tile, in the block `b` of queries: `⊥` after the query. -/
def last (x0 : Vec Ideal S1x256x256 .bf16) (x1 : Vec Ideal S1x8192x256 .bf16) (b : ℕ) (h : Fin 2) (r j : ℕ) : EReal :=
  if j ≤ 256 * b + r then raw x0 x1 h r j else ⊥

/-- One head's result: the weighted sum of the values divided by the sum of the weights. -/
def quot (x0 : Vec Ideal S1x256x256 .bf16) (x1 : Vec Ideal S1x8192x256 .bf16) (x2 : Vec Ideal S1x8192x128 .bf16) (b : ℕ)
    (h : Fin 2) (r lane : ℕ) : EReal :=
  Ideal.div (aF (raw x0 x1 h r) (last x0 x1 b h r) (vrow x2 lane) (b / 4) (256 * (b % 4 + 1)))
    (lF (raw x0 x1 h r) (last x0 x1 b h r) (b / 4) (256 * (b % 4 + 1)))

/-- The block of results of the block `b` of queries. -/
def outV (b : ℕ) (x0 : Vec Ideal S1x256x256 .bf16) (x1 : Vec Ideal S1x8192x256 .bf16) (x2 : Vec Ideal S1x8192x128 .bf16) :
    Vec Ideal S1x256x128 .f32 := fun i =>
  if (i 2).val < 64 then quot x0 x1 x2 b 0 (i 1).val (i 2).val else quot x0 x1 x2 b 1 (i 1).val (i 2).val

end Cert.Mla
-- ==== Proof.Rows.lean ====
/- What one point of the grid leaves is the attention of its rows, when queries and keys are finite. -/
module

public import proofs.«01_k».proof.Proof.Blocks
public import proofs.«01_k».proof.Proof.Out

@[expose] public section

noncomputable section

namespace Cert.Mla

open Idealize.ShloMosaic Idealize.ShloMosaic.TcCoe
open Cert.KernelIdeal Cert.KernelIdeal.Gen

/-- Every entry of an array is a real number. -/
def Finite {s : Shape} (x : s.Idx → EReal) : Prop := ∀ i, ∃ r : ℝ, x i = (r : EReal)

/-- A finite array, read at natural coordinates, is real there. -/
theorem at4_real {A B C D : ℕ} (x : (⟨4, ![A, B, C, D]⟩ : Shape).Idx → EReal) (hx : Finite x) (a b c d : ℕ) :
    ∃ r : ℝ, at4 x a b c d = (r : EReal) := by
  unfold at4
  split_ifs
  · exact hx _
  · exact ⟨0, rfl⟩

/-- A sum over 128 lanes of which the last 32 are zero. -/
theorem sum_pad (f : ℕ → EReal) : (∑ d : Fin 128, if d.val < 96 then f d.val else 0) = ∑ d : Fin 96, f d.val := by
  rw [Fin.sum_univ_eq_sum_range (fun d => if d < 96 then f d else 0), Fin.sum_univ_eq_sum_range f,
    ← Finset.sum_subset (Finset.range_subset_range.mpr (by norm_num : 96 ≤ 128)) fun d _ hd => if_neg fun h => hd (Finset.mem_range.mpr h)]
  exact Finset.sum_congr rfl fun d hd => if_pos (Finset.mem_range.mp hd)

section Score

variable (q k : (⟨4, ![4, 8192, 4, 96]⟩ : Shape).Idx → EReal) (hq : Finite q) (hk : Finite k)
include hq hk

/-- The products of a query and a key are finite; so is the score, and scaling each lane of the query by
    `1 / (√96 · log 2)` scales the score by `1 / log 2`. -/
theorem scaled (b h r j : ℕ) :
    (score q k b h r j ≠ ⊤ ∧ score q k b h r j ≠ ⊥)
    ∧ (∑ d : Fin 96, at4 q b r h d.val * (((Real.sqrt 96)⁻¹ * (Real.log 2)⁻¹ : ℝ) : EReal) * at4 k b j h d.val)
        = score q k b h r j * (((Real.log 2)⁻¹ : ℝ) : EReal) := by
  choose qr hqr using fun d : ℕ => at4_real q hq b r h d
  choose kr hkr using fun d : ℕ => at4_real k hk b j h d
  have hs : (0 : ℝ) < Real.sqrt 96 := Real.sqrt_pos.mpr (by norm_num)
  have e : score q k b h r j = (((∑ d : Fin 96, qr d.val * kr d.val) * (Real.sqrt 96)⁻¹ : ℝ) : EReal) := by
    unfold score dotp Ideal.div
    rw [if_neg (by rw [EReal.coe_eq_zero]; positivity), ← EReal.coe_inv, EReal.coe_mul, coe_sum]
    simp only [hqr, hkr, EReal.coe_mul]
  rw [e]
  refine ⟨⟨EReal.coe_ne_top _, EReal.coe_ne_bot _⟩, ?_⟩
  simp only [hqr, hkr, ← EReal.coe_mul]
  rw [← coe_sum]
  refine congrArg Real.toEReal ?_
  rw [Finset.sum_mul, Finset.sum_mul]
  exact Finset.sum_congr rfl fun d _ => by ring

end Score

variable (m : (ℓ : Loc nD τ sig) → Buf (Elt Ideal) ℓ) (c : Dev nD)

/-- The queries. -/
abbrev Q : FVec Ideal S4x8192x4x96 .f32 := m ((c.tc : Thread nD τ).loc main_arg0)
/-- The keys. -/
abbrev K : FVec Ideal S4x8192x4x96 .f32 := m ((c.tc : Thread nD τ).loc main_arg1)
/-- The values. -/
abbrev W : FVec Ideal S4x8192x4x64 .f32 := m ((c.tc : Thread nD τ).loc main_arg2)

variable (hq : Finite (Q m c)) (hk : Finite (K m c))
include hq hk

/-- The kernel's scores are the scores in units of `log 2`. -/
theorem raw_eq (t : Fin cfg0.N) (h : Fin 2) (r : ℕ) (hr : r < 256) (j : ℕ) :
    raw (iblk m c 0 t) (iblk m c 1 t) h r j
      = score (Q m c) (K m c) ((grid0.coords t) 0).val (2 * ((grid0.coords t) 1).val + h.val) (256 * ((grid0.coords t) 2).val + r) j
        * (((Real.log 2)⁻¹ : ℝ) : EReal) := by
  rw [← (scaled (Q m c) (K m c) hq hk _ _ _ _).2, ← sum_pad fun d => at4 (Q m c) ((grid0.coords t) 0).val (256 * ((grid0.coords t) 2).val + r) (2 * ((grid0.coords t) 1).val + h.val) d * (((Real.sqrt 96)⁻¹ * (Real.log 2)⁻¹ : ℝ) : EReal)
      * at4 (K m c) ((grid0.coords t) 0).val j (2 * ((grid0.coords t) 1).val + h.val) d]
  unfold raw
  refine Finset.sum_congr rfl fun d _ => ?_
  rw [nat_q m c t r hr h d, nat_k m c t j h d]
  split_ifs
  · rfl
  · rw [mul_zero]

/-- A head's quotient is its lane of the attention. -/
theorem quot_eq (t : Fin cfg0.N) (h : Fin 2) (r : ℕ) (hr : r < 256) (l : ℕ) (hl : l < 128) (hlh : l / 64 = h.val) :
    quot (iblk m c 0 t) (iblk m c 1 t) (iblk m c 2 t) ((grid0.coords t) 2).val h r l
      = att (Q m c) (K m c) (W m c) ((grid0.coords t) 0).val (2 * ((grid0.coords t) 1).val + h.val)
          (256 * ((grid0.coords t) 2).val + r) (l % 64) := by
  obtain ⟨h0, h1, h2⟩ := coords_lt t
  refine (row_softmax (raw (iblk m c 0 t) (iblk m c 1 t) h r)
    (score (Q m c) (K m c) ((grid0.coords t) 0).val (2 * ((grid0.coords t) 1).val + h.val) (256 * ((grid0.coords t) 2).val + r))
    (vrow (iblk m c 2 t) l) (256 * ((grid0.coords t) 2).val + r) (((grid0.coords t) 2).val / 4)
    (256 * (((grid0.coords t) 2).val % 4 + 1)) 8192 (by omega) (by omega) (by omega) (by omega)
    (fun j => (scaled (Q m c) (K m c) hq hk _ _ _ j).1) (fun j => raw_eq m c hq hk t h r hr j)).trans ?_
  refine Finset.sum_congr rfl fun j _ => ?_
  refine congrArg₂ (· * ·) ?_ rfl
  exact (nat_v m c t j l hl).trans (by rw [hlh])

end Cert.Mla
-- ==== Proof.RunA.lean ====
/- The kernel's body as it runs with an even number of full tiles and a last tile of 256 keys.

   The body's triple, with the pieces that its stores leave in the result's buffer. Of the second scores buffer only the
   parts that were written are read, but what is written depends on its contents by name, so that the pieces are a
   function of these. -/
module

public import proofs.«01_k».proof.Proof.Gen.KernelIdeal.Frame.Runs

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runA (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : cond0_6 i) (hc7 : ¬cond0_7 i) (hc8 : ¬cond0_8 i) (hc9 : ¬cond0_9 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part22_eq_skeleton, k0_part23_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc5 | sl_exact hc6 | sl_exact hc7 | sl_exact hc8 | sl_exact hc9)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.Words.lean ====
/- The kernel's index arithmetic: how many tiles a block of queries goes through and where each tile lies.

   Grid coordinate 2 numbers the block of 256 query rows, from 0 to 31. Its full tiles of 1024 keys are
   `(i 2) / 4`; they are taken two at a time, one more if their number is odd, and then the last tile, of
   `256 * ((i 2) % 4 + 1)` keys. -/
module

public import proofs.«01_k».proof.Proof.Gen.KernelIdeal.Skeleton
public import Idealize.ShloMosaic.Lib.Scf

@[expose] public section

noncomputable section

namespace Cert.Mla

open Idealize.ShloMosaic Cert.KernelIdeal Cert.KernelIdeal.Gen

/-- The pairs of full tiles. -/
theorem trips1 (i : grid0.Coords) : (k0_t1_loop i).trips = (i 2).val / 8 := by
  unfold k0_t1_loop
  generalize i 2 = a
  revert a
  decide +kernel

/-- The second loop makes no trip. -/
theorem trips2 (i : grid0.Coords) : (k0_t2_loop i).trips = 0 := by
  unfold k0_t2_loop
  generalize i 2 = a
  revert a
  decide +kernel

/-- A pair's index is small. -/
theorem trip_lt (i : grid0.Coords) (k : Fin (k0_t1_loop i).trips) : k.val < 4 := by
  have h := k.isLt
  have h2 : (i 2).val < 32 := (i 2).isLt
  have := trips1 i
  omega

/-- In a pair of full tiles, where the second tile's keys lie. -/
theorem off1_1 (i : grid0.Coords) (k : Fin (k0_t1_loop i).trips) : k0_off1 i k 1#32 = ![0, 1024 * (2 * k.val + 1), 0] := by
  have h := trip_lt i k
  unfold k0_off1
  generalize k.val = a at h ⊢
  interval_cases a <;> rfl

/-- In a pair of full tiles, where the next pair's first tile's keys lie. -/
theorem off1_2 (i : grid0.Coords) (k : Fin (k0_t1_loop i).trips) : k0_off1 i k 2#32 = ![0, 1024 * (2 * k.val + 2), 0] := by
  have h := trip_lt i k
  unfold k0_off1
  generalize k.val = a at h ⊢
  interval_cases a <;> rfl

/-- In a pair of full tiles, where the first tile's values lie. -/
theorem off2_1 (i : grid0.Coords) (k : Fin (k0_t1_loop i).trips) : k0_off2 i k = ![0, 1024 * (2 * k.val), 0] := by
  have h := trip_lt i k
  unfold k0_off2
  generalize k.val = a at h ⊢
  interval_cases a <;> rfl

/-- In a pair of full tiles, where the second tile's values lie. -/
theorem off3_1 (i : grid0.Coords) (k : Fin (k0_t1_loop i).trips) : k0_off3 i k = ![0, 1024 * (2 * k.val + 1), 0] := by
  have h := trip_lt i k
  unfold k0_off3
  generalize k.val = a at h ⊢
  interval_cases a <;> rfl

/-- The first tile's keys lie at the beginning. -/
theorem words_zero : (![0, 0, 0] : Fin 3 → ℕ) 1 = 0 ∧ (![0, 0, 0] : Fin 3 → ℕ) 2 = 0 := ⟨rfl, rfl⟩

/-- With an odd number of full tiles, where the keys of the last tile lie. -/
theorem off7_1 (i : grid0.Coords) (h : (i 2).val / 4 % 2 = 1) : k0_off7 i = ![0, 1024 * ((i 2).val / 4), 0] := by
  unfold k0_off7
  generalize i 2 = a at h ⊢
  revert a
  decide +kernel

/-- With an odd number of full tiles, where the values of the odd full tile lie. -/
theorem off8_1 (i : grid0.Coords) (h : (i 2).val / 4 % 2 = 1) : k0_off8 i = ![0, 1024 * ((i 2).val / 4 - 1), 0] := by
  unfold k0_off8
  generalize i 2 = a at h ⊢
  revert a
  decide +kernel

/-- Where the last tile's values lie (1 of the eight ways the kernel ends). -/
theorem off9_1 (i : grid0.Coords) : k0_off9 i = ![0, 1024 * ((i 2).val / 4), 0] := by
  unfold k0_off9
  generalize i 2 = a
  revert a
  decide +kernel

/-- Where the last tile's values lie (2 of the eight ways the kernel ends). -/
theorem off10_1 (i : grid0.Coords) : k0_off10 i = ![0, 1024 * ((i 2).val / 4), 0] := by
  unfold k0_off10
  generalize i 2 = a
  revert a
  decide +kernel

/-- Where the last tile's values lie (3 of the eight ways the kernel ends). -/
theorem off11_1 (i : grid0.Coords) : k0_off11 i = ![0, 1024 * ((i 2).val / 4), 0] := by
  unfold k0_off11
  generalize i 2 = a
  revert a
  decide +kernel

/-- Where the last tile's values lie (4 of the eight ways the kernel ends). -/
theorem off12_1 (i : grid0.Coords) : k0_off12 i = ![0, 1024 * ((i 2).val / 4), 0] := by
  unfold k0_off12
  generalize i 2 = a
  revert a
  decide +kernel

/-- Where the last tile's values lie (5 of the eight ways the kernel ends). -/
theorem off13_1 (i : grid0.Coords) : k0_off13 i = ![0, 1024 * ((i 2).val / 4), 0] := by
  unfold k0_off13
  generalize i 2 = a
  revert a
  decide +kernel

/-- Where the last tile's values lie (6 of the eight ways the kernel ends). -/
theorem off14_1 (i : grid0.Coords) : k0_off14 i = ![0, 1024 * ((i 2).val / 4), 0] := by
  unfold k0_off14
  generalize i 2 = a
  revert a
  decide +kernel

/-- Where the last tile's values lie (7 of the eight ways the kernel ends). -/
theorem off15_1 (i : grid0.Coords) : k0_off15 i = ![0, 1024 * ((i 2).val / 4), 0] := by
  unfold k0_off15
  generalize i 2 = a
  revert a
  decide +kernel

/-- Where the last tile's values lie (8 of the eight ways the kernel ends). -/
theorem off16_1 (i : grid0.Coords) : k0_off16 i = ![0, 1024 * ((i 2).val / 4), 0] := by
  unfold k0_off16
  generalize i 2 = a
  revert a
  decide +kernel

/-- The condition of the odd full tile, not met: the number of full tiles is even. -/
theorem cond1_no (i : grid0.Coords) (h : ¬k0_cond1 i = 1#1) : (i 2).val / 4 % 2 = 0 := by
  unfold k0_cond1 at h
  generalize i 2 = a at h ⊢
  revert a
  decide +kernel

/-- The condition of the odd full tile, met: the number of full tiles is odd. -/
theorem cond1_yes (i : grid0.Coords) (h : k0_cond1 i = 1#1) : (i 2).val / 4 % 2 = 1 := by
  unfold k0_cond1 at h
  generalize i 2 = a at h ⊢
  revert a
  decide +kernel

/-- A condition on the last tile's width, met: the width is 256. -/
theorem cond2_yes (i : grid0.Coords) (h : k0_cond2 i = 1#1) : (i 2).val % 4 = 0 := by
  unfold k0_cond2 at h
  generalize i 2 = a at h ⊢
  revert a
  decide +kernel

/-- A condition on the last tile's width, met: the width is 512. -/
theorem cond3_yes (i : grid0.Coords) (h : k0_cond3 i = 1#1) : (i 2).val % 4 = 1 := by
  unfold k0_cond3 at h
  generalize i 2 = a at h ⊢
  revert a
  decide +kernel

/-- A condition on the last tile's width, met: the width is 768. -/
theorem cond4_yes (i : grid0.Coords) (h : k0_cond4 i = 1#1) : (i 2).val % 4 = 2 := by
  unfold k0_cond4 at h
  generalize i 2 = a at h ⊢
  revert a
  decide +kernel

/-- A condition on the last tile's width, met: the width is 1024. -/
theorem cond5_yes (i : grid0.Coords) (h : k0_cond5 i = 1#1) : (i 2).val % 4 = 3 := by
  unfold k0_cond5 at h
  generalize i 2 = a at h ⊢
  revert a
  decide +kernel

/-- A condition on the last tile's width, met: the width is 256. -/
theorem cond7_yes (i : grid0.Coords) (h : k0_cond7 i = 1#1) : (i 2).val % 4 = 0 := by
  unfold k0_cond7 at h
  generalize i 2 = a at h ⊢
  revert a
  decide +kernel

/-- A condition on the last tile's width, met: the width is 512. -/
theorem cond8_yes (i : grid0.Coords) (h : k0_cond8 i = 1#1) : (i 2).val % 4 = 1 := by
  unfold k0_cond8 at h
  generalize i 2 = a at h ⊢
  revert a
  decide +kernel

/-- A condition on the last tile's width, met: the width is 768. -/
theorem cond9_yes (i : grid0.Coords) (h : k0_cond9 i = 1#1) : (i 2).val % 4 = 2 := by
  unfold k0_cond9 at h
  generalize i 2 = a at h ⊢
  revert a
  decide +kernel

/-- A condition on the last tile's width, met: the width is 1024. -/
theorem cond10_yes (i : grid0.Coords) (h : k0_cond10 i = 1#1) : (i 2).val % 4 = 3 := by
  unfold k0_cond10 at h
  generalize i 2 = a at h ⊢
  revert a
  decide +kernel

/-- The block's number as a word. -/
theorem block_word (i : grid0.Coords) : (BitVec.ofNat 32 (i 2).val).toNat = (i 2).val := by
  generalize i 2 = a
  revert a
  decide +kernel

/-- A block's number is small. -/
theorem block_lt (i : grid0.Coords) : (i 2).val < 32 := (i 2).isLt

end Cert.Mla
-- ==== Proof.Trip.lean ====
/- One trip of the kernel's loop over pairs of full tiles.

   A trip absorbs two tiles of 1024 keys into the running numbers of both heads, and leaves in its scores buffer the
   scores of the tile after them. So it takes the state after `2 k` tiles to the state after `2 k + 2`, and the whole
   loop takes the state after no tile to the state after all pairs. -/
module

public import proofs.«01_k».proof.Proof.Gen.KernelIdeal.Loops
public import proofs.«01_k».proof.Proof.Ops
public import proofs.«01_k».proof.Proof.Reads
public import proofs.«01_k».proof.Proof.State
public import proofs.«01_k».proof.Proof.Words

@[expose] public section

noncomputable section

namespace Cert.Mla

open Idealize.ShloMosaic Cert.KernelIdeal Cert.KernelIdeal.Gen

set_option maxHeartbeats 1000000 in
/-- One trip: from the state after `n = 2 k` tiles to the state after `n + 2`. -/
theorem step (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole)
    (w2 w17 w36 w65 : BitVec 32) (x0 : Vec Ideal S1x256x256 .bf16) (x1 : Vec Ideal S1x8192x256 .bf16) (x2 : Vec Ideal S1x8192x128 .bf16)
    (k : Fin (k0_t1_loop i).trips)
    (f7 : BufTy.Contents (Elt Ideal) arg7.view.ty) (f8 : BufTy.Contents (Elt Ideal) arg8.view.ty) (f9 : BufTy.Contents (Elt Ideal) arg9.view.ty)
    (f10 : BufTy.Contents (Elt Ideal) arg10.view.ty) (f11 : BufTy.Contents (Elt Ideal) arg11.view.ty) (n : ℕ) (hn : n = 2 * k.val)
    (I : Inv x0 x1 x2 n (arg7.view.read (Elt Ideal) f7) (arg9.view.read (Elt Ideal) f9) (arg10.view.read (Elt Ideal) f10) (arg11.view.read (Elt Ideal) f11))
    (T) (hT : T = tripL_k0_t1 (F := Ideal) Variants.none c none i arg3 harg3 arg4 harg4 arg5 harg5 arg6 harg6 arg7 harg7 arg8 harg8 arg9 harg9 arg10 harg10 arg11 harg11 w2 w17 w36 w65 (harg3.unread x0) (harg4.unread x1) (harg5.unread x2) k f7 f8 f9 f10 f11) :
    Inv x0 x1 x2 (n + 2) (arg7.view.read (Elt Ideal) (arg7.view.writes (Elt Ideal) f7 T.1)) (arg9.view.read (Elt Ideal) (arg9.view.writes (Elt Ideal) f9 T.2.2.1))
      (arg10.view.read (Elt Ideal) (arg10.view.writes (Elt Ideal) f10 T.2.2.2.1)) (arg11.view.read (Elt Ideal) (arg11.view.writes (Elt Ideal) f11 T.2.2.2.2)) := by
  subst hT
  subst hn
  unfold tripL_k0_t1 trip_k0_t1
  dsimp only
  simp only [trip_k0_t1.sl.v221, trip_k0_t1.sl.v260, trip_k0_t1.sl.v203, trip_k0_t1.sl.v281, trip_k0_t1.sl.v219,
    trip_k0_t1.sl.v139, trip_k0_t1.sl.v265, trip_k0_t1.sl.v282, trip_k0_t1.sl.v266, trip_k0_t1.sl.v188,
    trip_k0_t1.sl.v213, trip_k0_t1.sl.v184, trip_k0_t1.sl.v288, trip_k0_t1.sl.v283, trip_k0_t1.sl.v216,
    trip_k0_t1.sl.v269, trip_k0_t1.sl.v201, trip_k0_t1.sl.v144, trip_k0_t1.sl.v293, trip_k0_t1.sl.v169,
    trip_k0_t1.sl.HW_arg9_2, trip_k0_t1.sl.cst_112, trip_k0_t1.sl.cst_87, trip_k0_t1.sl.v147, trip_k0_t1.sl.v153,
    trip_k0_t1.sl.arg12, trip_k0_t1.sl.v267, trip_k0_t1.sl.HW_arg10_3, trip_k0_t1.sl.v206, trip_k0_t1.sl.v151,
    trip_k0_t1.sl.v243, trip_k0_t1.sl.v161, trip_k0_t1.sl.v275, trip_k0_t1.sl.v150, trip_k0_t1.sl.v231,
    trip_k0_t1.sl.v167, trip_k0_t1.sl.v198, trip_k0_t1.sl.v263, trip_k0_t1.sl.v173, trip_k0_t1.sl.v204,
    trip_k0_t1.sl.v268, trip_k0_t1.sl.v295, trip_k0_t1.sl.v165, trip_k0_t1.sl.HW_arg10_2, trip_k0_t1.sl.v234,
    trip_k0_t1.sl.v250, trip_k0_t1.sl.v232, trip_k0_t1.sl.v199, trip_k0_t1.sl.HW_arg8_2, trip_k0_t1.sl.v166,
    trip_k0_t1.sl.v212, trip_k0_t1.sl.HW_arg11_2, trip_k0_t1.sl.v236, trip_k0_t1.sl.v157, trip_k0_t1.sl.cst_119,
    trip_k0_t1.sl.v217, trip_k0_t1.sl.v208, trip_k0_t1.sl.v185, trip_k0_t1.sl.cst_108, trip_k0_t1.sl.v279,
    trip_k0_t1.sl.v152, trip_k0_t1.sl.v177, trip_k0_t1.sl.v272, trip_k0_t1.sl.v210, trip_k0_t1.sl.v175,
    trip_k0_t1.sl.v262, trip_k0_t1.sl.v197, trip_k0_t1.sl.v143, trip_k0_t1.sl.v170, trip_k0_t1.sl.v179,
    trip_k0_t1.sl.v159, trip_k0_t1.sl.v136, trip_k0_t1.sl.v192, trip_k0_t1.sl.v246, trip_k0_t1.sl.v218,
    trip_k0_t1.sl.v294, trip_k0_t1.sl.v284, trip_k0_t1.sl.v135, trip_k0_t1.sl.v168, trip_k0_t1.sl.v304,
    trip_k0_t1.sl.v248, trip_k0_t1.sl.v247, trip_k0_t1.sl.v137, trip_k0_t1.sl.v261, trip_k0_t1.sl.v202,
    trip_k0_t1.sl.v141, trip_k0_t1.sl.v229, trip_k0_t1.sl.v280, trip_k0_t1.sl.v271, trip_k0_t1.sl.v176,
    trip_k0_t1.sl.v239, trip_k0_t1.sl.v154, trip_k0_t1.sl.v187, trip_k0_t1.sl.v226, trip_k0_t1.sl.v205,
    trip_k0_t1.sl.v182, trip_k0_t1.sl.v195, trip_k0_t1.sl.v186, trip_k0_t1.sl.v285, trip_k0_t1.sl.v200,
    trip_k0_t1.sl.v291, trip_k0_t1.sl.v172, trip_k0_t1.sl.v292, trip_k0_t1.sl.v313, trip_k0_t1.sl.HW_arg11_3,
    trip_k0_t1.sl.v155, trip_k0_t1.sl.v211, trip_k0_t1.sl.v223, trip_k0_t1.sl.v145, trip_k0_t1.sl.v259,
    trip_k0_t1.sl.v264, trip_k0_t1.sl.v249, trip_k0_t1.sl.v189, trip_k0_t1.sl.v207, trip_k0_t1.sl.v171,
    trip_k0_t1.sl.v148, trip_k0_t1.sl.v240, trip_k0_t1.sl.v220, trip_k0_t1.sl.v178, trip_k0_t1.sl.v273,
    trip_k0_t1.sl.v257, trip_k0_t1.sl.v274, trip_k0_t1.sl.v258, trip_k0_t1.sl.v209, trip_k0_t1.sl.HW_arg9_3,
    trip_k0_t1.sl.v270, trip_k0_t1.sl.v222, trip_k0_t1.sl.v278, trip_k0_t1.sl.v163]
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  constructor
  all_goals
    intros
    simp only [put00, put01, put10, put11, put_both, get0, get1, getNat, View.readCov, View.writes_append, rowMax1024,
      rowSum1024, col_apply, spread_apply, flat_apply, unflat_apply, cols0, cols128, scores_apply, mix1024_apply,
      mask_eq, Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add]
    simp only [I.s0, I.s1, I.m0, I.m1, I.l0, I.l1, I.a0, I.a1, raw_zero, raw_one, mS, lS, aS, vrow]
    try rfl

/-- The loop: after `k` trips the kernel is in the state after `2 k` tiles. -/
theorem loop (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole)
    (w2 w17 w36 w65 : BitVec 32) (x0 : Vec Ideal S1x256x256 .bf16) (x1 : Vec Ideal S1x8192x256 .bf16) (x2 : Vec Ideal S1x8192x128 .bf16)
    (G7 : BufTy.Contents (Elt Ideal) arg7.view.ty) (G8 : BufTy.Contents (Elt Ideal) arg8.view.ty) (G9 : BufTy.Contents (Elt Ideal) arg9.view.ty)
    (G10 : BufTy.Contents (Elt Ideal) arg10.view.ty) (G11 : BufTy.Contents (Elt Ideal) arg11.view.ty)
    (I : Inv x0 x1 x2 0 (arg7.view.read (Elt Ideal) G7) (arg9.view.read (Elt Ideal) G9) (arg10.view.read (Elt Ideal) G10)
      (arg11.view.read (Elt Ideal) G11)) (k : ℕ) (hk : k ≤ (k0_t1_loop i).trips) :
    Inv x0 x1 x2 (2 * k)
      (arg7.view.read (Elt Ideal) (arg7.view.writes (Elt Ideal) G7 (pb_k0_t1 (F := Ideal) Variants.none c none i arg3 harg3 arg4 harg4 arg5 harg5 arg6 harg6 arg7 harg7 arg8 harg8 arg9 harg9 arg10 harg10 arg11 harg11 w2 w17 w36 w65 (harg3.unread x0) (harg4.unread x1) (harg5.unread x2) G7 G8 G9 G10 G11 k).1))
      (arg9.view.read (Elt Ideal) (arg9.view.writes (Elt Ideal) G9 (pb_k0_t1 (F := Ideal) Variants.none c none i arg3 harg3 arg4 harg4 arg5 harg5 arg6 harg6 arg7 harg7 arg8 harg8 arg9 harg9 arg10 harg10 arg11 harg11 w2 w17 w36 w65 (harg3.unread x0) (harg4.unread x1) (harg5.unread x2) G7 G8 G9 G10 G11 k).2.2.1))
      (arg10.view.read (Elt Ideal) (arg10.view.writes (Elt Ideal) G10 (pb_k0_t1 (F := Ideal) Variants.none c none i arg3 harg3 arg4 harg4 arg5 harg5 arg6 harg6 arg7 harg7 arg8 harg8 arg9 harg9 arg10 harg10 arg11 harg11 w2 w17 w36 w65 (harg3.unread x0) (harg4.unread x1) (harg5.unread x2) G7 G8 G9 G10 G11 k).2.2.2.1))
      (arg11.view.read (Elt Ideal) (arg11.view.writes (Elt Ideal) G11 (pb_k0_t1 (F := Ideal) Variants.none c none i arg3 harg3 arg4 harg4 arg5 harg5 arg6 harg6 arg7 harg7 arg8 harg8 arg9 harg9 arg10 harg10 arg11 harg11 w2 w17 w36 w65 (harg3.unread x0) (harg4.unread x1) (harg5.unread x2) G7 G8 G9 G10 G11 k).2.2.2.2)) := by
  induction k with
  | zero => exact I
  | succ k ih =>
    have h := step c i arg3 harg3 arg4 harg4 arg5 harg5 arg6 harg6 arg7 harg7 arg8 harg8 arg9 harg9 arg10 harg10 arg11 harg11 w2 w17 w36 w65 x0 x1 x2 ⟨k, hk⟩ _
      (arg8.view.writes (Elt Ideal) G8 (pb_k0_t1 (F := Ideal) Variants.none c none i arg3 harg3 arg4 harg4 arg5 harg5 arg6 harg6 arg7 harg7 arg8 harg8 arg9 harg9 arg10 harg10 arg11 harg11 w2 w17 w36 w65 (harg3.unread x0) (harg4.unread x1) (harg5.unread x2) G7 G8 G9 G10 G11 k).2.1) _ _ _ (2 * k) rfl (ih (Nat.le_of_succ_le hk)) _ rfl
    rw [pb_k0_t1_succ (F := Ideal) Variants.none c none i arg3 harg3 arg4 harg4 arg5 harg5 arg6 harg6 arg7 harg7 arg8 harg8 arg9 harg9 arg10 harg10 arg11 harg11 w2 w17 w36 w65 (harg3.unread x0) (harg4.unread x1)
      (harg5.unread x2) G7 G8 G9 G10 G11 ⟨k, hk⟩]
    simp only [View.writes_append]
    exact h

end Cert.Mla
-- ==== Proof.Last.lean ====
/- The last tile's operations, read at an index: the mask, the choice of a head by the lane, and the result's store. -/
module

public import proofs.«01_k».proof.Proof.Gen.KernelIdeal.Loops
public import proofs.«01_k».proof.Proof.Ops
public import proofs.«01_k».proof.Proof.Reads
public import proofs.«01_k».proof.Proof.Words

@[expose] public section

noncomputable section

namespace Cert.Mla

open Idealize.ShloMosaic Cert.KernelIdeal Cert.KernelIdeal.Gen

/-- The mask of a last tile of 256 keys: a key after the query counts as the named constant says. -/
theorem masked256 (a n : BitVec 32) (ax0 ax1 : List (Fin 2)) (hx0 : ax0 = [0]) (hx1 : ax1 = [1]) (ha : a.toNat < 32) (hn : n.toNat < 8)
    (x y : FVec Ideal S256x256 .f32) (h0 h1) (r : Fin 256) (c : Fin 256) :
    select (cmpi .sle (subi (iota .tc S256x256 32 ax1 h1) (iota .tc S256x256 32 ax0 h0))
      (broadcast S256x256 (Scalar.subi (Scalar.muli a 256#32) (Scalar.muli n 1024#32)))) x y (ix2 r c)
      = if 1024 * n.toNat + c.val ≤ 256 * a.toNat + r.val then x (ix2 r c) else y (ix2 r c) := by
  subst hx0 hx1
  exact masked_apply (by decide) a n ha hn x y _ _ r c

/-- The mask of a last tile of 512 keys: a key after the query counts as the named constant says. -/
theorem masked512 (a n : BitVec 32) (ax0 ax1 : List (Fin 2)) (hx0 : ax0 = [0]) (hx1 : ax1 = [1]) (ha : a.toNat < 32) (hn : n.toNat < 8)
    (x y : FVec Ideal S256x512 .f32) (h0 h1) (r : Fin 256) (c : Fin 512) :
    select (cmpi .sle (subi (iota .tc S256x512 32 ax1 h1) (iota .tc S256x512 32 ax0 h0))
      (broadcast S256x512 (Scalar.subi (Scalar.muli a 256#32) (Scalar.muli n 1024#32)))) x y (ix2 r c)
      = if 1024 * n.toNat + c.val ≤ 256 * a.toNat + r.val then x (ix2 r c) else y (ix2 r c) := by
  subst hx0 hx1
  exact masked_apply (by decide) a n ha hn x y _ _ r c

/-- The mask of a last tile of 768 keys: a key after the query counts as the named constant says. -/
theorem masked768 (a n : BitVec 32) (ax0 ax1 : List (Fin 2)) (hx0 : ax0 = [0]) (hx1 : ax1 = [1]) (ha : a.toNat < 32) (hn : n.toNat < 8)
    (x y : FVec Ideal S256x768 .f32) (h0 h1) (r : Fin 256) (c : Fin 768) :
    select (cmpi .sle (subi (iota .tc S256x768 32 ax1 h1) (iota .tc S256x768 32 ax0 h0))
      (broadcast S256x768 (Scalar.subi (Scalar.muli a 256#32) (Scalar.muli n 1024#32)))) x y (ix2 r c)
      = if 1024 * n.toNat + c.val ≤ 256 * a.toNat + r.val then x (ix2 r c) else y (ix2 r c) := by
  subst hx0 hx1
  exact masked_apply (by decide) a n ha hn x y _ _ r c

/-- The mask of a last tile of 1024 keys: a key after the query counts as the named constant says. -/
theorem masked1024 (a n : BitVec 32) (ax0 ax1 : List (Fin 2)) (hx0 : ax0 = [0]) (hx1 : ax1 = [1]) (ha : a.toNat < 32) (hn : n.toNat < 8)
    (x y : FVec Ideal S256x1024 .f32) (h0 h1) (r : Fin 256) (c : Fin 1024) :
    select (cmpi .sle (subi (iota .tc S256x1024 32 ax1 h1) (iota .tc S256x1024 32 ax0 h0))
      (broadcast S256x1024 (Scalar.subi (Scalar.muli a 256#32) (Scalar.muli n 1024#32)))) x y (ix2 r c)
      = if 1024 * n.toNat + c.val ≤ 256 * a.toNat + r.val then x (ix2 r c) else y (ix2 r c) := by
  subst hx0 hx1
  exact masked_apply (by decide) a n ha hn x y _ _ r c

/-- The choice of a head by the lane: the left 64 lanes from the first. -/
theorem lane_apply (ax : List (Fin 2)) (hx : ax = [1]) (x y : FVec Ideal S256x128 .f32) (h0 h1 h2) (r : Fin 256) (c : Fin 128) :
    select (broadcastTo S256x128 (shapeCast S1x128 (cmpi .slt (iota .tc S1x128 32 ax h0) (broadcast S1x128 64#32)) h1) h2) x y (ix2 r c)
      = if c.val < 64 then x (ix2 r c) else y (ix2 r c) := by
  subst hx
  pointwise
  have e : IntOp.cmpi .slt (BitVec.ofNat 32 c.val) 64#32 = BitVec.ofBool (decide (c.val < 64)) := by
    revert c
    decide +kernel
  rw [e]
  by_cases h : c.val < 64 <;> simp [h, Scalar.select]

/-- The result's store, read. -/
theorem put_out {sig : RefSig} {κ : Kind} {sp : Space} {Val : EltTy → Type} {e : EltTy} (v : View sig κ sp ⟨3, ![1, 256, 128]⟩ e)
    (f : v.ty.Contents Val)
    (inb : ∀ a, (![0, 0, 0] : Fin 3 → ℕ) a + (⟨3, ![1, 256, 128]⟩ : Shape).size a ≤ (⟨3, ![1, 256, 128]⟩ : Shape).size a)
    (w : (Rect.unit (s := ⟨3, ![1, 256, 128]⟩) ![0, 0, 0] ![1, 256, 128] inb).shape.Idx → Val e)
    (L : List (View.Piece Val ⟨3, ![1, 256, 128]⟩ e)) (z : Fin 1) (r : Fin 256) (c : Fin 128) :
    v.read Val (v.writes Val f (⟨Rect.unit ![0, 0, 0] ![1, 256, 128] inb, w⟩ :: L)) (ix3 z r c) = w (ix3 z r c) :=
  congrFun (View.read_writes_full v f inb w L) (ix3 z r c)

/-- An index of a block of results, by its coordinates. -/
theorem idx_eq (j : S1x256x128.Idx) : ∃ (z : Fin 1) (r : Fin 256) (c : Fin 128), j = ix3 z r c :=
  ⟨j 0, j 1, j 2, funext fun a => by
    match a with
    | ⟨0, _⟩ => rfl
    | ⟨1, _⟩ => rfl
    | ⟨2, _⟩ => rfl⟩

/-- The zeros the sums start from. -/
theorem zero1 (h : S2x256x1.ShapeCasts S2x256x1) (a : S2x256x1.Idx) :
    shapeCast S2x256x1 (broadcast S2x256x1 (FloatOps.ofBits (F := Ideal) FTy.f32 0#32)) h a = 0 :=
  Ideal.ofBits_zero_f32

/-- The zeros the weighted sums start from. -/
theorem zero128 (h : S2x256x128.ShapeCasts S2x256x128) (a : S2x256x128.Idx) :
    shapeCast S2x256x128 (broadcast S2x256x128 (FloatOps.ofBits (F := Ideal) FTy.f32 0#32)) h a = 0 :=
  Ideal.ofBits_zero_f32

/-- The second loop, which makes no trip, stores nothing. -/
theorem none2 (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole)
    (w2 w17 w36 w65 w69 : BitVec 32) X3 X4 X5 G7 G8 G9 G10 G11 (N : ℕ) :
    pb_k0_t2 (F := Ideal) Variants.none c none i arg3 harg3 arg4 harg4 arg5 harg5 arg6 harg6 arg7 harg7 arg8 harg8 arg9 harg9 arg10 harg10 arg11 harg11 w2 w17 w36 w65 w69 X3 X4 X5 G7 G8 G9 G10 G11
      N = ([], [], [], [], []) := by
  have h : (k0_t2_loop i).trips = 0 := trips2 i
  induction N with
  | zero => rfl
  | succ N ih =>
    rw [pb_k0_t2.eq_2]
    unfold pb_k0_t2Step
    rw [dif_neg (by omega)]
    exact ih

end Cert.Mla
-- ==== Proof.EndA.lean ====
/- What the body leaves with an even number of full tiles and a last tile of 256 keys. -/
module

public import proofs.«01_k».proof.Proof.RunA
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesA (i : grid0.Coords) : (runA.sl.v17 i).toNat = (i 2).val / 4 := by
  simp only [runA.sl.v13, runA.sl.v12, runA.sl.v2, runA.sl.v6, runA.sl.v15, runA.sl.v17, runA.sl.v5, runA.sl.v14, runA.sl.v4,
    runA.sl.v0, runA.sl.v3, runA.sl.v1, runA.sl.v16]
  generalize i 2 = a
  revert a
  decide +kernel

/-- Before the first tile the kernel is in the state after no tile. -/
theorem startA (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runA.sl.HS0_2 c arg3 harg3 arg4 harg4 x0 x1)))
      (arg9.view.read (Elt Ideal) (arg9.view.writes (Elt Ideal) arg9.view.junk runA.sl.HS2_1))
      (arg10.view.read (Elt Ideal) (arg10.view.writes (Elt Ideal) arg10.view.junk runA.sl.HS3_1))
      (arg11.view.read (Elt Ideal) (arg11.view.writes (Elt Ideal) arg11.view.junk runA.sl.HS4_1)) := by
  simp only [runA.sl.v39, runA.sl.v40, runA.sl.v44, runA.sl.HS0_2, runA.sl.HS3_1, runA.sl.v45, runA.sl.v37, runA.sl.v47,
    runA.sl.v33, runA.sl.cst_20, runA.sl.HS4_1, runA.sl.v35, runA.sl.HS2_1, runA.sl.v36, runA.sl.v46, runA.sl.v42,
    runA.sl.v43]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endA (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : cond0_6 i) (hc7 : ¬cond0_7 i) (hc8 : ¬cond0_8 i) (hc9 : ¬cond0_9 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runA c i arg3 harg3 arg4 harg4 arg5 harg5 arg6 harg6 arg7 harg7 arg8 harg8 arg9 harg9 arg10 harg10 arg11 harg11 hc0 hc5 hc6 hc7 hc8 hc9 x0 x1 x2).1 f8)) = outV (i 2).val x0 x1 x2 := by
  have hb : (i 2).val % 4 = 0 := cond7_yes i hc6
  have hodd : (i 2).val / 4 % 2 = 0 := cond1_no i hc0
  have ha : (BitVec.ofNat 32 (i 2).val).toNat < 32 := by
    rw [block_word]
    exact block_lt i
  have hn : (runA.sl.v17 i).toNat < 8 := by
    rw [tilesA]
    have := block_lt i
    omega
  have I := loop c i arg3 harg3 arg4 harg4 arg5 harg5 arg6 harg6 arg7 harg7 arg8 harg8 arg9 harg9 arg10 harg10 arg11 harg11 (BitVec.ofNat 32 (i 2).val) (runA.sl.v17 i) (0#32) (runA.sl.v65 i) x0 x1 x2 _ f8 _ _ _
    (startA c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 := by
    have : Scf.trips (k0_t1_loop i).lb (k0_t1_loop i).ub (k0_t1_loop i).st = _ := trips1 i
    omega
  rw [ht] at I
  unfold runA
  dsimp only
  funext j
  obtain ⟨z, r, cc, rfl⟩ := idx_eq j
  simp -proj only [runA.sl.v39, runA.sl.v68, runA.sl.v40, runA.sl.r_6, runA.sl.v216, runA.sl.v71, runA.sl.v239, runA.sl.v62,
    runA.sl.r_3, runA.sl.v64, runA.sl.HS4_2, runA.sl.v13, runA.sl.v123, runA.sl.v82, runA.sl.v60, runA.sl.r_1,
    runA.sl.v44, runA.sl.v74, runA.sl.r_8, runA.sl.v49, runA.sl.v180, runA.sl.v51, runA.sl.v45, runA.sl.v117,
    runA.sl.r, runA.sl.v37, runA.sl.r_5, runA.sl.v47, runA.sl.HS3_1_1, runA.sl.HS2_1_1, runA.sl.v48, runA.sl.v70,
    runA.sl.v12, runA.sl.v2, runA.sl.v81, runA.sl.v6, runA.sl.v15, runA.sl.v33, runA.sl.HS3_2, runA.sl.v5,
    runA.sl.v14, runA.sl.v67, runA.sl.v73, runA.sl.r_2, runA.sl.r_7, runA.sl.v4, runA.sl.v85, runA.sl.v72,
    runA.sl.v83, runA.sl.v0, runA.sl.cst_20, runA.sl.v194, runA.sl.v53, runA.sl.v119, runA.sl.v86, runA.sl.v35,
    runA.sl.v52, runA.sl.v3, runA.sl.v36, runA.sl.v87, runA.sl.v230, runA.sl.v46, runA.sl.v59, runA.sl.v125,
    runA.sl.v63, runA.sl.v42, runA.sl.v1, runA.sl.v84, runA.sl.v220, runA.sl.HS4_1_1, runA.sl.v61, runA.sl.v43,
    runA.sl.v16, runA.sl.v184, runA.sl.v75, runA.sl.v50, runA.sl.v203, runA.sl.r_4]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    rowMax256, rowSum256, mix256_apply, lane_apply, put_out, List.nil_append, ValueIdx.broadcast_apply, divf_apply,
    Ideal.divf_def, off9_1, off10_1, off11_1, off12_1, off13_1, off14_1, off15_1, off16_1, masked256 _ _ _ _ rfl
    rfl ha hn]

  simp only [I.s0, I.s1, I.m0, I.m1, I.l0, I.l1, I.a0, I.a1, tilesA, block_word]
  simp only [outV, quot, hb]
  rfl

end Cert.Mla
-- ==== Proof.RunB.lean ====
/- The kernel's body as it runs with an even number of full tiles and a last tile of 512 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunA

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runB (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : ¬cond0_6 i) (hc7 : cond0_7 i) (hc8 : ¬cond0_8 i) (hc9 : ¬cond0_9 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part24_eq_skeleton, k0_part25_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc5 | sl_exact hc6 | sl_exact hc7 | sl_exact hc8 | sl_exact hc9)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndB.lean ====
/- What the body leaves with an even number of full tiles and a last tile of 512 keys. -/
module

public import proofs.«01_k».proof.Proof.RunB
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesB (i : grid0.Coords) : (runB.sl.v17 i).toNat = (i 2).val / 4 := by
  simp only [runB.sl.v5, runB.sl.v12, runB.sl.v4, runB.sl.v3, runB.sl.v16, runB.sl.v2, runB.sl.v17, runB.sl.v1, runB.sl.v15,
    runB.sl.v13, runB.sl.v14, runB.sl.v0, runB.sl.v6]
  generalize i 2 = a
  revert a
  decide +kernel

/-- Before the first tile the kernel is in the state after no tile. -/
theorem startB (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runB.sl.HS0_2 c arg3 harg3 arg4 harg4 x0 x1)))
      (arg9.view.read (Elt Ideal) (arg9.view.writes (Elt Ideal) arg9.view.junk runB.sl.HS2_1))
      (arg10.view.read (Elt Ideal) (arg10.view.writes (Elt Ideal) arg10.view.junk runB.sl.HS3_1))
      (arg11.view.read (Elt Ideal) (arg11.view.writes (Elt Ideal) arg11.view.junk runB.sl.HS4_1)) := by
  simp only [runB.sl.v40, runB.sl.HS4_1, runB.sl.v45, runB.sl.v39, runB.sl.v37, runB.sl.v43, runB.sl.v47, runB.sl.v44,
    runB.sl.HS0_2, runB.sl.HS2_1, runB.sl.v36, runB.sl.cst_20, runB.sl.v33, runB.sl.v35, runB.sl.v42, runB.sl.v46,
    runB.sl.HS3_1]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endB (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : ¬cond0_6 i) (hc7 : cond0_7 i) (hc8 : ¬cond0_8 i) (hc9 : ¬cond0_9 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runB c i arg3 harg3 arg4 harg4 arg5 harg5 arg6 harg6 arg7 harg7 arg8 harg8 arg9 harg9 arg10 harg10 arg11 harg11 hc0 hc5 hc6 hc7 hc8 hc9 x0 x1 x2).1 f8)) = outV (i 2).val x0 x1 x2 := by
  have hb : (i 2).val % 4 = 1 := cond8_yes i hc7
  have hodd : (i 2).val / 4 % 2 = 0 := cond1_no i hc0
  have ha : (BitVec.ofNat 32 (i 2).val).toNat < 32 := by
    rw [block_word]
    exact block_lt i
  have hn : (runB.sl.v17 i).toNat < 8 := by
    rw [tilesB]
    have := block_lt i
    omega
  have I := loop c i arg3 harg3 arg4 harg4 arg5 harg5 arg6 harg6 arg7 harg7 arg8 harg8 arg9 harg9 arg10 harg10 arg11 harg11 (BitVec.ofNat 32 (i 2).val) (runB.sl.v17 i) (0#32) (runB.sl.v65 i) x0 x1 x2 _ f8 _ _ _
    (startB c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 := by
    have : Scf.trips (k0_t1_loop i).lb (k0_t1_loop i).ub (k0_t1_loop i).st = _ := trips1 i
    omega
  rw [ht] at I
  unfold runB
  dsimp only
  funext j
  obtain ⟨z, r, cc, rfl⟩ := idx_eq j
  simp -proj only [runB.sl.v5, runB.sl.v40, runB.sl.v86, runB.sl.r_3, runB.sl.v61, runB.sl.v12, runB.sl.v45, runB.sl.v125,
    runB.sl.v49, runB.sl.r_7, runB.sl.v203, runB.sl.v68, runB.sl.v39, runB.sl.v4, runB.sl.v37, runB.sl.v60,
    runB.sl.v83, runB.sl.v52, runB.sl.v43, runB.sl.v47, runB.sl.v48, runB.sl.v3, runB.sl.v73, runB.sl.v51,
    runB.sl.v16, runB.sl.r_1, runB.sl.v75, runB.sl.v230, runB.sl.v70, runB.sl.v117, runB.sl.v123, runB.sl.v44,
    runB.sl.v71, runB.sl.HS2_1_1, runB.sl.v85, runB.sl.r_6, runB.sl.v216, runB.sl.HS3_2, runB.sl.v184, runB.sl.v36,
    runB.sl.v81, runB.sl.v180, runB.sl.v119, runB.sl.r_2, runB.sl.v82, runB.sl.v59, runB.sl.v2, runB.sl.cst_20,
    runB.sl.v74, runB.sl.v33, runB.sl.r_5, runB.sl.v35, runB.sl.r_4, runB.sl.v1, runB.sl.HS3_1_1, runB.sl.v42,
    runB.sl.v67, runB.sl.HS4_1_1, runB.sl.v46, runB.sl.v63, runB.sl.v15, runB.sl.v194, runB.sl.v87, runB.sl.v13,
    runB.sl.v220, runB.sl.v64, runB.sl.v62, runB.sl.v14, runB.sl.r, runB.sl.v0, runB.sl.v53, runB.sl.v50,
    runB.sl.v72, runB.sl.r_8, runB.sl.v6, runB.sl.HS4_2, runB.sl.v239, runB.sl.v84]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    rowMax512, rowSum512, mix512_apply, lane_apply, put_out, List.nil_append, ValueIdx.broadcast_apply, divf_apply,
    Ideal.divf_def, off9_1, off10_1, off11_1, off12_1, off13_1, off14_1, off15_1, off16_1, masked512 _ _ _ _ rfl
    rfl ha hn]

  simp only [I.s0, I.s1, I.m0, I.m1, I.l0, I.l1, I.a0, I.a1, tilesB, block_word]
  simp only [outV, quot, hb]
  rfl

end Cert.Mla
-- ==== Proof.RunC.lean ====
/- The kernel's body as it runs with an even number of full tiles and a last tile of 768 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunB

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runC (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : ¬cond0_6 i) (hc7 : ¬cond0_7 i) (hc8 : cond0_8 i) (hc9 : ¬cond0_9 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part26_eq_skeleton, k0_part27_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc5 | sl_exact hc6 | sl_exact hc7 | sl_exact hc8 | sl_exact hc9)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndC.lean ====
/- What the body leaves with an even number of full tiles and a last tile of 768 keys. -/
module

public import proofs.«01_k».proof.Proof.RunC
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesC (i : grid0.Coords) : (runC.sl.v17 i).toNat = (i 2).val / 4 := by
  simp only [runC.sl.v6, runC.sl.v3, runC.sl.v4, runC.sl.v15, runC.sl.v17, runC.sl.v1, runC.sl.v12, runC.sl.v0, runC.sl.v14,
    runC.sl.v16, runC.sl.v5, runC.sl.v2, runC.sl.v13]
  generalize i 2 = a
  revert a
  decide +kernel

/-- Before the first tile the kernel is in the state after no tile. -/
theorem startC (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runC.sl.HS0_2 c arg3 harg3 arg4 harg4 x0 x1)))
      (arg9.view.read (Elt Ideal) (arg9.view.writes (Elt Ideal) arg9.view.junk runC.sl.HS2_1))
      (arg10.view.read (Elt Ideal) (arg10.view.writes (Elt Ideal) arg10.view.junk runC.sl.HS3_1))
      (arg11.view.read (Elt Ideal) (arg11.view.writes (Elt Ideal) arg11.view.junk runC.sl.HS4_1)) := by
  simp only [runC.sl.HS4_1, runC.sl.HS2_1, runC.sl.v40, runC.sl.v46, runC.sl.v36, runC.sl.HS0_2, runC.sl.v35, runC.sl.v39,
    runC.sl.v47, runC.sl.v44, runC.sl.cst_20, runC.sl.v45, runC.sl.v37, runC.sl.v43, runC.sl.HS3_1, runC.sl.v33,
    runC.sl.v42]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endC (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : ¬cond0_6 i) (hc7 : ¬cond0_7 i) (hc8 : cond0_8 i) (hc9 : ¬cond0_9 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runC c i arg3 harg3 arg4 harg4 arg5 harg5 arg6 harg6 arg7 harg7 arg8 harg8 arg9 harg9 arg10 harg10 arg11 harg11 hc0 hc5 hc6 hc7 hc8 hc9 x0 x1 x2).1 f8)) = outV (i 2).val x0 x1 x2 := by
  have hb : (i 2).val % 4 = 2 := cond9_yes i hc8
  have hodd : (i 2).val / 4 % 2 = 0 := cond1_no i hc0
  have ha : (BitVec.ofNat 32 (i 2).val).toNat < 32 := by
    rw [block_word]
    exact block_lt i
  have hn : (runC.sl.v17 i).toNat < 8 := by
    rw [tilesC]
    have := block_lt i
    omega
  have I := loop c i arg3 harg3 arg4 harg4 arg5 harg5 arg6 harg6 arg7 harg7 arg8 harg8 arg9 harg9 arg10 harg10 arg11 harg11 (BitVec.ofNat 32 (i 2).val) (runC.sl.v17 i) (0#32) (runC.sl.v65 i) x0 x1 x2 _ f8 _ _ _
    (startC c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 := by
    have : Scf.trips (k0_t1_loop i).lb (k0_t1_loop i).ub (k0_t1_loop i).st = _ := trips1 i
    omega
  rw [ht] at I
  unfold runC
  dsimp only
  funext j
  obtain ⟨z, r, cc, rfl⟩ := idx_eq j
  simp -proj only [runC.sl.v6, runC.sl.v51, runC.sl.v84, runC.sl.v125, runC.sl.v3, runC.sl.v63, runC.sl.v50, runC.sl.v70, runC.sl.v67,
    runC.sl.v4, runC.sl.v73, runC.sl.v40, runC.sl.v46, runC.sl.HS2_1_1, runC.sl.r_7, runC.sl.v85, runC.sl.v36,
    runC.sl.v216, runC.sl.v71, runC.sl.v15, runC.sl.HS4_2, runC.sl.v203, runC.sl.r_2, runC.sl.v123, runC.sl.v59,
    runC.sl.v230, runC.sl.HS3_1_1, runC.sl.r_4, runC.sl.v35, runC.sl.r_3, runC.sl.v62, runC.sl.v74, runC.sl.v82,
    runC.sl.v1, runC.sl.v39, runC.sl.r_8, runC.sl.v12, runC.sl.v0, runC.sl.v239, runC.sl.v47, runC.sl.v53,
    runC.sl.v44, runC.sl.v87, runC.sl.v119, runC.sl.cst_20, runC.sl.r_1, runC.sl.v45, runC.sl.v37, runC.sl.v43,
    runC.sl.v14, runC.sl.v86, runC.sl.v64, runC.sl.HS3_2, runC.sl.v180, runC.sl.v49, runC.sl.r_5, runC.sl.v61,
    runC.sl.v75, runC.sl.r_6, runC.sl.v16, runC.sl.v48, runC.sl.v81, runC.sl.v68, runC.sl.HS4_1_1, runC.sl.v220,
    runC.sl.v33, runC.sl.v5, runC.sl.v83, runC.sl.r, runC.sl.v72, runC.sl.v42, runC.sl.v52, runC.sl.v2,
    runC.sl.v117, runC.sl.v13, runC.sl.v194, runC.sl.v60, runC.sl.v184]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    rowMax768, rowSum768, mix768_apply, lane_apply, put_out, List.nil_append, ValueIdx.broadcast_apply, divf_apply,
    Ideal.divf_def, off9_1, off10_1, off11_1, off12_1, off13_1, off14_1, off15_1, off16_1, masked768 _ _ _ _ rfl
    rfl ha hn]

  simp only [I.s0, I.s1, I.m0, I.m1, I.l0, I.l1, I.a0, I.a1, tilesC, block_word]
  simp only [outV, quot, hb]
  rfl

end Cert.Mla
-- ==== Proof.RunD.lean ====
/- The kernel's body as it runs with an even number of full tiles and a last tile of 1024 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunC

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runD (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : ¬cond0_6 i) (hc7 : ¬cond0_7 i) (hc8 : ¬cond0_8 i) (hc9 : cond0_9 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc5 | sl_exact hc6 | sl_exact hc7 | sl_exact hc8 | sl_exact hc9)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndD.lean ====
/- What the body leaves with an even number of full tiles and a last tile of 1024 keys. -/
module

public import proofs.«01_k».proof.Proof.RunD
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesD (i : grid0.Coords) : (runD.sl.v17 i).toNat = (i 2).val / 4 := by
  simp only [runD.sl.v16, runD.sl.v4, runD.sl.v1, runD.sl.v0, runD.sl.v14, runD.sl.v6, runD.sl.v5, runD.sl.v12, runD.sl.v13,
    runD.sl.v2, runD.sl.v15, runD.sl.v17, runD.sl.v3]
  generalize i 2 = a
  revert a
  decide +kernel

/-- Before the first tile the kernel is in the state after no tile. -/
theorem startD (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runD.sl.HS0_2 c arg3 harg3 arg4 harg4 x0 x1)))
      (arg9.view.read (Elt Ideal) (arg9.view.writes (Elt Ideal) arg9.view.junk runD.sl.HS2_1))
      (arg10.view.read (Elt Ideal) (arg10.view.writes (Elt Ideal) arg10.view.junk runD.sl.HS3_1))
      (arg11.view.read (Elt Ideal) (arg11.view.writes (Elt Ideal) arg11.view.junk runD.sl.HS4_1)) := by
  simp only [runD.sl.v37, runD.sl.v42, runD.sl.v47, runD.sl.HS4_1, runD.sl.v43, runD.sl.v46, runD.sl.v36, runD.sl.v44,
    runD.sl.v33, runD.sl.v35, runD.sl.HS3_1, runD.sl.cst_20, runD.sl.HS0_2, runD.sl.v45, runD.sl.HS2_1,
    runD.sl.v39, runD.sl.v40]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endD (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : ¬cond0_0 i) (hc5 : cond0_5 i) (hc6 : ¬cond0_6 i) (hc7 : ¬cond0_7 i) (hc8 : ¬cond0_8 i) (hc9 : cond0_9 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runD c i arg3 harg3 arg4 harg4 arg5 harg5 arg6 harg6 arg7 harg7 arg8 harg8 arg9 harg9 arg10 harg10 arg11 harg11 hc0 hc5 hc6 hc7 hc8 hc9 x0 x1 x2).1 f8)) = outV (i 2).val x0 x1 x2 := by
  have hb : (i 2).val % 4 = 3 := cond10_yes i hc9
  have hodd : (i 2).val / 4 % 2 = 0 := cond1_no i hc0
  have ha : (BitVec.ofNat 32 (i 2).val).toNat < 32 := by
    rw [block_word]
    exact block_lt i
  have hn : (runD.sl.v17 i).toNat < 8 := by
    rw [tilesD]
    have := block_lt i
    omega
  have I := loop c i arg3 harg3 arg4 harg4 arg5 harg5 arg6 harg6 arg7 harg7 arg8 harg8 arg9 harg9 arg10 harg10 arg11 harg11 (BitVec.ofNat 32 (i 2).val) (runD.sl.v17 i) (0#32) (runD.sl.v65 i) x0 x1 x2 _ f8 _ _ _
    (startD c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 := by
    have : Scf.trips (k0_t1_loop i).lb (k0_t1_loop i).ub (k0_t1_loop i).st = _ := trips1 i
    omega
  rw [ht] at I
  unfold runD
  dsimp only
  funext j
  obtain ⟨z, r, cc, rfl⟩ := idx_eq j
  simp -proj only [runD.sl.v87, runD.sl.HS2_1_1, runD.sl.r_7, runD.sl.r_4, runD.sl.v61, runD.sl.v194, runD.sl.v239, runD.sl.v37,
    runD.sl.v82, runD.sl.HS3_1_1, runD.sl.v16, runD.sl.v86, runD.sl.v42, runD.sl.v83, runD.sl.v4, runD.sl.v47,
    runD.sl.r_6, runD.sl.v220, runD.sl.v184, runD.sl.v216, runD.sl.v43, runD.sl.v1, runD.sl.v230, runD.sl.v46,
    runD.sl.v36, runD.sl.v48, runD.sl.v70, runD.sl.v44, runD.sl.v59, runD.sl.v117, runD.sl.v33, runD.sl.v0,
    runD.sl.r_1, runD.sl.v123, runD.sl.v35, runD.sl.v64, runD.sl.v74, runD.sl.v14, runD.sl.r_5, runD.sl.v203,
    runD.sl.v6, runD.sl.r, runD.sl.v5, runD.sl.v51, runD.sl.v71, runD.sl.HS4_2, runD.sl.v119, runD.sl.v12,
    runD.sl.cst_20, runD.sl.v13, runD.sl.HS3_2, runD.sl.v50, runD.sl.v2, runD.sl.v15, runD.sl.v60, runD.sl.HS4_1_1,
    runD.sl.v81, runD.sl.v85, runD.sl.v67, runD.sl.v84, runD.sl.v53, runD.sl.r_8, runD.sl.v45, runD.sl.v52,
    runD.sl.r_2, runD.sl.v72, runD.sl.v73, runD.sl.v39, runD.sl.v49, runD.sl.v68, runD.sl.v180, runD.sl.v63,
    runD.sl.r_3, runD.sl.v75, runD.sl.v40, runD.sl.v3, runD.sl.v125, runD.sl.v62]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    lane_apply, put_out, List.nil_append, ValueIdx.broadcast_apply, divf_apply, Ideal.divf_def, off9_1, off10_1,
    off11_1, off12_1, off13_1, off14_1, off15_1, off16_1, masked1024 _ _ _ _ rfl rfl ha hn]

  simp only [I.s0, I.s1, I.m0, I.m1, I.l0, I.l1, I.a0, I.a1, tilesD, block_word]
  simp only [outV, quot, hb]
  rfl

end Cert.Mla
-- ==== Proof.RunE.lean ====
/- The kernel's body as it runs with an odd number of full tiles and a last tile of 256 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunD

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runE (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : cond0_1 i) (hc2 : ¬cond0_2 i) (hc3 : ¬cond0_3 i) (hc4 : ¬cond0_4 i) (hc5 : ¬cond0_5 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part19_eq_skeleton, k0_part20_eq_skeleton, k0_part21_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndE.lean ====
/- What the body leaves with an odd number of full tiles and a last tile of 256 keys. -/
module

public import proofs.«01_k».proof.Proof.RunE
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesE (i : grid0.Coords) : (runE.sl.v17 i).toNat = (i 2).val / 4 := by
  simp only [runE.sl.v14, runE.sl.v4, runE.sl.v5, runE.sl.v13, runE.sl.v2, runE.sl.v1, runE.sl.v12, runE.sl.v15, runE.sl.v17,
    runE.sl.v16, runE.sl.v6, runE.sl.v0, runE.sl.v3]
  generalize i 2 = a
  revert a
  decide +kernel

/-- Before the first tile the kernel is in the state after no tile. -/
theorem startE (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runE.sl.HS0_2 c arg3 harg3 arg4 harg4 x0 x1)))
      (arg9.view.read (Elt Ideal) (arg9.view.writes (Elt Ideal) arg9.view.junk runE.sl.HS2_1))
      (arg10.view.read (Elt Ideal) (arg10.view.writes (Elt Ideal) arg10.view.junk runE.sl.HS3_1))
      (arg11.view.read (Elt Ideal) (arg11.view.writes (Elt Ideal) arg11.view.junk runE.sl.HS4_1)) := by
  simp only [runE.sl.HS3_1, runE.sl.v35, runE.sl.v40, runE.sl.v33, runE.sl.v37, runE.sl.v42, runE.sl.HS0_2, runE.sl.v39,
    runE.sl.cst_20, runE.sl.v47, runE.sl.HS2_1, runE.sl.v36, runE.sl.v45, runE.sl.v43, runE.sl.v46, runE.sl.HS4_1,
    runE.sl.v44]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endE (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : cond0_1 i) (hc2 : ¬cond0_2 i) (hc3 : ¬cond0_3 i) (hc4 : ¬cond0_4 i) (hc5 : ¬cond0_5 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runE c i arg3 harg3 arg4 harg4 arg5 harg5 arg6 harg6 arg7 harg7 arg8 harg8 arg9 harg9 arg10 harg10 arg11 harg11 hc0 hc1 hc2 hc3 hc4 hc5 x0 x1 x2).1 f8)) = outV (i 2).val x0 x1 x2 := by
  have hb : (i 2).val % 4 = 0 := cond2_yes i hc1
  have hodd : (i 2).val / 4 % 2 = 1 := cond1_yes i hc0
  have ha : (BitVec.ofNat 32 (i 2).val).toNat < 32 := by
    rw [block_word]
    exact block_lt i
  have hn : (runE.sl.v17 i).toNat < 8 := by
    rw [tilesE]
    have := block_lt i
    omega
  have I := loop c i arg3 harg3 arg4 harg4 arg5 harg5 arg6 harg6 arg7 harg7 arg8 harg8 arg9 harg9 arg10 harg10 arg11 harg11 (BitVec.ofNat 32 (i 2).val) (runE.sl.v17 i) (0#32) (runE.sl.v65 i) x0 x1 x2 _ f8 _ _ _
    (startE c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 - 1 := by
    have : Scf.trips (k0_t1_loop i).lb (k0_t1_loop i).ub (k0_t1_loop i).st = _ := trips1 i
    omega
  rw [ht] at I
  unfold runE
  dsimp only
  funext j
  obtain ⟨z, r, cc, rfl⟩ := idx_eq j
  simp -proj only [runE.sl.r_3, runE.sl.v193, runE.sl.v35, runE.sl.v194, runE.sl.v40, runE.sl.v149, runE.sl.v140, runE.sl.v230,
    runE.sl.v231, runE.sl.v75, runE.sl.v171, runE.sl.r_7, runE.sl.v123, runE.sl.v61, runE.sl.v233, runE.sl.v68,
    runE.sl.HS3_2, runE.sl.v14, runE.sl.v4, runE.sl.v198, runE.sl.v67, runE.sl.v136, runE.sl.v313, runE.sl.v184,
    runE.sl.v216, runE.sl.v205, runE.sl.v33, runE.sl.v74, runE.sl.v86, runE.sl.v175, runE.sl.HS1_2, runE.sl.HS4_2,
    runE.sl.v5, runE.sl.v207, runE.sl.v159, runE.sl.r_6, runE.sl.v209, runE.sl.v181, runE.sl.v190, runE.sl.r_5,
    runE.sl.v163, runE.sl.v37, runE.sl.v85, runE.sl.v204, runE.sl.v52, runE.sl.v210, runE.sl.HS3_4, runE.sl.v187,
    runE.sl.v53, runE.sl.v13, runE.sl.v309, runE.sl.HS4_3, runE.sl.r_1, runE.sl.v42, runE.sl.v2, runE.sl.v64,
    runE.sl.HS3_3, runE.sl.v71, runE.sl.v218, runE.sl.v146, runE.sl.v165, runE.sl.v173, runE.sl.v143, runE.sl.v228,
    runE.sl.v138, runE.sl.v60, runE.sl.v150, runE.sl.v72, runE.sl.v51, runE.sl.v59, runE.sl.v81, runE.sl.v199,
    runE.sl.v196, runE.sl.v183, runE.sl.v161, runE.sl.r_2, runE.sl.HS2_1_1, runE.sl.v39, runE.sl.v50, runE.sl.v1,
    runE.sl.v142, runE.sl.v200, runE.sl.v12, runE.sl.v221, runE.sl.HS2_2, runE.sl.cst_117, runE.sl.cst_20,
    runE.sl.v151, runE.sl.v47, runE.sl.v164, runE.sl.v197, runE.sl.v117, runE.sl.v153, runE.sl.v287, runE.sl.v125,
    runE.sl.v220, runE.sl.v135, runE.sl.v202, runE.sl.v182, runE.sl.v119, runE.sl.v277, runE.sl.v217,
    runE.sl.HS4_1_1, runE.sl.v15, runE.sl.HS3_1_1, runE.sl.v167, runE.sl.v160, runE.sl.v186, runE.sl.v49,
    runE.sl.v174, runE.sl.v180, runE.sl.v166, runE.sl.v63, runE.sl.v323, runE.sl.v16, runE.sl.cst_86, runE.sl.v157,
    runE.sl.v87, runE.sl.v6, runE.sl.v296, runE.sl.v206, runE.sl.v232, runE.sl.v170, runE.sl.v145, runE.sl.v177,
    runE.sl.v185, runE.sl.cst_110, runE.sl.v84, runE.sl.v208, runE.sl.v36, runE.sl.r, runE.sl.v73, runE.sl.v45,
    runE.sl.v201, runE.sl.v0, runE.sl.v227, runE.sl.v273, runE.sl.r_8, runE.sl.v219, runE.sl.v214, runE.sl.v224,
    runE.sl.v154, runE.sl.v155, runE.sl.v3, runE.sl.v215, runE.sl.v144, runE.sl.v147, runE.sl.v48, runE.sl.v169,
    runE.sl.v203, runE.sl.cst_106, runE.sl.r_4, runE.sl.HS1_1, runE.sl.v70, runE.sl.v332, runE.sl.v82,
    runE.sl.v168, runE.sl.v162, runE.sl.HS4_4, runE.sl.v83, runE.sl.v211, runE.sl.v43, runE.sl.v46, runE.sl.v176,
    runE.sl.v62, runE.sl.HS2_3, runE.sl.v172, runE.sl.v44, runE.sl.v195, runE.sl.v229]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    rowMax256, rowSum256, mix256_apply, lane_apply, put_out, List.nil_append, ValueIdx.broadcast_apply, divf_apply,
    Ideal.divf_def, off9_1, off10_1, off11_1, off12_1, off13_1, off14_1, off15_1, off16_1, off7_1 i hodd, off8_1 i
    hodd, masked256 _ _ _ _ rfl rfl ha hn]

  simp only [I.s0, I.s1, I.m0, I.m1, I.l0, I.l1, I.a0, I.a1, tilesE, block_word]
  obtain ⟨n, e⟩ : ∃ n, (i 2).val / 4 = n + 1 := ⟨(i 2).val / 4 - 1, by omega⟩
  simp only [outV, quot, hb, e, Nat.add_sub_cancel, raw_zero, raw_one]
  rfl

end Cert.Mla
-- ==== Proof.RunF.lean ====
/- The kernel's body as it runs with an odd number of full tiles and a last tile of 512 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunE

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runF (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : ¬cond0_1 i) (hc2 : cond0_2 i) (hc3 : ¬cond0_3 i) (hc4 : ¬cond0_4 i) (hc5 : ¬cond0_5 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part19_eq_skeleton, k0_part20_eq_skeleton, k0_part21_eq_skeleton, k0_part13_eq_skeleton, k0_part14_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndF.lean ====
/- What the body leaves with an odd number of full tiles and a last tile of 512 keys. -/
module

public import proofs.«01_k».proof.Proof.RunF
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesF (i : grid0.Coords) : (runF.sl.v17 i).toNat = (i 2).val / 4 := by
  simp only [runF.sl.v6, runF.sl.v5, runF.sl.v3, runF.sl.v16, runF.sl.v0, runF.sl.v14, runF.sl.v13, runF.sl.v17, runF.sl.v2,
    runF.sl.v12, runF.sl.v1, runF.sl.v15, runF.sl.v4]
  generalize i 2 = a
  revert a
  decide +kernel

/-- Before the first tile the kernel is in the state after no tile. -/
theorem startF (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runF.sl.HS0_2 c arg3 harg3 arg4 harg4 x0 x1)))
      (arg9.view.read (Elt Ideal) (arg9.view.writes (Elt Ideal) arg9.view.junk runF.sl.HS2_1))
      (arg10.view.read (Elt Ideal) (arg10.view.writes (Elt Ideal) arg10.view.junk runF.sl.HS3_1))
      (arg11.view.read (Elt Ideal) (arg11.view.writes (Elt Ideal) arg11.view.junk runF.sl.HS4_1)) := by
  simp only [runF.sl.v35, runF.sl.v47, runF.sl.HS2_1, runF.sl.v44, runF.sl.HS3_1, runF.sl.v43, runF.sl.v39, runF.sl.v37,
    runF.sl.v40, runF.sl.v46, runF.sl.v36, runF.sl.v42, runF.sl.HS4_1, runF.sl.v45, runF.sl.HS0_2, runF.sl.v33,
    runF.sl.cst_20]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endF (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : ¬cond0_1 i) (hc2 : cond0_2 i) (hc3 : ¬cond0_3 i) (hc4 : ¬cond0_4 i) (hc5 : ¬cond0_5 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runF c i arg3 harg3 arg4 harg4 arg5 harg5 arg6 harg6 arg7 harg7 arg8 harg8 arg9 harg9 arg10 harg10 arg11 harg11 hc0 hc1 hc2 hc3 hc4 hc5 x0 x1 x2).1 f8)) = outV (i 2).val x0 x1 x2 := by
  have hb : (i 2).val % 4 = 1 := cond3_yes i hc2
  have hodd : (i 2).val / 4 % 2 = 1 := cond1_yes i hc0
  have ha : (BitVec.ofNat 32 (i 2).val).toNat < 32 := by
    rw [block_word]
    exact block_lt i
  have hn : (runF.sl.v17 i).toNat < 8 := by
    rw [tilesF]
    have := block_lt i
    omega
  have I := loop c i arg3 harg3 arg4 harg4 arg5 harg5 arg6 harg6 arg7 harg7 arg8 harg8 arg9 harg9 arg10 harg10 arg11 harg11 (BitVec.ofNat 32 (i 2).val) (runF.sl.v17 i) (0#32) (runF.sl.v65 i) x0 x1 x2 _ f8 _ _ _
    (startF c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 - 1 := by
    have : Scf.trips (k0_t1_loop i).lb (k0_t1_loop i).ub (k0_t1_loop i).st = _ := trips1 i
    omega
  rw [ht] at I
  unfold runF
  dsimp only
  funext j
  obtain ⟨z, r, cc, rfl⟩ := idx_eq j
  simp -proj only [runF.sl.v50, runF.sl.v6, runF.sl.v35, runF.sl.v159, runF.sl.v149, runF.sl.v198, runF.sl.v163, runF.sl.v47,
    runF.sl.v202, runF.sl.v5, runF.sl.HS4_3, runF.sl.HS2_1_1, runF.sl.v229, runF.sl.v313, runF.sl.v296,
    runF.sl.v61, runF.sl.r_3, runF.sl.v3, runF.sl.v72, runF.sl.v204, runF.sl.v60, runF.sl.v73, runF.sl.v142,
    runF.sl.v117, runF.sl.v150, runF.sl.v228, runF.sl.v232, runF.sl.r_7, runF.sl.v199, runF.sl.v63, runF.sl.HS2_2,
    runF.sl.v171, runF.sl.r_6, runF.sl.v209, runF.sl.v205, runF.sl.HS3_2, runF.sl.v44, runF.sl.v210, runF.sl.r_5,
    runF.sl.v146, runF.sl.HS3_3, runF.sl.v215, runF.sl.v230, runF.sl.v185, runF.sl.v83, runF.sl.v203, runF.sl.v147,
    runF.sl.cst_110, runF.sl.HS1_2, runF.sl.v180, runF.sl.v43, runF.sl.v181, runF.sl.v184, runF.sl.v74,
    runF.sl.v195, runF.sl.v84, runF.sl.v135, runF.sl.v16, runF.sl.v211, runF.sl.v165, runF.sl.v160, runF.sl.v173,
    runF.sl.v39, runF.sl.r, runF.sl.v218, runF.sl.v231, runF.sl.v0, runF.sl.v51, runF.sl.v201, runF.sl.v172,
    runF.sl.v14, runF.sl.v13, runF.sl.v287, runF.sl.v169, runF.sl.r_4, runF.sl.v119, runF.sl.v196, runF.sl.v273,
    runF.sl.v186, runF.sl.v162, runF.sl.HS3_4, runF.sl.HS1_1, runF.sl.v176, runF.sl.v207, runF.sl.v75,
    runF.sl.v190, runF.sl.v157, runF.sl.v227, runF.sl.v37, runF.sl.v2, runF.sl.v277, runF.sl.v138, runF.sl.v309,
    runF.sl.v143, runF.sl.v208, runF.sl.v85, runF.sl.r_2, runF.sl.HS4_1_1, runF.sl.v12, runF.sl.v214, runF.sl.v53,
    runF.sl.cst_86, runF.sl.v200, runF.sl.cst_117, runF.sl.cst_106, runF.sl.v40, runF.sl.v125, runF.sl.v155,
    runF.sl.v87, runF.sl.v216, runF.sl.v221, runF.sl.v46, runF.sl.r_1, runF.sl.v49, runF.sl.v220, runF.sl.v183,
    runF.sl.v36, runF.sl.v197, runF.sl.v42, runF.sl.v332, runF.sl.v86, runF.sl.HS3_1_1, runF.sl.v154, runF.sl.v153,
    runF.sl.v45, runF.sl.v323, runF.sl.v59, runF.sl.v164, runF.sl.v170, runF.sl.v1, runF.sl.v161, runF.sl.v67,
    runF.sl.v140, runF.sl.HS2_3, runF.sl.v219, runF.sl.v166, runF.sl.v187, runF.sl.v64, runF.sl.v145, runF.sl.v233,
    runF.sl.v123, runF.sl.v175, runF.sl.v48, runF.sl.v182, runF.sl.v177, runF.sl.v174, runF.sl.r_8, runF.sl.v144,
    runF.sl.v168, runF.sl.v33, runF.sl.HS4_4, runF.sl.v151, runF.sl.v217, runF.sl.v82, runF.sl.v52, runF.sl.v224,
    runF.sl.v15, runF.sl.v71, runF.sl.v167, runF.sl.v68, runF.sl.v193, runF.sl.v70, runF.sl.v206, runF.sl.v62,
    runF.sl.v136, runF.sl.v194, runF.sl.HS4_2, runF.sl.v4, runF.sl.cst_20, runF.sl.v81]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    rowMax512, rowSum512, mix512_apply, lane_apply, put_out, List.nil_append, ValueIdx.broadcast_apply, divf_apply,
    Ideal.divf_def, off9_1, off10_1, off11_1, off12_1, off13_1, off14_1, off15_1, off16_1, off7_1 i hodd, off8_1 i
    hodd, masked512 _ _ _ _ rfl rfl ha hn]

  simp only [I.s0, I.s1, I.m0, I.m1, I.l0, I.l1, I.a0, I.a1, tilesF, block_word]
  obtain ⟨n, e⟩ : ∃ n, (i 2).val / 4 = n + 1 := ⟨(i 2).val / 4 - 1, by omega⟩
  simp only [outV, quot, hb, e, Nat.add_sub_cancel, raw_zero, raw_one]
  rfl

end Cert.Mla
-- ==== Proof.RunG.lean ====
/- The kernel's body as it runs with an odd number of full tiles and a last tile of 768 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunF

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runG (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : ¬cond0_1 i) (hc2 : ¬cond0_2 i) (hc3 : cond0_3 i) (hc4 : ¬cond0_4 i) (hc5 : ¬cond0_5 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part19_eq_skeleton, k0_part20_eq_skeleton, k0_part21_eq_skeleton, k0_part15_eq_skeleton, k0_part16_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndG.lean ====
/- What the body leaves with an odd number of full tiles and a last tile of 768 keys. -/
module

public import proofs.«01_k».proof.Proof.RunG
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesG (i : grid0.Coords) : (runG.sl.v17 i).toNat = (i 2).val / 4 := by
  simp only [runG.sl.v14, runG.sl.v1, runG.sl.v17, runG.sl.v0, runG.sl.v6, runG.sl.v16, runG.sl.v3, runG.sl.v12, runG.sl.v13,
    runG.sl.v5, runG.sl.v4, runG.sl.v15, runG.sl.v2]
  generalize i 2 = a
  revert a
  decide +kernel

/-- Before the first tile the kernel is in the state after no tile. -/
theorem startG (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runG.sl.HS0_2 c arg3 harg3 arg4 harg4 x0 x1)))
      (arg9.view.read (Elt Ideal) (arg9.view.writes (Elt Ideal) arg9.view.junk runG.sl.HS2_1))
      (arg10.view.read (Elt Ideal) (arg10.view.writes (Elt Ideal) arg10.view.junk runG.sl.HS3_1))
      (arg11.view.read (Elt Ideal) (arg11.view.writes (Elt Ideal) arg11.view.junk runG.sl.HS4_1)) := by
  simp only [runG.sl.v42, runG.sl.HS3_1, runG.sl.v43, runG.sl.HS4_1, runG.sl.v45, runG.sl.v37, runG.sl.v46, runG.sl.cst_20,
    runG.sl.v33, runG.sl.HS2_1, runG.sl.v36, runG.sl.HS0_2, runG.sl.v40, runG.sl.v47, runG.sl.v35, runG.sl.v44,
    runG.sl.v39]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endG (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : ¬cond0_1 i) (hc2 : ¬cond0_2 i) (hc3 : cond0_3 i) (hc4 : ¬cond0_4 i) (hc5 : ¬cond0_5 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runG c i arg3 harg3 arg4 harg4 arg5 harg5 arg6 harg6 arg7 harg7 arg8 harg8 arg9 harg9 arg10 harg10 arg11 harg11 hc0 hc1 hc2 hc3 hc4 hc5 x0 x1 x2).1 f8)) = outV (i 2).val x0 x1 x2 := by
  have hb : (i 2).val % 4 = 2 := cond4_yes i hc3
  have hodd : (i 2).val / 4 % 2 = 1 := cond1_yes i hc0
  have ha : (BitVec.ofNat 32 (i 2).val).toNat < 32 := by
    rw [block_word]
    exact block_lt i
  have hn : (runG.sl.v17 i).toNat < 8 := by
    rw [tilesG]
    have := block_lt i
    omega
  have I := loop c i arg3 harg3 arg4 harg4 arg5 harg5 arg6 harg6 arg7 harg7 arg8 harg8 arg9 harg9 arg10 harg10 arg11 harg11 (BitVec.ofNat 32 (i 2).val) (runG.sl.v17 i) (0#32) (runG.sl.v65 i) x0 x1 x2 _ f8 _ _ _
    (startG c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 - 1 := by
    have : Scf.trips (k0_t1_loop i).lb (k0_t1_loop i).ub (k0_t1_loop i).st = _ := trips1 i
    omega
  rw [ht] at I
  unfold runG
  dsimp only
  funext j
  obtain ⟨z, r, cc, rfl⟩ := idx_eq j
  simp -proj only [runG.sl.v195, runG.sl.HS1_1, runG.sl.v200, runG.sl.cst_106, runG.sl.HS4_3, runG.sl.r, runG.sl.v147, runG.sl.v159,
    runG.sl.v206, runG.sl.v73, runG.sl.v14, runG.sl.v140, runG.sl.v72, runG.sl.v296, runG.sl.v117, runG.sl.v138,
    runG.sl.v183, runG.sl.v174, runG.sl.v1, runG.sl.v277, runG.sl.r_1, runG.sl.v193, runG.sl.v87, runG.sl.v42,
    runG.sl.v59, runG.sl.v53, runG.sl.v173, runG.sl.v43, runG.sl.v211, runG.sl.v165, runG.sl.v150, runG.sl.HS3_1_1,
    runG.sl.v48, runG.sl.v149, runG.sl.HS1_2, runG.sl.v60, runG.sl.v153, runG.sl.v136, runG.sl.v332, runG.sl.v168,
    runG.sl.v313, runG.sl.v64, runG.sl.v151, runG.sl.v51, runG.sl.v202, runG.sl.v61, runG.sl.v85, runG.sl.v230,
    runG.sl.v214, runG.sl.v50, runG.sl.v175, runG.sl.v204, runG.sl.r_8, runG.sl.v229, runG.sl.v185, runG.sl.HS3_2,
    runG.sl.v209, runG.sl.HS2_1_1, runG.sl.v119, runG.sl.v83, runG.sl.HS4_2, runG.sl.v221, runG.sl.v157,
    runG.sl.v45, runG.sl.v197, runG.sl.v0, runG.sl.v170, runG.sl.v49, runG.sl.v6, runG.sl.v142, runG.sl.v323,
    runG.sl.v37, runG.sl.v16, runG.sl.v217, runG.sl.v181, runG.sl.v46, runG.sl.v169, runG.sl.cst_20, runG.sl.v3,
    runG.sl.v228, runG.sl.v12, runG.sl.v86, runG.sl.v33, runG.sl.HS4_1_1, runG.sl.v13, runG.sl.v161, runG.sl.v199,
    runG.sl.v135, runG.sl.v162, runG.sl.v74, runG.sl.v68, runG.sl.HS4_4, runG.sl.v216, runG.sl.cst_110,
    runG.sl.v166, runG.sl.v160, runG.sl.v201, runG.sl.v220, runG.sl.v52, runG.sl.HS2_3, runG.sl.v171, runG.sl.v36,
    runG.sl.v287, runG.sl.HS3_4, runG.sl.v75, runG.sl.v194, runG.sl.v40, runG.sl.v187, runG.sl.v172, runG.sl.v167,
    runG.sl.v63, runG.sl.r_7, runG.sl.v47, runG.sl.v35, runG.sl.v273, runG.sl.v210, runG.sl.v233, runG.sl.v62,
    runG.sl.v125, runG.sl.v44, runG.sl.v227, runG.sl.v84, runG.sl.v70, runG.sl.v5, runG.sl.v177, runG.sl.v123,
    runG.sl.v186, runG.sl.v82, runG.sl.v145, runG.sl.v4, runG.sl.v205, runG.sl.v67, runG.sl.v203, runG.sl.r_2,
    runG.sl.v309, runG.sl.v143, runG.sl.v163, runG.sl.v81, runG.sl.v39, runG.sl.v71, runG.sl.v176, runG.sl.v184,
    runG.sl.r_4, runG.sl.v196, runG.sl.cst_86, runG.sl.v215, runG.sl.v154, runG.sl.v164, runG.sl.v219,
    runG.sl.cst_117, runG.sl.v190, runG.sl.v207, runG.sl.v208, runG.sl.v15, runG.sl.v146, runG.sl.v224,
    runG.sl.v180, runG.sl.HS3_3, runG.sl.v231, runG.sl.r_6, runG.sl.v182, runG.sl.v155, runG.sl.v144, runG.sl.v218,
    runG.sl.r_3, runG.sl.v198, runG.sl.r_5, runG.sl.HS2_2, runG.sl.v232, runG.sl.v2]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    rowMax768, rowSum768, mix768_apply, lane_apply, put_out, List.nil_append, ValueIdx.broadcast_apply, divf_apply,
    Ideal.divf_def, off9_1, off10_1, off11_1, off12_1, off13_1, off14_1, off15_1, off16_1, off7_1 i hodd, off8_1 i
    hodd, masked768 _ _ _ _ rfl rfl ha hn]

  simp only [I.s0, I.s1, I.m0, I.m1, I.l0, I.l1, I.a0, I.a1, tilesG, block_word]
  obtain ⟨n, e⟩ : ∃ n, (i 2).val / 4 = n + 1 := ⟨(i 2).val / 4 - 1, by omega⟩
  simp only [outV, quot, hb, e, Nat.add_sub_cancel, raw_zero, raw_one]
  rfl

end Cert.Mla
-- ==== Proof.RunH.lean ====
/- The kernel's body as it runs with an odd number of full tiles and a last tile of 1024 keys.

   The body's triple, with the pieces that its stores leave in the result's buffer. Of the second scores buffer only the
   parts that were written are read, but what is written depends on its contents by name, so that the pieces are a
   function of these. -/
module

public import proofs.«01_k».proof.Proof.Gen.KernelIdeal.Frame.Runs
public import proofs.«01_k».proof.Proof.RunG

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1000000 in
/-- The run: the pieces stored in the result's buffer, and the body's triple. -/
noncomputable def runH (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : ¬cond0_1 i) (hc2 : ¬cond0_2 i) (hc3 : ¬cond0_3 i) (hc4 : cond0_4 i) (hc5 : ¬cond0_5 i)
    (x0 : Vec Ideal S1x256x256 .bf16) (x1 : Vec Ideal S1x8192x256 .bf16) (x2 : Vec Ideal S1x8192x128 .bf16) :
    { L3 : BufTy.Contents (Elt Ideal) arg8.view.ty → List (View.Piece (Elt Ideal) S1x256x128 .f32) //
      ∀ (f8 : BufTy.Contents (Elt Ideal) arg8.view.ty) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (arg8.view.loc (c : Thread nD τ) ↦[arg8.view.set]{fullShare} f8) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt Ideal) f (L3 f8)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := Ideal)) Variants.none c none) E (cc0_mla_attention i arg3 harg3 arg4 harg4 arg5 harg5 arg6 harg6 arg7 harg7 arg8 harg8 arg9 harg9 arg10 harg10 arg11 harg11) K } := by
  refine ⟨?_, fun f8 E K => ?run⟩
  case run =>
    simp only [cc0_mla_attention_eq_skeleton]; unfold cc0_mla_attention_skel
    simp only [k0_part33_eq_skeleton, k0_part30_eq_skeleton, k0_part31_eq_skeleton, k0_part32_eq_skeleton, k0_part19_eq_skeleton, k0_part20_eq_skeleton, k0_part21_eq_skeleton, k0_part17_eq_skeleton, k0_part18_eq_skeleton]
    unfold owns
    iintro ⟨⟨%f0, %hf0, H0⟩, ⟨%f1, %hf1, H1⟩, ⟨%f2, %hf2, H2⟩, ⟨%d3, %f3, -, H3⟩, ⟨%ds0, %fs0, -, HS0⟩, HS1, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2
    sl_exec (disch := first | sl_exact hc0 | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Mla

end
-- ==== Proof.EndH.lean ====
/- What the body leaves with an odd number of full tiles and a last tile of 1024 keys. -/
module

public import proofs.«01_k».proof.Proof.RunH
public import proofs.«01_k».proof.Proof.Trip
public import proofs.«01_k».proof.Proof.Last
public import proofs.«01_k».proof.Proof.Out

@[expose] public section

noncomputable section

namespace Cert.Mla

open Idealize.ShloMosaic Cert.KernelIdeal Cert.KernelIdeal.Gen

/-- The number of full tiles, as a word. -/
theorem tilesH (i : grid0.Coords) : (runH.sl.v17 i).toNat = (i 2).val / 4 := by
  simp only [runH.sl.v17, runH.sl.v6, runH.sl.v5, runH.sl.v1, runH.sl.v12, runH.sl.v16, runH.sl.v0, runH.sl.v14, runH.sl.v4,
    runH.sl.v13, runH.sl.v2, runH.sl.v3, runH.sl.v15]
  generalize i 2 = a
  revert a
  decide +kernel

/-- Before the first tile the kernel is in the state after no tile. -/
theorem startH (c : Dev nD) (arg3 : Memref sig .tc .vmem S1x256x256 .bf16) (harg3 : arg3.IsWhole) (arg4 : Memref sig .tc .vmem S1x8192x256 .bf16) (harg4 : arg4.IsWhole)
    (arg7 : Memref sig .tc .vmem S2x256x1024 .f32) (arg9 : Memref sig .tc .vmem S2x256x1 .f32) (arg10 : Memref sig .tc .vmem S2x256x1 .f32)
    (arg11 : Memref sig .tc .vmem S2x256x128 .f32)
    (x0 : Vec Ideal S1x256x256 .bf16) (x1 : Vec Ideal S1x8192x256 .bf16) (x2 : Vec Ideal S1x8192x128 .bf16) :
    Inv x0 x1 x2 0 (arg7.view.read (Elt Ideal) (arg7.view.writes (Elt Ideal) arg7.view.junk (runH.sl.HS0_2 c arg3 harg3 arg4 harg4 x0 x1)))
      (arg9.view.read (Elt Ideal) (arg9.view.writes (Elt Ideal) arg9.view.junk runH.sl.HS2_1))
      (arg10.view.read (Elt Ideal) (arg10.view.writes (Elt Ideal) arg10.view.junk runH.sl.HS3_1))
      (arg11.view.read (Elt Ideal) (arg11.view.writes (Elt Ideal) arg11.view.junk runH.sl.HS4_1)) := by
  simp only [runH.sl.v47, runH.sl.v42, runH.sl.v35, runH.sl.HS0_2, runH.sl.v44, runH.sl.v43, runH.sl.cst_20, runH.sl.v33,
    runH.sl.HS3_1, runH.sl.HS2_1, runH.sl.v40, runH.sl.v36, runH.sl.v37, runH.sl.v45, runH.sl.v46, runH.sl.v39,
    runH.sl.HS4_1]
  simp only [k0_pay226, k0_pay227, k0_pay228]
  constructor
  all_goals
    intros
    simp only [put00, put01, put10, put11, put_both, get0, get1, getNat, View.readCov, View.writes_append, rowMax1024, rowSum1024,
      col_apply, spread_apply, flat_apply, unflat_apply, cols0, cols128, scores_apply, mix1024_apply, mask_eq,
      Fin.eta, addf_apply, mulf_apply, subf_apply, maximumf_apply, exp2_apply, truncf_apply, Ideal.addf_def,
      Ideal.mulf_def, Ideal.subf_def, Ideal.maximumf_def, Ideal.truncf_def, off1_1, off1_2, off2_1, off3_1,
      Matrix.cons_val_zero, Matrix.cons_val_one, Matrix.cons_val, Matrix.head_cons, Matrix.tail_cons, zero_add,
      raw_zero, raw_one, mS, lS, aS, zero1, zero128, ValueIdx.broadcast_apply, mul_zero, zero_add]
    try rfl

set_option maxHeartbeats 1000000 in
/-- The result's buffer holds the block of results. -/
theorem endH (c : Dev nD) (i : grid0.Coords) (arg3 : Memref sig .tc .vmem S1x256x256 .bf16) (harg3 : arg3.IsWhole) (arg4 : Memref sig .tc .vmem S1x8192x256 .bf16) (harg4 : arg4.IsWhole) (arg5 : Memref sig .tc .vmem S1x8192x128 .bf16) (harg5 : arg5.IsWhole) (arg6 : Memref sig .tc .vmem S1x256x128 .f32) (harg6 : arg6.IsWhole) (arg7 : Memref sig .tc .vmem S2x256x1024 .f32) (harg7 : arg7.IsWhole) (arg8 : Memref sig .tc .vmem S2x256x1024 .f32) (harg8 : arg8.IsWhole) (arg9 : Memref sig .tc .vmem S2x256x1 .f32) (harg9 : arg9.IsWhole) (arg10 : Memref sig .tc .vmem S2x256x1 .f32) (harg10 : arg10.IsWhole) (arg11 : Memref sig .tc .vmem S2x256x128 .f32) (harg11 : arg11.IsWhole) (hc0 : cond0_0 i) (hc1 : ¬cond0_1 i) (hc2 : ¬cond0_2 i) (hc3 : ¬cond0_3 i) (hc4 : cond0_4 i) (hc5 : ¬cond0_5 i)
    (x0 : Vec Ideal S1x256x256 .bf16) (x1 : Vec Ideal S1x8192x256 .bf16) (x2 : Vec Ideal S1x8192x128 .bf16) (f6 : BufTy.Contents (Elt Ideal) arg6.view.ty)
    (f8 : BufTy.Contents (Elt Ideal) arg8.view.ty) :
    arg6.view.read (Elt Ideal) (arg6.view.writes (Elt Ideal) f6 ((runH c i arg3 harg3 arg4 harg4 arg5 harg5 arg6 harg6 arg7 harg7 arg8 harg8 arg9 harg9 arg10 harg10 arg11 harg11 hc0 hc1 hc2 hc3 hc4 hc5 x0 x1 x2).1 f8)) = outV (i 2).val x0 x1 x2 := by
  have hb : (i 2).val % 4 = 3 := cond5_yes i hc4
  have hodd : (i 2).val / 4 % 2 = 1 := cond1_yes i hc0
  have ha : (BitVec.ofNat 32 (i 2).val).toNat < 32 := by
    rw [block_word]
    exact block_lt i
  have hn : (runH.sl.v17 i).toNat < 8 := by
    rw [tilesH]
    have := block_lt i
    omega
  have I := loop c i arg3 harg3 arg4 harg4 arg5 harg5 arg6 harg6 arg7 harg7 arg8 harg8 arg9 harg9 arg10 harg10 arg11 harg11 (BitVec.ofNat 32 (i 2).val) (runH.sl.v17 i) (0#32) (runH.sl.v65 i) x0 x1 x2 _ f8 _ _ _
    (startH c arg3 harg3 arg4 harg4 arg7 arg9 arg10 arg11 x0 x1 x2)
    (Scf.trips (k0_t1_loop i).lb (k0_t1_loop i).ub (k0_t1_loop i).st) le_rfl
  have ht : 2 * Scf.trips (k0_t1_loop i).lb (k0_t1_loop i).ub (k0_t1_loop i).st = (i 2).val / 4 - 1 := by
    have : Scf.trips (k0_t1_loop i).lb (k0_t1_loop i).ub (k0_t1_loop i).st = _ := trips1 i
    omega
  rw [ht] at I
  unfold runH
  dsimp only
  funext j
  obtain ⟨z, r, cc, rfl⟩ := idx_eq j
  simp -proj only [runH.sl.v151, runH.sl.v176, runH.sl.v161, runH.sl.v166, runH.sl.v142, runH.sl.r_2, runH.sl.v174, runH.sl.v47,
    runH.sl.v194, runH.sl.v210, runH.sl.v61, runH.sl.v42, runH.sl.v200, runH.sl.HS1_2, runH.sl.v82, runH.sl.r_3,
    runH.sl.v180, runH.sl.v72, runH.sl.HS3_4, runH.sl.v52, runH.sl.v203, runH.sl.v164, runH.sl.HS3_1_1,
    runH.sl.v60, runH.sl.v62, runH.sl.v155, runH.sl.v198, runH.sl.v153, runH.sl.v202, runH.sl.v6, runH.sl.v35,
    runH.sl.v135, runH.sl.v123, runH.sl.v5, runH.sl.v44, runH.sl.v43, runH.sl.v150, runH.sl.v287, runH.sl.v68,
    runH.sl.v229, runH.sl.v171, runH.sl.v169, runH.sl.v159, runH.sl.v175, runH.sl.v73, runH.sl.v85, runH.sl.v125,
    runH.sl.v184, runH.sl.r_6, runH.sl.v218, runH.sl.v1, runH.sl.cst_20, runH.sl.v12, runH.sl.v16, runH.sl.v196,
    runH.sl.v323, runH.sl.v233, runH.sl.v296, runH.sl.v232, runH.sl.v71, runH.sl.v208, runH.sl.v186, runH.sl.v143,
    runH.sl.v33, runH.sl.v81, runH.sl.v51, runH.sl.v231, runH.sl.v185, runH.sl.v53, runH.sl.v167, runH.sl.v119,
    runH.sl.v64, runH.sl.v84, runH.sl.HS2_3, runH.sl.v75, runH.sl.HS2_2, runH.sl.v220, runH.sl.HS4_3, runH.sl.v197,
    runH.sl.v170, runH.sl.v165, runH.sl.v86, runH.sl.v162, runH.sl.v48, runH.sl.v49, runH.sl.v199, runH.sl.v182,
    runH.sl.v154, runH.sl.v70, runH.sl.v145, runH.sl.v146, runH.sl.v74, runH.sl.v160, runH.sl.v214,
    runH.sl.HS4_1_1, runH.sl.v204, runH.sl.v140, runH.sl.v157, runH.sl.v230, runH.sl.v138, runH.sl.v181,
    runH.sl.v144, runH.sl.v190, runH.sl.r_7, runH.sl.v87, runH.sl.v67, runH.sl.v221, runH.sl.v40, runH.sl.v206,
    runH.sl.v205, runH.sl.v0, runH.sl.v63, runH.sl.v173, runH.sl.v332, runH.sl.r_5, runH.sl.v36, runH.sl.v14,
    runH.sl.HS4_2, runH.sl.v4, runH.sl.v215, runH.sl.v149, runH.sl.v273, runH.sl.v209, runH.sl.v193, runH.sl.r_1,
    runH.sl.v183, runH.sl.v50, runH.sl.v37, runH.sl.v219, runH.sl.v277, runH.sl.v187, runH.sl.v13, runH.sl.v217,
    runH.sl.v2, runH.sl.v211, runH.sl.v313, runH.sl.v117, runH.sl.HS4_4, runH.sl.v207, runH.sl.v45, runH.sl.v195,
    runH.sl.cst_117, runH.sl.v3, runH.sl.v228, runH.sl.r_8, runH.sl.HS1_1, runH.sl.v46, runH.sl.v309, runH.sl.v39,
    runH.sl.HS3_3, runH.sl.v147, runH.sl.v15, runH.sl.v177, runH.sl.cst_110, runH.sl.r, runH.sl.v168,
    runH.sl.cst_86, runH.sl.v83, runH.sl.v216, runH.sl.r_4, runH.sl.v59, runH.sl.HS3_2, runH.sl.v224,
    runH.sl.cst_106, runH.sl.v172, runH.sl.HS2_1_1, runH.sl.v163, runH.sl.v227, runH.sl.v136, runH.sl.v201]
  generalize Scf.trips (k0_t1_loop i).lb (k0_t1_loop i).ub (k0_t1_loop i).st = N at I ⊢
  generalize Scf.trips (k0_t2_loop i).lb (k0_t2_loop i).ub (k0_t2_loop i).st = N' at I ⊢
  simp only [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89,
    k0_pay90, k0_pay91, k0_pay92, k0_pay93, k0_pay94, k0_pay95, k0_pay96, k0_pay97, k0_pay98, k0_pay99, k0_pay100,
    k0_pay101, k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130,
    k0_pay131, k0_pay132, k0_pay133, k0_pay134, k0_pay135, k0_pay136, k0_pay137, k0_pay138, k0_pay139, k0_pay140,
    k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160,
    k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190,
    k0_pay191, k0_pay192, k0_pay193, k0_pay194, k0_pay195, k0_pay196, k0_pay197, k0_pay198, k0_pay199, k0_pay200,
    k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220,
    k0_pay221, k0_pay222, k0_pay223, k0_pay224, k0_pay225, k0_pay226, k0_pay227, k0_pay228, k0_pay229, k0_pay230,
    k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250,
    k0_pay251, k0_pay252, k0_pay253, k0_pay254, k0_pay255, k0_pay256, k0_pay257, k0_pay258, k0_pay259, k0_pay260]
  rw [none2]
  simp only [put00, put01, put10, put11, put_both, get0, get1, getNat, View.readCov, View.writes_append, rowMax1024, rowSum1024,
    col_apply, spread_apply, flat_apply, unflat_apply, cols0, cols128, scores_apply, mix1024_apply, mask_eq,
    Fin.eta, addf_apply, mulf_apply, subf_apply, maximumf_apply, exp2_apply, truncf_apply, Ideal.addf_def,
    Ideal.mulf_def, Ideal.subf_def, Ideal.maximumf_def, Ideal.truncf_def, off1_1, off1_2, off2_1, off3_1,
    Matrix.cons_val_zero, Matrix.cons_val_one, Matrix.cons_val, Matrix.head_cons, Matrix.tail_cons, zero_add,
    lane_apply, put_out, List.nil_append, ValueIdx.broadcast_apply, divf_apply, Ideal.divf_def, off9_1, off10_1,
    off11_1, off12_1, off13_1, off14_1, off15_1, off16_1, off7_1 i hodd, off8_1 i hodd, masked1024 _ _ _ _ rfl rfl
    ha hn]

  simp only [I.s0, I.s1, I.m0, I.m1, I.l0, I.l1, I.a0, I.a1, tilesH, block_word]
  obtain ⟨n, e⟩ : ∃ n, (i 2).val / 4 = n + 1 := ⟨(i 2).val / 4 - 1, by omega⟩
  simp only [outV, quot, hb, e, Nat.add_sub_cancel, raw_zero, raw_one]
  rfl

end Cert.Mla
-- ==== Proof.Whole.lean ====
/- The call as a whole: what every point of the grid leaves, the launch, and what the result's array ends with. -/
module

public import proofs.«01_k».proof.Proof.EndA
public import proofs.«01_k».proof.Proof.EndB
public import proofs.«01_k».proof.Proof.EndC
public import proofs.«01_k».proof.Proof.EndD
public import proofs.«01_k».proof.Proof.EndE
public import proofs.«01_k».proof.Proof.EndF
public import proofs.«01_k».proof.Proof.EndG
public import proofs.«01_k».proof.Proof.EndH
public import Idealize.ShloMosaic.Lib.Claim
public import Idealize.ShloMosaic.Lib.Pipeline.Value

@[expose] public section

set_option maxRecDepth 16384

noncomputable section

namespace Cert.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What point `t` leaves in the result's block: the attention of its rows over the keys and values it was given. -/
def left (c : Dev nD) (t : Fin cfg0.N) : Vec Ideal S1x256x128 .f32 :=
  outV ((grid0.coords t) 2).val (iblk m c 0 t) (iblk m c 1 t) (iblk m c 2 t)

/-- The pipeline's data: the arrays as the call finds them; after each point the inputs' blocks and the block `left`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left m c t
  Φ _ := Pipeline.ΦA spec0 c
  q _ := fullShare
  owed _ := 0

/-- The data's arrays are the ones the call finds. -/
theorem A_eq (c : Dev nD) (w : Fin cfg0.W) : (dats m 0 c).A w = V m c (Pipeline.arrRef spec0 w) := by
  dsimp only [dats]

/-- The queries' buffer is left as it was. -/
theorem after_q (c : Dev nD) (t : Fin cfg0.N) : (dats m 0 c).after 0 t = iblk m c 0 t := by dsimp only [dats]
/-- The keys' buffer is left as it was. -/
theorem after_k (c : Dev nD) (t : Fin cfg0.N) : (dats m 0 c).after 1 t = iblk m c 1 t := by dsimp only [dats]
/-- The values' buffer is left as it was. -/
theorem after_v (c : Dev nD) (t : Fin cfg0.N) : (dats m 0 c).after 2 t = iblk m c 2 t := by dsimp only [dats]
/-- The result's buffer is left with the block of results. -/
theorem after_o (c : Dev nD) (t : Fin cfg0.N) : (dats m 0 c).after 3 t = left m c t := by dsimp only [dats]

/-- The queries' buffer holds the point's block. -/
theorem before_q (c : Dev nD) (t : Fin cfg0.N) (d) : (dats m 0 c).before 0 t d = iblk m c 0 t :=
  before0_0_of m (dats m 0 c) (A_eq m c 0) (after_q m c) t d
/-- The keys' buffer holds the point's block. -/
theorem before_k (c : Dev nD) (t : Fin cfg0.N) (d) : (dats m 0 c).before 1 t d = iblk m c 1 t :=
  before0_1_of m (dats m 0 c) (A_eq m c 1) (after_k m c) t d
/-- The values' buffer holds the point's block. -/
theorem before_v (c : Dev nD) (t : Fin cfg0.N) (d) : (dats m 0 c).before 2 t d = iblk m c 2 t :=
  before0_2_of m (dats m 0 c) (A_eq m c 2) (after_v m c) t d

/-- What the body is given at point `t`. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body gives back at point `t`. -/
def back (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- To own a buffer at some contents, with the contents named. -/
theorem owned_eq (c : Thread nD τ) {sp : Space} {sh : Shape} {e : EltTy} (M : Memref sig c.2.kind sp sh e) :
    (iprop(∃ d, owns c M fullShare d) : sProp 𝕄)
      = iprop(∃ d, ∃ f, ⌜M.view.read (Elt Ideal) f = d⌝ ∗ (M.view.loc c ↦[M.view.set]{fullShare} f)) := rfl

/-- A run of the body whose stores leave the block of results is all that a point needs. -/
theorem sound_of (c : Dev nD) (t : Fin cfg0.N)
    (L : BufTy.Contents (Elt Ideal) (scM0_1).view.ty → List (View.Piece (Elt Ideal) S1x256x128 .f32))
    (run : ∀ (f8 : BufTy.Contents (Elt Ideal) (scM0_1).view.ty) (E : Set ℕ) (K : PUnit → sProp 𝕄),
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ (∃ d, owns (c : Thread nD τ) (ms0_3 t) fullShare d) ∗ (∃ d, owns (c : Thread nD τ) scM0_0 fullShare d) ∗ ((scM0_1).view.loc (c : Thread nD τ) ↦[(scM0_1).view.set]{fullShare} f8) ∗ (∃ d, owns (c : Thread nD τ) scM0_2 fullShare d) ∗ (∃ d, owns (c : Thread nD τ) scM0_3 fullShare d) ∗ (∃ d, owns (c : Thread nD τ) scM0_4 fullShare d)
            ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ (∃ f, (ms0_3 t).view.loc (c : Thread nD τ) ↦[(ms0_3 t).view.set]{fullShare} (ms0_3 t).view.writes (Elt Ideal) f (L f8)) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) -∗ K ⟨⟩))
          ⊢ wp frame (wpE (defs₀ (F := Ideal)) Variants.none c none) E (bodyAt0 t) K)
    (ends : ∀ f6 f8, (ms0_3 t).view.read (Elt Ideal) ((ms0_3 t).view.writes (Elt Ideal) f6 (L f8)) = left m c t) :
    given m c t ⊢ wp frame (wpE (defs₀ (F := Ideal)) Variants.none c none) Set.univ (bodyAt0 t) (fun _ => back m c t) := by
  unfold given back
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = Pipeline.ΦA spec0 c from rfl, PhiA0_eq]
  rw [owned_eq (c : Thread nD τ) scM0_1]
  iintro ⟨⟨⟨HS0, ⟨%ds1, %fs1, -, HS1⟩, HS2, HS3, HS4⟩, Hg⟩, Ho, ⟨%d0, H0⟩, ⟨%d1, H1⟩, ⟨%d2, H2⟩, ⟨%d3, H3⟩⟩
  iapply (run fs1 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [HS4]; · iexact HS4
  iintro ⟨H0, H1, H2, ⟨%e3, H3⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  unfold owns; iexists _; isplitr
  swap; · iexact H3
  ipureintro; exact ends _ _

/-- The body at any point, whichever of the eight cases the point is in. -/
theorem sound_body (c : Dev nD) (t : Fin cfg0.N) :
    given m c t ⊢ wp frame (wpE (defs₀ (F := Ideal)) Variants.none c none) Set.univ (bodyAt0 t) (fun _ => back m c t) := by
  by_cases h0 : (t.val % 8 = 4 ∨ t.val % 8 = 5 ∨ t.val % 8 = 6 ∨ t.val % 8 = 7)
  · obtain h4 | h4 | h4 | h4 : t.val % 4 = 0 ∨ t.val % 4 = 1 ∨ t.val % 4 = 2 ∨ t.val % 4 = 3 := by omega
    · exact sound_of m c t _ (runE c (grid0.coords t) _ _ _ _ _ _ _ _ _ _ _ _ _ _ _ _ _ _ ((hcond0_0 t).mpr h0) ((hcond0_1 t).mpr h4) (fun h => absurd ((hcond0_2 t).mp h) (by omega)) (fun h => absurd ((hcond0_3 t).mp h) (by omega)) (fun h => absurd ((hcond0_4 t).mp h) (by omega)) (fun h => absurd ((hcond0_5 t).mp h) (by omega)) _ _ _).2
        fun f6 f8 => endE c (grid0.coords t) _ _ _ _ _ _ _ _ _ _ _ _ _ _ _ _ _ _ ((hcond0_0 t).mpr h0) ((hcond0_1 t).mpr h4) (fun h => absurd ((hcond0_2 t).mp h) (by omega)) (fun h => absurd ((hcond0_3 t).mp h) (by omega)) (fun h => absurd ((hcond0_4 t).mp h) (by omega)) (fun h => absurd ((hcond0_5 t).mp h) (by omega)) _ _ _ f6 f8
    · exact sound_of m c t _ (runF c (grid0.coords t) _ _ _ _ _ _ _ _ _ _ _ _ _ _ _ _ _ _ ((hcond0_0 t).mpr h0) (fun h => absurd ((hcond0_1 t).mp h) (by omega)) ((hcond0_2 t).mpr h4) (fun h => absurd ((hcond0_3 t).mp h) (by omega)) (fun h => absurd ((hcond0_4 t).mp h) (by omega)) (fun h => absurd ((hcond0_5 t).mp h) (by omega)) _ _ _).2
        fun f6 f8 => endF c (grid0.coords t) _ _ _ _ _ _ _ _ _ _ _ _ _ _ _ _ _ _ ((hcond0_0 t).mpr h0) (fun h => absurd ((hcond0_1 t).mp h) (by omega)) ((hcond0_2 t).mpr h4) (fun h => absurd ((hcond0_3 t).mp h) (by omega)) (fun h => absurd ((hcond0_4 t).mp h) (by omega)) (fun h => absurd ((hcond0_5 t).mp h) (by omega)) _ _ _ f6 f8
    · exact sound_of m c t _ (runG c (grid0.coords t) _ _ _ _ _ _ _ _ _ _ _ _ _ _ _ _ _ _ ((hcond0_0 t).mpr h0) (fun h => absurd ((hcond0_1 t).mp h) (by omega)) (fun h => absurd ((hcond0_2 t).mp h) (by omega)) ((hcond0_3 t).mpr h4) (fun h => absurd ((hcond0_4 t).mp h) (by omega)) (fun h => absurd ((hcond0_5 t).mp h) (by omega)) _ _ _).2
        fun f6 f8 => endG c (grid0.coords t) _ _ _ _ _ _ _ _ _ _ _ _ _ _ _ _ _ _ ((hcond0_0 t).mpr h0) (fun h => absurd ((hcond0_1 t).mp h) (by omega)) (fun h => absurd ((hcond0_2 t).mp h) (by omega)) ((hcond0_3 t).mpr h4) (fun h => absurd ((hcond0_4 t).mp h) (by omega)) (fun h => absurd ((hcond0_5 t).mp h) (by omega)) _ _ _ f6 f8
    · exact sound_of m c t _ (runH c (grid0.coords t) _ _ _ _ _ _ _ _ _ _ _ _ _ _ _ _ _ _ ((hcond0_0 t).mpr h0) (fun h => absurd ((hcond0_1 t).mp h) (by omega)) (fun h => absurd ((hcond0_2 t).mp h) (by omega)) (fun h => absurd ((hcond0_3 t).mp h) (by omega)) ((hcond0_4 t).mpr h4) (fun h => absurd ((hcond0_5 t).mp h) (by omega)) _ _ _).2
        fun f6 f8 => endH c (grid0.coords t) _ _ _ _ _ _ _ _ _ _ _ _ _ _ _ _ _ _ ((hcond0_0 t).mpr h0) (fun h => absurd ((hcond0_1 t).mp h) (by omega)) (fun h => absurd ((hcond0_2 t).mp h) (by omega)) (fun h => absurd ((hcond0_3 t).mp h) (by omega)) ((hcond0_4 t).mpr h4) (fun h => absurd ((hcond0_5 t).mp h) (by omega)) _ _ _ f6 f8
  · obtain h4 | h4 | h4 | h4 : t.val % 4 = 0 ∨ t.val % 4 = 1 ∨ t.val % 4 = 2 ∨ t.val % 4 = 3 := by omega
    · exact sound_of m c t _ (runA c (grid0.coords t) _ _ _ _ _ _ _ _ _ _ _ _ _ _ _ _ _ _ (fun h => h0 ((hcond0_0 t).mp h)) ((hcond0_5 t).mpr (by omega)) ((hcond0_6 t).mpr h4) (fun h => absurd ((hcond0_7 t).mp h) (by omega)) (fun h => absurd ((hcond0_8 t).mp h) (by omega)) (fun h => absurd ((hcond0_9 t).mp h) (by omega)) _ _ _).2
        fun f6 f8 => endA c (grid0.coords t) _ _ _ _ _ _ _ _ _ _ _ _ _ _ _ _ _ _ (fun h => h0 ((hcond0_0 t).mp h)) ((hcond0_5 t).mpr (by omega)) ((hcond0_6 t).mpr h4) (fun h => absurd ((hcond0_7 t).mp h) (by omega)) (fun h => absurd ((hcond0_8 t).mp h) (by omega)) (fun h => absurd ((hcond0_9 t).mp h) (by omega)) _ _ _ f6 f8
    · exact sound_of m c t _ (runB c (grid0.coords t) _ _ _ _ _ _ _ _ _ _ _ _ _ _ _ _ _ _ (fun h => h0 ((hcond0_0 t).mp h)) ((hcond0_5 t).mpr (by omega)) (fun h => absurd ((hcond0_6 t).mp h) (by omega)) ((hcond0_7 t).mpr h4) (fun h => absurd ((hcond0_8 t).mp h) (by omega)) (fun h => absurd ((hcond0_9 t).mp h) (by omega)) _ _ _).2
        fun f6 f8 => endB c (grid0.coords t) _ _ _ _ _ _ _ _ _ _ _ _ _ _ _ _ _ _ (fun h => h0 ((hcond0_0 t).mp h)) ((hcond0_5 t).mpr (by omega)) (fun h => absurd ((hcond0_6 t).mp h) (by omega)) ((hcond0_7 t).mpr h4) (fun h => absurd ((hcond0_8 t).mp h) (by omega)) (fun h => absurd ((hcond0_9 t).mp h) (by omega)) _ _ _ f6 f8
    · exact sound_of m c t _ (runC c (grid0.coords t) _ _ _ _ _ _ _ _ _ _ _ _ _ _ _ _ _ _ (fun h => h0 ((hcond0_0 t).mp h)) ((hcond0_5 t).mpr (by omega)) (fun h => absurd ((hcond0_6 t).mp h) (by omega)) (fun h => absurd ((hcond0_7 t).mp h) (by omega)) ((hcond0_8 t).mpr h4) (fun h => absurd ((hcond0_9 t).mp h) (by omega)) _ _ _).2
        fun f6 f8 => endC c (grid0.coords t) _ _ _ _ _ _ _ _ _ _ _ _ _ _ _ _ _ _ (fun h => h0 ((hcond0_0 t).mp h)) ((hcond0_5 t).mpr (by omega)) (fun h => absurd ((hcond0_6 t).mp h) (by omega)) (fun h => absurd ((hcond0_7 t).mp h) (by omega)) ((hcond0_8 t).mpr h4) (fun h => absurd ((hcond0_9 t).mp h) (by omega)) _ _ _ f6 f8
    · exact sound_of m c t _ (runD c (grid0.coords t) _ _ _ _ _ _ _ _ _ _ _ _ _ _ _ _ _ _ (fun h => h0 ((hcond0_0 t).mp h)) ((hcond0_5 t).mpr (by omega)) (fun h => absurd ((hcond0_6 t).mp h) (by omega)) (fun h => absurd ((hcond0_7 t).mp h) (by omega)) (fun h => absurd ((hcond0_8 t).mp h) (by omega)) ((hcond0_9 t).mpr h4) _ _ _).2
        fun f6 f8 => endD c (grid0.coords t) _ _ _ _ _ _ _ _ _ _ _ _ _ _ _ _ _ _ (fun h => h0 ((hcond0_0 t).mp h)) ((hcond0_5 t).mpr (by omega)) (fun h => absurd ((hcond0_6 t).mp h) (by omega)) (fun h => absurd ((hcond0_7 t).mp h) (by omega)) (fun h => absurd ((hcond0_8 t).mp h) (by omega)) ((hcond0_9 t).mpr h4) _ _ _ f6 f8

/-- The table's row of the body is the body. -/
theorem defs₀_row (t : Fin cfg0.N) :
    defs₀ (F := Ideal) .tc cfg0.body (cfg0.bodyArgs t (cfg0.slots t)) = bodyAt0 t := by
  unfold defs₀; rw [Defs.onTc_tc]

/-- What the launch asks of the body, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: every run ends, with the pipeline's arrays as the data say, the other buffers as the call found them,
    and every counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := Ideal))) (s₀ m ρ) (Pipeline.FramePost cfgs (dats m) 0 (V m)) :=
  (θ_run defs _ _).mono (fun _ h => h.1) (run_quiescent m ρ)

/-- The frame: every run ends, with the arguments unchanged and every counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- The run with the result's array named, and the arguments unchanged. -/
theorem run_result : θ_run defs (onTc (τ := τ) (main (F := Ideal))) ⟨m, fun _ => 0, ρ⟩ fun r => ∀ c : Dev nD,
      r.2.mem ((c : Thread nD τ).loc main_v17) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Mla
-- ==== Proof.Result.lean ====
/- The array the call ends with is the reference's. -/
module

public import proofs.«01_k».proof.Proof.Rows
public import proofs.«01_k».proof.Proof.Whole
public import Idealize.ShloMosaic.Lib.Pipeline.ValueKit

@[expose] public section

noncomputable section

namespace Cert.Mla

open Idealize.ShloMosaic Idealize.ShloMosaic.TcCoe
open Cert.KernelIdeal Cert.KernelIdeal.Gen

variable (m : (ℓ : Loc nD τ sig) → Buf (Elt Ideal) ℓ) (c : Dev nD)

/-- The attention of the arguments: the four heads of 64 lanes side by side. -/
def result : S4x8192x256.Idx → EReal := fun i =>
  att (Q m c) (K m c) (W m c) (i 0).val ((i 2).val / 64) (i 1).val ((i 2).val % 64)

/-- It is the reference's result. -/
theorem result_eq : result m c = Cert.ReferenceIdeal.Read.val_main_v24 (F := Ideal) (Q m c) (K m c) (W m c) :=
  funext fun i => (ref_apply (Q m c) (K m c) (W m c) i).symm

variable (hq : Finite (Q m c)) (hk : Finite (K m c))
include hq hk

/-- A point's block of results, entry by entry. -/
theorem left_eq (t : Fin cfg0.N) (y : S1x256x128.Idx) (i : S4x8192x256.Idx)
    (hi : ∀ a : Fin 3, (i a : ℕ) = win0_3.index t a * win0_3.size a + (y a : ℕ)) :
    left m c t y = result m c i := by
  have hy0 : (y 0).val < 1 := (y 0).isLt
  have hy1 : (y 1).val < 256 := (y 1).isLt
  have hy2 : (y 2).val < 128 := (y 2).isLt
  have e0 : (i 0).val = ((grid0.coords t) 0).val * 1 + (y 0).val := by rw [hi 0, index_o]; rfl
  have e1 : (i 1).val = ((grid0.coords t) 2).val * 256 + (y 1).val := by rw [hi 1, index_o]; rfl
  have e2 : (i 2).val = ((grid0.coords t) 1).val * 128 + (y 2).val := by rw [hi 2, index_o]; rfl
  have f0 : (i 0).val = ((grid0.coords t) 0).val := by omega
  have f1 : (i 1).val = 256 * ((grid0.coords t) 2).val + (y 1).val := by omega
  unfold left outV result
  rw [f0, f1]
  split_ifs with h
  · rw [quot_eq m c hq hk t 0 (y 1).val hy1 (y 2).val hy2 (Nat.div_eq_of_lt h)]
    congr 1
    · show 2 * ((grid0.coords t) 1).val + 0 = _; omega
    · omega
  · rw [quot_eq m c hq hk t 1 (y 1).val hy1 (y 2).val hy2 (by show _ = 1; omega)]
    congr 1
    · show 2 * ((grid0.coords t) 1).val + 1 = _; omega
    · omega

/-- The result's array at the end. -/
theorem final_array : (dats m 0 c).arrAt 3 cfg0.N = result m c := by
  refine (dats m 0 c).arrAt_eq_of_covers 3 (result m c) (by decide +kernel) fun t hf y => ?_
  refine Eq.trans ?_ (left_eq m c hq hk t y (((cfg0.win 3).rect t).emb y)
    fun a => Pipeline.Window.rect_emb_val win0_3 t y a)
  rw [← after_o m c t]
  rfl

end Cert.Mla
-- ==== Proof.Pre.lean ====
/- The stated precondition says that every query and every key is a real number. -/
module

public import proofs.«01_k».proof.Defs
public import proofs.«01_k».proof.Proof.Rows

@[expose] public section

noncomputable section

namespace Cert.Mla

open Idealize.ShloMosaic Idealize.ShloMosaic.TcCoe
open Cert.KernelIdeal

/-- The side condition of the predicate's program: a scalar broadcasts to the array. -/
theorem pre_facts : Cert.Pre_finite.Facts := ⟨by decide⟩

/-- An extended real whose absolute value compares below the word of infinity is a real number. -/
theorem real_of_lt (x : EReal) (h : Ideal.cmp .olt (max x (-x)) (Ideal.ofBits .f32 0x7F800000#32) = 1#1) :
    ∃ r : ℝ, x = (r : EReal) := by
  have t : Ideal.ofBits .f32 0x7F800000#32 = ⊤ := by simp [Ideal.ofBits, Ideal.ieee]
  rw [t] at h
  induction x with
  | bot => exact absurd h (by simp [Ideal.cmp])
  | top => exact absurd h (by simp [Ideal.cmp])
  | coe r => exact ⟨r, rfl⟩

/-- The precondition, read entry by entry. -/
theorem finite_of_pre (m : (ℓ : Loc nD τ sig) → Buf (Elt Ideal) ℓ)
    (h : Cert.Pre_KernelIdeal_finite (hPre_finite := pre_facts) m) (c : Dev nD) :
    Finite (Q m c) ∧ Finite (K m c) :=
  ⟨fun i => real_of_lt _ (congrFun (h c).1 i), fun i => real_of_lt _ (congrFun (h c).2 i)⟩

end Cert.Mla
-- ==== Proof.Gated.lean ====
/- A gated feed-forward layer over the extended reals, and the two spellings of its sigmoid. -/
module

public import Idealize.ShloMosaic.Lib.Pointwise
public import Idealize.ShloMosaic.PureOps.Ideal

@[expose] public section

noncomputable section

namespace Cert.Ffn

open Idealize.ShloMosaic

/-- The gated product `silu(g) · u`. -/
def gate (g u : EReal) : EReal := g * Ideal.logistic g * u

/-- One entry of the layer's output: a row `h`, the gate's and the up-projection's weights, a column of the down-projection's. -/
def ffn {n : ℕ} (h : Fin 1024 → EReal) (wg wu : Fin 1024 → Fin n → EReal) (wd : Fin n → EReal) : EReal :=
  ∑ k : Fin n, gate (∑ l, h l * wg l k) (∑ l, h l * wu l k) * wd k

/-- The bits of 1. -/
theorem bits_one : Ideal.ofBits .f32 0x3F800000#32 = 1 := by
  simp [Ideal.ofBits, Ideal.ieee]
  rw [← EReal.coe_mul, ← EReal.coe_one]
  exact congrArg Real.toEReal (by norm_num)

/-- The host's `1 / (1 + exp (-x))` is the sigmoid. -/
theorem host_logistic (x : Ideal .f32) :
    FloatOps.hostDivf (F := Ideal) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [bits_one]
  rfl

end Cert.Ffn
-- ==== Proof.Dense.lean ====
/- The dense feed-forward layer: each block of 256 rows the kernel writes is the reference's. -/
module

public import proofs.«01_k».proof.Proof.Gated
public import proofs.«01_k».proof.Proof.Gen.Kernel2Ideal.Value
public import proofs.«01_k».proof.Proof.Gen.Reference2Ideal.Read
public import Idealize.ShloMosaic.Lib.Pipeline.ValueKit
public import Idealize.ShloMosaic.Lib.KernelVsHost
public import Idealize.ShloMosaic.Lib.VecWindow
public import Idealize.ShloMosaic.Lib.WritesUnit
public import Idealize.ShloMosaic.Lib.StableHlo.Run

@[expose] public section

noncomputable section

namespace Cert.Ffn

open Idealize.ShloMosaic Idealize.ShloMosaic.TcCoe Idealize.ShloMosaic.StableHlo
open Cert.Kernel2Ideal Cert.Kernel2Ideal.Gen Cert.Kernel2Ideal.Value

/-! ## The block -/

/-- Rows by the weights of the gate or of the up-projection. -/
theorem up_apply (a : FVec Ideal S256x1024 .bf16) (w : FVec Ideal S1024x2816 .bf16) (r : Fin 256) (k : Fin 2816) :
    matmul dot_S256x1024_S1024x2816_S256x2816_1_0_0_1_n_n none a w (constant S256x2816 .f32 0x00000000#32) (ix2 r k)
      = ∑ l : Fin 1024, a (ix2 r l) * w (ix2 l k) := by
  pointwise

/-- Gated rows by the weights of the down-projection. -/
theorem down_apply (a : FVec Ideal S256x2816 .bf16) (w : FVec Ideal S2816x1024 .bf16) (r : Fin 256) (d : Fin 1024) :
    matmul dot_S256x2816_S2816x1024_S256x1024_1_0_0_1_n_n none a w (constant S256x1024 .f32 0x00000000#32) (ix2 r d)
      = ∑ k : Fin 2816, a (ix2 r k) * w (ix2 k d) := by
  pointwise

/-- The value the body stores, at an entry. -/
theorem stored_apply (h : FVec Ideal S256x1024 .bf16) (wg wu : FVec Ideal S1024x2816 .bf16) (wd : FVec Ideal S2816x1024 .bf16)
    (x : FVec Ideal S256x1024 .f32) (r : Fin 256) (d : Fin 1024) :
    k0_pay2 (F := Ideal) h wg wu wd x (ix2 r d)
      = x (ix2 r d) + ffn (fun l => h (ix2 r l)) (fun l k => wg (ix2 l k)) (fun l k => wu (ix2 l k)) (fun k => wd (ix2 k d)) := by
  unfold k0_pay2 k0_pay1
  simp only [shapeCast_self]
  show x (ix2 r d) + _ = _
  rw [down_apply]
  refine congrArg (x (ix2 r d) + ·) (Finset.sum_congr rfl fun k _ => congrArg (· * wd (ix2 k d)) ?_)
  show _ * Ideal.logistic _ * _ = _
  rw [up_apply, up_apply]
  rfl

/-! ## The operands -/

variable (m : (ℓ : Loc nD τ sig) → Buf (Elt Ideal) ℓ) (c : Dev nD)

/-- The normed hidden states. -/
abbrev H : FVec Ideal S4x8192x1024 .f32 := m ((c.tc : Thread nD τ).loc main_arg0)
/-- The residual. -/
abbrev X : FVec Ideal S4x8192x1024 .f32 := m ((c.tc : Thread nD τ).loc main_arg1)
/-- The gate's weights. -/
abbrev WG : FVec Ideal S1024x2816 .f32 := m ((c.tc : Thread nD τ).loc main_arg2)
/-- The up-projection's weights. -/
abbrev WU : FVec Ideal S1024x2816 .f32 := m ((c.tc : Thread nD τ).loc main_arg3)
/-- The down-projection's weights. -/
abbrev WD : FVec Ideal S2816x1024 .f32 := m ((c.tc : Thread nD τ).loc main_arg4)

theorem V_h : V m c main_v4 = shapeCast S32768x1024 (H m c) shapeCasts_S4x8192x1024_S32768x1024 := by
  simp only [V, hostOps0]
  after_results
  rfl

theorem V_wg : V m c main_v0 = WG m c := by
  simp only [V, hostOps0]
  after_results
  rfl

theorem V_wu : V m c main_v1 = WU m c := by
  simp only [V, hostOps0]
  after_results
  rfl

theorem V_wd : V m c main_v2 = WD m c := by
  simp only [V, hostOps0]
  after_results
  rfl

theorem V_x : V m c main_v5 = shapeCast S32768x1024 (X m c) shapeCasts_S4x8192x1024_S32768x1024 := by
  simp only [V, hostOps0]
  after_results
  rfl

/-- Every grid point is a block of rows. -/
theorem coords_lt (t : Fin cfg0.N) : ((grid0.coords t) 0).val < 128 ∧ ((grid0.coords t) 1).val = 0 :=
  ⟨((grid0.coords t) 0).isLt, by have h : ((grid0.coords t) 1).val < 1 := ((grid0.coords t) 1).isLt; omega⟩

/-- The rows' blocks. -/
theorem index_rows (t : Fin cfg0.N) : win0_0.index t = ![((grid0.coords t) 0).val, 0] ∧ win0_4.index t = ![((grid0.coords t) 0).val, 0]
    ∧ win0_5.index t = ![((grid0.coords t) 0).val, 0] := by
  have h := (coords_lt t).1
  have e : ((BitVec.ofNat 32 ((grid0.coords t) 0).val).toNat) = ((grid0.coords t) 0).val := by
    rw [BitVec.toNat_ofNat, Nat.mod_eq_of_lt (by omega)]
  refine ⟨?_, ?_, ?_⟩
  · show cc0_transform_0 (grid0.coords t) = _
    unfold cc0_transform_0
    simp only [e]
    rfl
  · show cc0_transform_4 (grid0.coords t) = _
    unfold cc0_transform_4
    simp only [e]
    rfl
  · show cc0_transform_5 (grid0.coords t) = _
    unfold cc0_transform_5
    simp only [e]
    rfl

/-- The weights' blocks: the whole arrays. -/
theorem index_weights (t : Fin cfg0.N) : win0_1.index t = ![0, 0] ∧ win0_2.index t = ![0, 0] ∧ win0_3.index t = ![0, 0] := by
  have h := (coords_lt t).2
  refine ⟨?_, ?_, ?_⟩
  · show cc0_transform_1 (grid0.coords t) = _
    unfold cc0_transform_1
    simp only [h]
    rfl
  · show cc0_transform_2 (grid0.coords t) = _
    unfold cc0_transform_2
    simp only [h]
    rfl
  · show cc0_transform_3 (grid0.coords t) = _
    unfold cc0_transform_3
    simp only [h]
    rfl

/-- An array of rows, read in the flattened one. -/
theorem flat_apply (x : FVec Ideal S4x8192x1024 .f32) (R : Fin 32768) (l : Fin 1024) (i : S4x8192x1024.Idx)
    (h0 : (i 0).val = R.val / 8192) (h1 : (i 1).val = R.val % 8192) (h2 : (i 2).val = l.val) :
    shapeCast S32768x1024 x shapeCasts_S4x8192x1024_S32768x1024 (ix2 R l) = x i := by
  have hR := R.isLt
  refine shapeCast_apply x _ (ix2 R l) i ?_
  rewrite [Shape.rowMajor_val_three, Shape.rowMajor_val_two]
  show ((i 0).val * 8192 + (i 1).val) * 1024 + (i 2).val = R.val * 1024 + l.val
  rw [h0, h1, h2]
  omega

/-! ## The reference at an entry -/

/-- Where row `R` lies in the batch. -/
abbrev at3 (R : Fin 32768) (l : Fin 1024) : S4x8192x1024.Idx :=
  ix3 (⟨R.val / 8192, by have := R.isLt; omega⟩ : Fin 4) (⟨R.val % 8192, by omega⟩ : Fin 8192) l

/-- The layer of the arguments. -/
def dense : S32768x1024.Idx → EReal := fun i =>
  X m c (at3 (i 0) (i 1)) + ffn (fun l => H m c (at3 (i 0) l)) (fun l k => WG m c (ix2 l k)) (fun l k => WU m c (ix2 l k)) (fun k => WD m c (ix2 k (i 1)))

/-- It is the reference's result. -/
theorem dense_eq : dense m c = Cert.Reference2Ideal.Read.val_main_v6 (F := Ideal) (H m c) (X m c) (WG m c) (WU m c) (WD m c) := by
  funext i
  have h0 : (i 0).val < 32768 := (i 0).isLt
  have h1 : (i 1).val < 1024 := (i 1).isLt
  rw [Cert.Reference2Ideal.Read.val_main_v6_apply]
  have e : Cert.Reference2Ideal.Read.idx_main_v6 i = at3 (i 0) (i 1) := funext fun a => Fin.ext (by
    match a with
    | ⟨0, _⟩ => show ((i 0).val * 1024 + (i 1).val) / 8388608 = (i 0).val / 8192; omega
    | ⟨1, _⟩ => show ((i 0).val * 1024 + (i 1).val) / 1024 % 8192 = (i 0).val % 8192; omega
    | ⟨2, _⟩ => show ((i 0).val * 1024 + (i 1).val) % 1024 = (i 1).val; omega)
  rw [e, Cert.Reference2Ideal.Read.val_main_v5_apply, Cert.Reference2Ideal.Read.val_main_v4_apply]
  refine congrArg (X m c (at3 (i 0) (i 1)) + ·) (Finset.sum_congr rfl fun k _ => ?_)
  refine congrArg₂ (· * ·) ?_ (congrArg (WD m c) (funext fun a => Fin.ext (by
    match a with
    | ⟨0, _⟩ => rfl
    | ⟨1, _⟩ => rfl)))
  rw [Cert.Reference2Ideal.Read.val_main_v3_apply, Cert.Reference2Ideal.Read.val_main_v1_apply,
    Cert.Reference2Ideal.Read.val_main_call0_v5_apply, Cert.Reference2Ideal.Read.val_main_call0_v4_apply,
    Cert.Reference2Ideal.Read.val_main_call0_v3_apply, Cert.Reference2Ideal.Read.val_main_call0_v2_apply,
    Cert.Reference2Ideal.Read.val_main_call0_v1_apply, Cert.Reference2Ideal.Read.val_main_call0_v0_apply,
    Cert.Reference2Ideal.Read.val_main_call0_cst_apply, Cert.Reference2Ideal.Read.val_main_call0_cst_0_apply, host_logistic,
    Cert.Reference2Ideal.Read.val_main_v0_apply, Cert.Reference2Ideal.Read.val_main_v2_apply]
  have el : ∀ l : Fin 1024, Cert.Reference2Ideal.Read.lidx_main_v0 (Cert.Reference2Ideal.Read.lidx_main_v4 (at3 (i 0) (i 1)) k) l = at3 (i 0) l :=
    fun l => funext fun a => Fin.ext (by
      match a with
      | ⟨0, _⟩ => rfl
      | ⟨1, _⟩ => rfl
      | ⟨2, _⟩ => rfl)
  have er : ∀ l : Fin 1024, Cert.Reference2Ideal.Read.ridx_main_v0 (Cert.Reference2Ideal.Read.lidx_main_v4 (at3 (i 0) (i 1)) k) l = ix2 l k :=
    fun l => funext fun a => Fin.ext (by
      match a with
      | ⟨0, _⟩ => rfl
      | ⟨1, _⟩ => rfl)
  have el' : ∀ l : Fin 1024, Cert.Reference2Ideal.Read.lidx_main_v2 (Cert.Reference2Ideal.Read.lidx_main_v4 (at3 (i 0) (i 1)) k) l = at3 (i 0) l := el
  have er' : ∀ l : Fin 1024, Cert.Reference2Ideal.Read.ridx_main_v2 (Cert.Reference2Ideal.Read.lidx_main_v4 (at3 (i 0) (i 1)) k) l = ix2 l k := er
  show gate _ _ = (∑ l, H m c _ * WG m c _) * Ideal.logistic (∑ l, H m c _ * WG m c _) * (∑ l, H m c _ * WU m c _)
  simp only [el, er, el', er']
  rfl

/-! ## The kernel at an entry -/

theorem blk_h (t : Fin cfg0.N) (r : Fin 256) (l : Fin 1024) (R : Fin 32768) (hR : R.val = 256 * ((grid0.coords t) 0).val + r.val) :
    iblk m c 0 t (ix2 r l) = H m c (at3 R l) := by
  have e : ((cfg0.win 0).rect t).emb (ix2 r l) = ix2 R l := funext fun a => Fin.ext
    ((Pipeline.Window.rect_emb_val win0_0 t (ix2 r l) a).trans (by
      rw [(index_rows t).1]
      match a with
      | ⟨0, _⟩ => show ((grid0.coords t) 0).val * 256 + r.val = R.val; omega
      | ⟨1, _⟩ => show 0 * 1024 + l.val = l.val; omega))
  refine (show iblk m c 0 t (ix2 r l) = V m c main_v4 (((cfg0.win 0).rect t).emb (ix2 r l)) by unfold iblk; rw [View.read_apply]; rfl).trans ?_
  rw [e, V_h]
  exact flat_apply (H m c) R l (at3 R l) rfl rfl rfl

theorem blk_x (t : Fin cfg0.N) (r : Fin 256) (l : Fin 1024) (R : Fin 32768) (hR : R.val = 256 * ((grid0.coords t) 0).val + r.val) :
    iblk m c 4 t (ix2 r l) = X m c (at3 R l) := by
  have e : ((cfg0.win 4).rect t).emb (ix2 r l) = ix2 R l := funext fun a => Fin.ext
    ((Pipeline.Window.rect_emb_val win0_4 t (ix2 r l) a).trans (by
      rw [(index_rows t).2.1]
      match a with
      | ⟨0, _⟩ => show ((grid0.coords t) 0).val * 256 + r.val = R.val; omega
      | ⟨1, _⟩ => show 0 * 1024 + l.val = l.val; omega))
  refine (show iblk m c 4 t (ix2 r l) = V m c main_v5 (((cfg0.win 4).rect t).emb (ix2 r l)) by unfold iblk; rw [View.read_apply]; rfl).trans ?_
  rw [e, V_x]
  exact flat_apply (X m c) R l (at3 R l) rfl rfl rfl

theorem blk_wg (t : Fin cfg0.N) (l : Fin 1024) (k : Fin 2816) : iblk m c 1 t (ix2 l k) = WG m c (ix2 l k) := by
  have e : ((cfg0.win 1).rect t).emb (ix2 l k) = ix2 l k := funext fun a => Fin.ext
    ((Pipeline.Window.rect_emb_val win0_1 t (ix2 l k) a).trans (by
      rw [(index_weights t).1]
      match a with
      | ⟨0, _⟩ => show 0 * 1024 + l.val = l.val; omega
      | ⟨1, _⟩ => show 0 * 2816 + k.val = k.val; omega))
  refine (show iblk m c 1 t (ix2 l k) = V m c main_v0 (((cfg0.win 1).rect t).emb (ix2 l k)) by unfold iblk; rw [View.read_apply]; rfl).trans ?_
  rw [e, V_wg]

theorem blk_wu (t : Fin cfg0.N) (l : Fin 1024) (k : Fin 2816) : iblk m c 2 t (ix2 l k) = WU m c (ix2 l k) := by
  have e : ((cfg0.win 2).rect t).emb (ix2 l k) = ix2 l k := funext fun a => Fin.ext
    ((Pipeline.Window.rect_emb_val win0_2 t (ix2 l k) a).trans (by
      rw [(index_weights t).2.1]
      match a with
      | ⟨0, _⟩ => show 0 * 1024 + l.val = l.val; omega
      | ⟨1, _⟩ => show 0 * 2816 + k.val = k.val; omega))
  refine (show iblk m c 2 t (ix2 l k) = V m c main_v1 (((cfg0.win 2).rect t).emb (ix2 l k)) by unfold iblk; rw [View.read_apply]; rfl).trans ?_
  rw [e, V_wu]

theorem blk_wd (t : Fin cfg0.N) (k : Fin 2816) (d : Fin 1024) : iblk m c 3 t (ix2 k d) = WD m c (ix2 k d) := by
  have e : ((cfg0.win 3).rect t).emb (ix2 k d) = ix2 k d := funext fun a => Fin.ext
    ((Pipeline.Window.rect_emb_val win0_3 t (ix2 k d) a).trans (by
      rw [(index_weights t).2.2]
      match a with
      | ⟨0, _⟩ => show 0 * 2816 + k.val = k.val; omega
      | ⟨1, _⟩ => show 0 * 1024 + d.val = d.val; omega))
  refine (show iblk m c 3 t (ix2 k d) = V m c main_v2 (((cfg0.win 3).rect t).emb (ix2 k d)) by unfold iblk; rw [View.read_apply]; rfl).trans ?_
  rw [e, V_wd]

/-- A load of a whole buffer reads its contents. -/
theorem load_whole {s : Shape} {e : EltTy} (a : Memref sig .tc .vmem s e) (h : a.IsWhole) (x : Vec Ideal s e) {off : Fin s.rank → ℕ}
    (inb : ∀ b, off b + s.size b ≤ s.size b) :
    a.view.readAt (Elt Ideal) (Rect.unit off s.size inb).toLoadRect (h.unread x) = x :=
  (View.readAt_full a.view (h.unread x) inb).trans (h.read_unread x)

/-- What a point writes back is the value its body stores. -/
theorem outsAt_eq (t : Fin cfg0.N) : outsAt0 m c t
    = k0_pay2 (F := Ideal) (iblk m c 0 t) (iblk m c 1 t) (iblk m c 2 t) (iblk m c 3 t) (iblk m c 4 t) := by
  unfold outsAt0 out0_A_5 kernelRun0_A
  refine (View.read_writes_full _ _ _ _ _).trans ?_
  rw [load_whole, load_whole, load_whole, load_whole, load_whole]

/-- The result's array at the end. -/
theorem dense_array : (dats m 0 c).arrAt 5 cfg0.N = dense m c := by
  refine (dats m 0 c).arrAt_eq_of_covers 5 (dense m c) (by decide +kernel) fun t hf y => ?_
  have hy0 : (y 0).val < 256 := (y 0).isLt
  have hy1 : (y 1).val < 1024 := (y 1).isLt
  have ht := (coords_lt t).1
  have e0 := (Pipeline.Window.rect_emb_val win0_5 t y 0)
  have e1 := (Pipeline.Window.rect_emb_val win0_5 t y 1)
  rw [(index_rows t).2.2] at e0 e1
  refine (show _ = k0_pay2 (F := Ideal) (iblk m c 0 t) (iblk m c 1 t) (iblk m c 2 t) (iblk m c 3 t) (iblk m c 4 t) y from
    (congrFun ((after0_5 m c t).trans (outsAt_eq m c t)) y)).trans ?_
  show _ = dense m c (((cfg0.win 5).rect t).emb y)
  set i : S32768x1024.Idx := ((cfg0.win 5).rect t).emb y with hi
  have f0 : (i 0).val = 256 * ((grid0.coords t) 0).val + (y 0).val := by
    refine e0.trans ?_
    show ((grid0.coords t) 0).val * 256 + (y 0).val = _
    omega
  have f1 : (i 1).val = (y 1).val := by
    refine e1.trans ?_
    show 0 * 1024 + (y 1).val = _
    omega
  have ey : y = ix2 (⟨(y 0).val, hy0⟩ : Fin 256) (⟨(y 1).val, hy1⟩ : Fin 1024) := funext fun a => Fin.ext (by
    match a with
    | ⟨0, _⟩ => rfl
    | ⟨1, _⟩ => rfl)
  rw [ey, stored_apply]
  unfold dense
  rw [show i 1 = (⟨(y 1).val, hy1⟩ : Fin 1024) from Fin.ext f1]
  have eh := fun l => blk_h m c t ⟨(y 0).val, hy0⟩ l (i 0) f0
  have ex := fun l => blk_x m c t ⟨(y 0).val, hy0⟩ l (i 0) f0
  simp only [eh, ex, blk_wg, blk_wu, blk_wd]

end Cert.Ffn
-- ==== Proof.ExpertsBody.lean ====
/- The expert layer's body at one grid point: what it leaves in the result's block, for a block of rows in use and for
   one past the last, at the first and at the second half of the hidden width. -/
module

public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Pipeline.TableIdle
public import Idealize.ShloMosaic.Lib.Pipeline.Frame
public import Idealize.ShloMosaic.Lib.VecWindow
public import Idealize.ShloMosaic.Lib.WritesUnit
public import Idealize.ShloMosaic.Lib.Tactic

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-- A load of a whole buffer reads its contents. -/
theorem load_whole {s : Shape} {e : EltTy} (a : Memref sig .tc .vmem s e) (h : a.IsWhole) (x : Vec F s e) {off : Fin s.rank → ℕ}
    (inb : ∀ b, off b + s.size b ≤ s.size b) :
    a.view.readAt (Elt F) (Rect.unit off s.size inb).toLoadRect (h.unread x) = x :=
  (View.readAt_full a.view (h.unread x) inb).trans (h.read_unread x)

/-- The one word of the second table. -/
abbrev word (f : S1.Idx → BitVec 32) : BitVec 32 := f (Shape.Idx.first (numel1_S1.symm ▸ Nat.one_pos))

/-- The second table as the body is handed it. -/
abbrev usedM : Memref sig .tc .smem S1 .i32 := Memref.whole main_v32

/-- The body reads the word of its second table. -/
theorem word_read (f : S1.Idx → BitVec 32) :
    ((usedM.access (Rect.unit (s := S1) ![0] S1.size inb_S1_S1_0) : View sig .tc _ _ _).read (Elt F) f)
      (Shape.Idx.first (numel1_S1.symm ▸ Nat.one_pos)) = word f := by
  have one : ∀ p q : S1.Idx, p = q := by decide
  exact congrArg f (one _ _)

/-- The partial sum of equal blocks. -/
theorem pay1_congr {x x' : Vec F S512x1024 .f32} {g g' u u' : Vec F S1x1024x1792 .bf16} {d d' : Vec F S1x1792x1024 .bf16}
    (hx : x = x') (hg : g = g') (hu : u = u') (hd : d = d') : k0_pay1 x g u d = k0_pay1 x' g' u' d' := by rw [hx, hg, hu, hd]

/-- The sum of equal blocks onto equal blocks. -/
theorem pay2_congr {x x' : Vec F S512x1024 .f32} {g g' u u' : Vec F S1x1024x1792 .bf16} {d d' : Vec F S1x1792x1024 .bf16}
    {y y' : Vec F S512x1024 .f32} (hx : x = x') (hg : g = g') (hu : u = u') (hd : d = d') (hy : y = y') :
    k0_pay2 x g u d y = k0_pay2 x' g' u' d' y' := by rw [hx, hg, hu, hd, hy]

section Body

variable (c : Dev nD) (i : grid0.Coords) (f : S1.Idx → BitVec 32)
  (arg2 : Memref sig .tc .smem S136 .i32) (harg2 : arg2.IsWhole)
  (arg4 : Memref sig .tc .vmem S512x1024 .f32) (harg4 : arg4.IsWhole)
  (arg5 : Memref sig .tc .vmem S1x1024x1792 .bf16) (harg5 : arg5.IsWhole)
  (arg6 : Memref sig .tc .vmem S1x1024x1792 .bf16) (harg6 : arg6.IsWhole)
  (arg7 : Memref sig .tc .vmem S1x1792x1024 .bf16) (harg7 : arg7.IsWhole)
  (arg8 : Memref sig .tc .vmem S512x1024 .f32) (harg8 : arg8.IsWhole)
  (x : Vec F S512x1024 .f32) (g : Vec F S1x1024x1792 .bf16) (u : Vec F S1x1024x1792 .bf16) (d : Vec F S1x1792x1024 .bf16)

/-- What the body holds at a point: the second table's half, the four blocks it reads, and the result's block at `y`. -/
def holds (y : Vec F S512x1024 .f32) : sProp 𝕄 :=
  iprop(((c : Thread nD τ).loc main_v32 ↦{fullShare.right} f)
    ∗ owns (c : Thread nD τ) arg4 fullShare x ∗ owns (c : Thread nD τ) arg5 fullShare g ∗ owns (c : Thread nD τ) arg6 fullShare u
    ∗ owns (c : Thread nD τ) arg7 fullShare d ∗ owns (c : Thread nD τ) arg8 fullShare y)

set_option maxHeartbeats 1000000 in
/-- A block in use, first half: the result's block becomes its partial sum. -/
theorem body_first (h1 : k0_cond1 i (word f) = 1#1) (h2 : k0_cond2 i = 1#1) (h3 : ¬ k0_cond3 i = 1#1) (h4 : ¬ k0_cond4 i (word f) = 1#1)
    (y : Vec F S512x1024 .f32) (K : PUnit → sProp 𝕄) :
    iprop(holds c f arg4 arg5 arg6 arg7 arg8 x g u d y ∗ (holds c f arg4 arg5 arg6 arg7 arg8 x g u d (k0_pay1 x g u d) -∗ K ⟨⟩))
      ⊢ wp frame (wpE (defs₀ (F := F)) Variants.none c none) Set.univ
          (cc0_moe_experts i arg2 harg2 usedM (Memref.isWhole_whole _) arg4 harg4 arg5 harg5 arg6 harg6 arg7 harg7 arg8 harg8) K := by
  simp only [cc0_moe_experts_eq_skeleton]; unfold cc0_moe_experts_skel holds owns smemLoad smemLoadElt
  iintro ⟨⟨Ht, ⟨%f0, %hf0, H0⟩, ⟨%f1, %hf1, H1⟩, ⟨%f2, %hf2, H2⟩, ⟨%f3, %hf3, H3⟩, ⟨%f4, %hf4, H4⟩⟩, Hk⟩
  obtain rfl := harg4.eq_unread hf0; obtain rfl := harg5.eq_unread hf1; obtain rfl := harg6.eq_unread hf2; obtain rfl := harg7.eq_unread hf3
  simp only [Prog.bind_op, Prog.bind_ret]
  iapply (wp_load_rect Variants.none (c : Thread nD τ) none Set.univ (m := usedM) (r := Rect.unit (s := S1) ![0] S1.size inb_S1_S1_0) (Finset.subset_univ _)) $$ Ht
  iintro Ht
  rw [word_read]
  sl_exec (disch := first | sl_exact h1 | sl_exact h2 | sl_exact h3 | sl_exact h4)
  sl_step
  iapply Hk
  isplitl [Ht]; · iexact Ht
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  iexists _; isplitr
  swap; · iexact H4
  ipureintro
  exact (View.read_writes_full _ _ _ _ _).trans (pay1_congr (load_whole arg4 harg4 x _) (load_whole arg5 harg5 g _) (load_whole arg6 harg6 u _) (load_whole arg7 harg7 d _))

set_option maxHeartbeats 1000000 in
/-- A block in use, second half: the partial sum is added. -/
theorem body_second (h1 : k0_cond1 i (word f) = 1#1) (h2 : ¬ k0_cond2 i = 1#1) (h3 : k0_cond3 i = 1#1) (h4 : ¬ k0_cond4 i (word f) = 1#1)
    (y : Vec F S512x1024 .f32) (K : PUnit → sProp 𝕄) :
    iprop(holds c f arg4 arg5 arg6 arg7 arg8 x g u d y ∗ (holds c f arg4 arg5 arg6 arg7 arg8 x g u d (k0_pay2 x g u d y) -∗ K ⟨⟩))
      ⊢ wp frame (wpE (defs₀ (F := F)) Variants.none c none) Set.univ
          (cc0_moe_experts i arg2 harg2 usedM (Memref.isWhole_whole _) arg4 harg4 arg5 harg5 arg6 harg6 arg7 harg7 arg8 harg8) K := by
  simp only [cc0_moe_experts_eq_skeleton]; unfold cc0_moe_experts_skel holds owns smemLoad smemLoadElt
  iintro ⟨⟨Ht, ⟨%f0, %hf0, H0⟩, ⟨%f1, %hf1, H1⟩, ⟨%f2, %hf2, H2⟩, ⟨%f3, %hf3, H3⟩, ⟨%f4, %hf4, H4⟩⟩, Hk⟩
  obtain rfl := harg4.eq_unread hf0; obtain rfl := harg5.eq_unread hf1; obtain rfl := harg6.eq_unread hf2; obtain rfl := harg7.eq_unread hf3
  obtain rfl := harg8.eq_unread hf4
  simp only [Prog.bind_op, Prog.bind_ret]
  iapply (wp_load_rect Variants.none (c : Thread nD τ) none Set.univ (m := usedM) (r := Rect.unit (s := S1) ![0] S1.size inb_S1_S1_0) (Finset.subset_univ _)) $$ Ht
  iintro Ht
  rw [word_read]
  sl_exec (disch := first | sl_exact h1 | sl_exact h2 | sl_exact h3 | sl_exact h4)
  sl_step
  iapply Hk
  isplitl [Ht]; · iexact Ht
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  iexists _; isplitr
  swap; · iexact H4
  ipureintro
  exact (View.read_writes_full _ _ _ _ _).trans (pay2_congr (load_whole arg4 harg4 x _) (load_whole arg5 harg5 g _) (load_whole arg6 harg6 u _) (load_whole arg7 harg7 d _) (load_whole arg8 harg8 y _))

set_option maxHeartbeats 1000000 in
/-- A block past the last in use, first half: the result's block becomes zero. -/
theorem body_past (h1 : ¬ k0_cond1 i (word f) = 1#1) (h4 : k0_cond4 i (word f) = 1#1)
    (y : Vec F S512x1024 .f32) (K : PUnit → sProp 𝕄) :
    iprop(holds c f arg4 arg5 arg6 arg7 arg8 x g u d y ∗ (holds c f arg4 arg5 arg6 arg7 arg8 x g u d k0_pay3 -∗ K ⟨⟩))
      ⊢ wp frame (wpE (defs₀ (F := F)) Variants.none c none) Set.univ
          (cc0_moe_experts i arg2 harg2 usedM (Memref.isWhole_whole _) arg4 harg4 arg5 harg5 arg6 harg6 arg7 harg7 arg8 harg8) K := by
  simp only [cc0_moe_experts_eq_skeleton]; unfold cc0_moe_experts_skel holds owns smemLoad smemLoadElt
  iintro ⟨⟨Ht, ⟨%f0, %hf0, H0⟩, ⟨%f1, %hf1, H1⟩, ⟨%f2, %hf2, H2⟩, ⟨%f3, %hf3, H3⟩, ⟨%f4, %hf4, H4⟩⟩, Hk⟩
  obtain rfl := harg4.eq_unread hf0; obtain rfl := harg5.eq_unread hf1; obtain rfl := harg6.eq_unread hf2; obtain rfl := harg7.eq_unread hf3
  simp only [Prog.bind_op, Prog.bind_ret]
  iapply (wp_load_rect Variants.none (c : Thread nD τ) none Set.univ (m := usedM) (r := Rect.unit (s := S1) ![0] S1.size inb_S1_S1_0) (Finset.subset_univ _)) $$ Ht
  iintro Ht
  rw [word_read]
  sl_exec (disch := first | sl_exact h1 | sl_exact h4)
  sl_step
  iapply Hk
  isplitl [Ht]; · iexact Ht
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  iexists _; isplitr
  swap; · iexact H4
  ipureintro
  exact View.read_writes_full _ _ _ _ _

set_option maxHeartbeats 1000000 in
/-- A block past the last in use, second half: nothing is stored. -/
theorem body_kept (h1 : ¬ k0_cond1 i (word f) = 1#1) (h4 : ¬ k0_cond4 i (word f) = 1#1)
    (y : Vec F S512x1024 .f32) (K : PUnit → sProp 𝕄) :
    iprop(holds c f arg4 arg5 arg6 arg7 arg8 x g u d y ∗ (holds c f arg4 arg5 arg6 arg7 arg8 x g u d y -∗ K ⟨⟩))
      ⊢ wp frame (wpE (defs₀ (F := F)) Variants.none c none) Set.univ
          (cc0_moe_experts i arg2 harg2 usedM (Memref.isWhole_whole _) arg4 harg4 arg5 harg5 arg6 harg6 arg7 harg7 arg8 harg8) K := by
  simp only [cc0_moe_experts_eq_skeleton]; unfold cc0_moe_experts_skel holds owns smemLoad smemLoadElt
  iintro ⟨⟨Ht, ⟨%f0, %hf0, H0⟩, ⟨%f1, %hf1, H1⟩, ⟨%f2, %hf2, H2⟩, ⟨%f3, %hf3, H3⟩, ⟨%f4, %hf4, H4⟩⟩, Hk⟩
  obtain rfl := harg4.eq_unread hf0; obtain rfl := harg5.eq_unread hf1; obtain rfl := harg6.eq_unread hf2; obtain rfl := harg7.eq_unread hf3
  simp only [Prog.bind_op, Prog.bind_ret]
  iapply (wp_load_rect Variants.none (c : Thread nD τ) none Set.univ (m := usedM) (r := Rect.unit (s := S1) ![0] S1.size inb_S1_S1_0) (Finset.subset_univ _)) $$ Ht
  iintro Ht
  rw [word_read]
  sl_exec (disch := first | sl_exact h1 | sl_exact h4)
  sl_step
  iapply Hk
  isplitl [Ht]; · iexact Ht
  isplitl [H0]; · iexists _; isplitr; · ipureintro; exact harg4.read_unread _
                  iexact H0
  isplitl [H1]; · iexists _; isplitr; · ipureintro; exact harg5.read_unread _
                  iexact H1
  isplitl [H2]; · iexists _; isplitr; · ipureintro; exact harg6.read_unread _
                  iexact H2
  isplitl [H3]; · iexists _; isplitr; · ipureintro; exact harg7.read_unread _
                  iexact H3
  iexists _; isplitr
  swap; · iexact H4
  ipureintro
  exact hf4

end Body

end Cert.Moe

end
-- ==== Proof.ExpertsRun.lean ====
/- The expert layer's grid, for any contents of its two tables and any contents of the arrays: what each point leaves in
   the result's block, and that the body leaves it. -/
module

public import proofs.«01_k».proof.Proof.ExpertsBody

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-! ## The branches, by the point's number -/

theorem cond2_even : ∀ t : Fin grid0.N, k0_cond2 (grid0.coords t) = 1#1 ↔ t.val % 2 = 0 := by decide +kernel

theorem cond3_odd : ∀ t : Fin grid0.N, k0_cond3 (grid0.coords t) = 1#1 ↔ t.val % 2 = 1 := by decide +kernel

/-- The block is zeroed at the first half of a block past the last in use. -/
theorem cond4_iff (i : grid0.Coords) (v : BitVec 32) : k0_cond4 i v = 1#1 ↔ ¬ k0_cond1 i v = 1#1 ∧ k0_cond2 i = 1#1 := by
  unfold k0_cond4 k0_cond1 k0_cond2
  simp only [Scalar.xori, Scalar.extui, Scalar.andi, Scalar.cmpi]
  generalize IntOp.cmpi .slt (BitVec.ofNat 32 (i 0).val) v = p
  generalize IntOp.cmpi .eq (BitVec.ofNat 32 (i 1).val) _ = q
  revert p q; decide

/-- Both halves of a block read one row of the first axis. -/
theorem cond1_prev (t : Fin grid0.N) (h : t.val % 2 = 1) (v : BitVec 32) :
    k0_cond1 (grid0.coords ⟨t.val - 1, by omega⟩) v = k0_cond1 (grid0.coords t) v := by
  have e : (grid0.coords ⟨t.val - 1, by omega⟩ 0).val = (grid0.coords t 0).val := by
    rw [Pipeline.Grid.coords_val (G := grid0) _ 0 (S := 2) (B := 136) (by decide) rfl, Pipeline.Grid.coords_val (G := grid0) t 0 (S := 2) (B := 136) (by decide) rfl]
    simp only; omega
  unfold k0_cond1; rw [e]

section Data

variable (a : (pcfg0 (F := F)).Adm) (V : (c : Dev nD) → (b : Ref sig .tc) → Buf (Elt F) ((c : Thread nD τ).loc b))

/-- Window `w`'s block at a point. -/
def blk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The partial sum of a point. -/
def part (c : Dev nD) (t : Fin (cfg0 a).N) : Vec F S512x1024 .f32 := k0_pay1 (blk a V c 0 t) (blk a V c 1 t) (blk a V c 2 t) (blk a V c 3 t)

/-- What a point leaves in the result's block. -/
def left (c : Dev nD) (t : Fin (cfg0 a).N) : Vec F S512x1024 .f32 :=
  if k0_cond1 (grid0.coords t) (word (a.1 1)) = 1#1 then
    if t.val % 2 = 0 then part a V c t
    else k0_pay2 (blk a V c 0 t) (blk a V c 1 t) (blk a V c 2 t) (blk a V c 3 t) (part a V c ⟨t.val - 1, by omega⟩)
  else k0_pay3

/-- The pipeline's data: the blocks read stay, the result's block is `left`. -/
def dat (c : Dev nD) : Dat τ (Elt F) Unit ℕ (UR sig nD τ) ℕ (cfg0 a) c where
  A w := V c (Pipeline.arrRef spec0 w)
  after w t := match w with
    | ⟨0, _⟩ => blk a V c 0 t
    | ⟨1, _⟩ => blk a V c 1 t
    | ⟨2, _⟩ => blk a V c 2 t
    | ⟨3, _⟩ => blk a V c 3 t
    | ⟨4, _⟩ => left a V c t
  Φ _ := iprop(Pipeline.ΦA spec0 c ∗ Pipeline.ΦT pre0 a.1 c)
  q _ := fullShare
  owed _ := 0

theorem A_eq (c : Dev nD) (w : Fin (cfg0 a).W) : (dat a V c).A w = V c (Pipeline.arrRef spec0 w) := by dsimp only [dat]

theorem after_0 (c : Dev nD) (t : Fin (cfg0 a).N) : (dat a V c).after 0 t = blk a V c 0 t := by dsimp only [dat]; rfl
theorem after_1 (c : Dev nD) (t : Fin (cfg0 a).N) : (dat a V c).after 1 t = blk a V c 1 t := by dsimp only [dat]; rfl
theorem after_2 (c : Dev nD) (t : Fin (cfg0 a).N) : (dat a V c).after 2 t = blk a V c 2 t := by dsimp only [dat]; rfl
theorem after_3 (c : Dev nD) (t : Fin (cfg0 a).N) : (dat a V c).after 3 t = blk a V c 3 t := by dsimp only [dat]; rfl
theorem after_4 (c : Dev nD) (t : Fin (cfg0 a).N) : (dat a V c).after 4 t = left a V c t := by dsimp only [dat]; rfl

theorem before_0 (c : Dev nD) (t : Fin (cfg0 a).N) (d) : (dat a V c).before 0 t d = blk a V c 0 t :=
  ((dat a V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin (cfg0 a).N) (d) : (dat a V c).before 1 t d = blk a V c 1 t :=
  ((dat a V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin (cfg0 a).N) (d) : (dat a V c).before 2 t d = blk a V c 2 t :=
  ((dat a V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin (cfg0 a).N) (d) : (dat a V c).before 3 t d = blk a V c 3 t :=
  ((dat a V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)

/-! ## The result's block between the two halves -/

/-- The result's block is written back after the second half. -/
theorem flush_4 (t : Fin (cfg0 a).N) : ((cfg0 a).win 4).flush t = true ↔ t.val % 2 = 1 :=
  Pipeline.Window.flush_reads ((cfg0 a).win 4) rfl (0 : Fin 2) (show 1 < grid0.bound 0 by decide) (show grid0.fixedAfter spec0_4.reads 0 = true by decide)
    (Pipeline.Window.sep_of_coord cc0_transform_4 0 0 (fun _ => rfl) (by decide)) (P := 2) (m := 1) (show grid0.stride 0 = 2 by decide) rfl t

/-- The second table's word, as the schedule reads it. -/
theorem atD_word : a.1.atD 1 ![0] = word (a.1 1) := by
  have one : ∀ p q : S1.Idx, p = q := by decide
  unfold Pipeline.Prefetch.Contents.atD
  exact (dif_pos (show ∀ b : Fin 1, (![0] : Fin 1 → ℕ) b + 1 ≤ S1.size b by decide)).trans (congrArg (a.1 1) (one _ _))

/-- The result's block is left alone only at the second half of a block past the last. -/
theorem idle_4 (t : Fin (cfg0 a).N) : (cfg0 a).idle 4 ((cfg0 a).grid.coords t) = true ↔
    ¬ k0_cond1 (grid0.coords t) (word (a.1 1)) = 1#1 ∧ t.val % 2 = 1 := by
  have h2 := cond2_even t
  have h3 := cond3_odd t
  have h4 := cond4_iff (grid0.coords t) (word (a.1 1))
  rw [show (cfg0 a).idle 4 ((cfg0 a).grid.coords t)
      = (!(k0_cond1 (grid0.coords t) (word (a.1 1)) == 1#1 && k0_cond2 (grid0.coords t) == 1#1)
          && !(k0_cond1 (grid0.coords t) (word (a.1 1)) == 1#1 && k0_cond3 (grid0.coords t) == 1#1)
          && !(k0_cond4 (grid0.coords t) (word (a.1 1)) == 1#1)) from
    congrArg (fun v => !(k0_cond1 (grid0.coords t) v == 1#1 && k0_cond2 (grid0.coords t) == 1#1)
          && !(k0_cond1 (grid0.coords t) v == 1#1 && k0_cond3 (grid0.coords t) == 1#1)
          && !(k0_cond4 (grid0.coords t) v == 1#1)) (atD_word a)]
  simp only [Bool.and_eq_true, Bool.not_eq_true', Bool.and_eq_false_iff, beq_eq_false_iff_ne, ne_eq]
  rw [h4, h2, h3]
  by_cases h1 : k0_cond1 (grid0.coords t) (word (a.1 1)) = 1#1 <;> simp [h1] <;> omega

/-- The result's block holds nothing stored before the first half, and something before the second. -/
theorem fresh_4 (n : ℕ) (h : n ≤ (cfg0 a).N) : (cfg0 a).fresh 4 n = decide (n % 2 = 0) :=
  (cfg0 a).fresh_tab 4 (fun n => decide (n % 2 = 0)) rfl (fun t => by
    by_cases hp : t.val % 2 = 1
    · rw [(flush_4 a t).mpr hp, Bool.true_or]; exact decide_eq_true (by omega)
    · rw [Bool.eq_false_iff.mpr (fun hf => hp ((flush_4 a t).mp hf)), Bool.eq_false_iff.mpr (fun hi => hp ((idle_4 a t).mp hi).2)]
      exact decide_eq_false (by omega)) n h

/-- The second half finds what the first left. -/
theorem before_4 (c : Dev nD) (t : Fin (cfg0 a).N) (h : t.val % 2 = 1) (d) :
    (dat a V c).before 4 t d = left a V c ⟨t.val - 1, by omega⟩ := by
  rw [(dat a V c).before_out_traj 4 rfl (fun _ _ => rfl) (fun t _ hi _ => by
    obtain ⟨h1, hp⟩ := (idle_4 a t).mp hi
    rw [after_4, after_4]; unfold left
    rw [if_neg h1, if_neg (by rw [cond1_prev t hp]; exact h1)]) t.val t rfl d, fresh_4 a t.val t.isLt.le, if_neg (by simp [h]), after_4]

/-! ## The body at a point -/

abbrev st0 (t : Fin (cfg0 a).N) : Memref sig .tc .vmem S512x1024 .f32 := spec0_0.stage ((cfg0 a).slots t 0)
abbrev st1 (t : Fin (cfg0 a).N) : Memref sig .tc .vmem S1x1024x1792 .bf16 := spec0_1.stage ((cfg0 a).slots t 1)
abbrev st2 (t : Fin (cfg0 a).N) : Memref sig .tc .vmem S1x1024x1792 .bf16 := spec0_2.stage ((cfg0 a).slots t 2)
abbrev st3 (t : Fin (cfg0 a).N) : Memref sig .tc .vmem S1x1792x1024 .bf16 := spec0_3.stage ((cfg0 a).slots t 3)
abbrev st4 (t : Fin (cfg0 a).N) : Memref sig .tc .vmem S512x1024 .f32 := spec0_4.stage ((cfg0 a).slots t 4)

/-- The body as the pipeline calls it at a point. -/
abbrev bodyAt (t : Fin (cfg0 a).N) : Prog (TpuEff nD τ sig (Elt F) Λ₀ .tc) PUnit :=
  cc0_moe_experts (grid0.coords t) (Memref.whole main_v30) (Memref.isWhole_whole _) (Memref.whole main_v32) (Memref.isWhole_whole _)
    (st0 a t) (hstage0_0 (((cfg0 a).slots t 0).cast nbuf0_0)) (st1 a t) (hstage0_1 (((cfg0 a).slots t 1).cast nbuf0_1))
    (st2 a t) (hstage0_2 (((cfg0 a).slots t 2).cast nbuf0_2)) (st3 a t) (hstage0_3 (((cfg0 a).slots t 3).cast nbuf0_3))
    (st4 a t) (hstage0_4 (((cfg0 a).slots t 4).cast nbuf0_4))

/-- What the body holds at a point, the result's block at `y`. -/
abbrev holdsAt (c : Dev nD) (t : Fin (cfg0 a).N) (y : Vec F S512x1024 .f32) : sProp 𝕄 :=
  holds c (a.1 1) (st0 a t) (st1 a t) (st2 a t) (st3 a t) (st4 a t) (blk a V c 0 t) (blk a V c 1 t) (blk a V c 2 t) (blk a V c 3 t) y

/-- The body leaves `left`, from anything at a first half and from what the first half left at a second. -/
theorem body_point (c : Dev nD) (t : Fin (cfg0 a).N) (y : Vec F S512x1024 .f32)
    (hy : t.val % 2 = 1 → y = left a V c ⟨t.val - 1, by omega⟩) (K : PUnit → sProp 𝕄) :
    iprop(holdsAt a V c t y ∗ (holdsAt a V c t (left a V c t) -∗ K ⟨⟩))
      ⊢ wp frame (wpE (defs₀ (F := F)) Variants.none c none) Set.univ (bodyAt a t) K := by
  have h4 := cond4_iff (grid0.coords t) (word (a.1 1))
  by_cases hu : k0_cond1 (grid0.coords t) (word (a.1 1)) = 1#1
  · by_cases hp : t.val % 2 = 0
    · rw [show left a V c t = k0_pay1 (blk a V c 0 t) (blk a V c 1 t) (blk a V c 2 t) (blk a V c 3 t) from by
        unfold left; rw [if_pos hu, if_pos hp]; rfl]
      exact body_first c (grid0.coords t) (a.1 1) _ _ _ _ _ _ _ _ _ _ _ _ _ _ _ _ hu ((cond2_even t).mpr hp)
        (fun h => absurd ((cond3_odd t).mp h) (by omega)) (fun h => (h4.mp h).1 hu) y K
    · have hp' : t.val % 2 = 1 := by omega
      obtain rfl := hy hp'
      rw [show left a V c t = k0_pay2 (blk a V c 0 t) (blk a V c 1 t) (blk a V c 2 t) (blk a V c 3 t) (left a V c ⟨t.val - 1, by omega⟩) from by
        unfold left; rw [if_pos hu, if_neg hp, if_pos (by rw [cond1_prev t hp']; exact hu), if_pos (by simp only; omega)]]
      exact body_second c (grid0.coords t) (a.1 1) _ _ _ _ _ _ _ _ _ _ _ _ _ _ _ _ hu (fun h => hp ((cond2_even t).mp h))
        ((cond3_odd t).mpr hp') (fun h => (h4.mp h).1 hu) _ K
  · rw [show left a V c t = k0_pay3 from by unfold left; rw [if_neg hu]]
    by_cases hp : t.val % 2 = 0
    · exact body_past c (grid0.coords t) (a.1 1) _ _ _ _ _ _ _ _ _ _ _ _ _ _ _ _ hu (h4.mpr ⟨hu, (cond2_even t).mpr hp⟩) y K
    · have hp' : t.val % 2 = 1 := by omega
      obtain rfl := hy hp'
      rw [show left a V c ⟨t.val - 1, by omega⟩ = k0_pay3 from by unfold left; rw [if_neg (by rw [cond1_prev t hp']; exact hu)]]
      exact body_kept c (grid0.coords t) (a.1 1) _ _ _ _ _ _ _ _ _ _ _ _ _ _ _ _ hu (fun h => hp ((cond2_even t).mp (h4.mp h).2)) _ K

/-- The tables' halves, one by one. -/
theorem tables_eq (v : pre0.Contents (Elt F)) (c : Dev nD) :
    (Pipeline.ΦT pre0 v c : sProp 𝕄)
      = iprop(((c : Thread nD τ).loc main_v30 ↦{fullShare.right} v 0) ∗ ((c : Thread nD τ).loc main_v32 ↦{fullShare.right} v 1)) := by
  unfold Pipeline.ΦT Pipeline.prefHeld
  rw [show (Finset.univ : Finset (Fin 2)) = insert 0 {1} from by decide, bigSep_insert (by decide), bigSep_singleton]; rfl

/-- What the body is called with at a point, -/
def bodyPre (c : Dev nD) (t : Fin (cfg0 a).N) : sProp 𝕄 :=
  iprop((dat a V c).Φ t.castSucc ∗ (dat a V c).owesAt () t.castSucc
    ∗ (∃ d, owns (c : Thread nD τ) (st0 a t) fullShare ((dat a V c).before 0 t d))
    ∗ (∃ d, owns (c : Thread nD τ) (st1 a t) fullShare ((dat a V c).before 1 t d))
    ∗ (∃ d, owns (c : Thread nD τ) (st2 a t) fullShare ((dat a V c).before 2 t d))
    ∗ (∃ d, owns (c : Thread nD τ) (st3 a t) fullShare ((dat a V c).before 3 t d))
    ∗ (∃ d, owns (c : Thread nD τ) (st4 a t) fullShare ((dat a V c).before 4 t d)))

/-- and what it returns. -/
def bodyPost (c : Dev nD) (t : Fin (cfg0 a).N) : sProp 𝕄 :=
  iprop((dat a V c).Φ t.succ ∗ (dat a V c).owesAt () t.succ
    ∗ (dat a V c).leavesExact 0 t ∗ (dat a V c).leavesExact 1 t ∗ (dat a V c).leavesExact 2 t ∗ (dat a V c).leavesExact 3 t
    ∗ (dat a V c).leavesExact 4 t)

/-- The result's block is stored, or left as it is where it is written back. -/
theorem leaves_4 (c : Dev nD) (t : Fin (cfg0 a).N) :
    (dat a V c).leavesExact 4 t = owns (c : Thread nD τ) (st4 a t) fullShare (left a V c t) := by
  unfold Dat.leavesExact
  by_cases hi : (cfg0 a).idle 4 ((cfg0 a).grid.coords t) = true
  · rw [hi, (flush_4 a t).mpr ((idle_4 a t).mp hi).2, after_4]; rfl
  · rw [Bool.eq_false_iff.mpr hi, after_4]; rfl

theorem sound_body (c : Dev nD) (t : Fin (cfg0 a).N) :
    bodyPre a V c t ⊢ wp frame (wpE (defs₀ (F := F)) Variants.none c none) Set.univ (bodyAt a t) (fun _ => bodyPost a V c t) := by
  unfold bodyPre bodyPost
  simp only [before_0, before_1, before_2, before_3]
  rw [show (dat a V c).Φ t.succ = (dat a V c).Φ t.castSucc from rfl,
    show (dat a V c).owesAt () t.succ = (dat a V c).owesAt () t.castSucc from rfl, leaves_4,
    show (dat a V c).leavesExact 0 t = owns (c : Thread nD τ) (st0 a t) fullShare (blk a V c 0 t) from by rw [← after_0]; rfl,
    show (dat a V c).leavesExact 1 t = owns (c : Thread nD τ) (st1 a t) fullShare (blk a V c 1 t) from by rw [← after_1]; rfl,
    show (dat a V c).leavesExact 2 t = owns (c : Thread nD τ) (st2 a t) fullShare (blk a V c 2 t) from by rw [← after_2]; rfl,
    show (dat a V c).leavesExact 3 t = owns (c : Thread nD τ) (st3 a t) fullShare (blk a V c 3 t) from by rw [← after_3]; rfl,
    show (dat a V c).Φ t.castSucc = iprop(Pipeline.ΦA spec0 c ∗ Pipeline.ΦT pre0 a.1 c) from rfl, tables_eq]
  iintro ⟨⟨HA, Hs, Hw⟩, Ho, ⟨%d0, H0⟩, ⟨%d1, H1⟩, ⟨%d2, H2⟩, ⟨%d3, H3⟩, ⟨%d4, H4⟩⟩
  iapply (body_point a V c t ((dat a V c).before 4 t d4) (fun h => before_4 a V c t h d4) _)
  unfold holdsAt holds
  isplitl [Hw H0 H1 H2 H3 H4]
  · isplitl [Hw]; · iexact Hw
    isplitl [H0]; · iexact H0
    isplitl [H1]; · iexact H1
    isplitl [H2]; · iexact H2
    isplitl [H3]; · iexact H3
    iexact H4
  iintro ⟨Hw, H0, H1, H2, H3, H4⟩
  isplitl [HA Hs Hw]
  · isplitl [HA]; · iexact HA
    isplitl [Hs]; · iexact Hs
    iexact Hw
  isplitl [Ho]; · iexact Ho
  isplitl [H0]; · iexact H0
  isplitl [H1]; · iexact H1
  isplitl [H2]; · iexact H2
  isplitl [H3]; · iexact H3
  iexact H4

theorem defs₀_row (t : Fin (cfg0 a).N) : defs₀ (F := F) .tc (cfg0 a).body ((cfg0 a).bodyArgs t ((cfg0 a).slots t)) = bodyAt a t := by
  unfold defs₀; rw [Defs.onTc_tc]

theorem body_obligation (c : Dev nD) : BodyObligation (dat a V c) (defs₀ (F := F)) Variants.none () Set.univ := fun t => by
  rw [bigSep_W0, bigSep_W0, defs₀_row]
  exact triple_restated (sound_body a V c t) rfl .rfl fun _ => .rfl

end Data

end Cert.Moe

end
-- ==== Proof.ExpertsHost.lean ====
/- What the host prepares for the expert layer: the experts' row counts, where each expert's padded rows end, the expert
   a block of rows belongs to, and the number of blocks in use; and that the weights' blocks it names lie inside them. -/
module

public import proofs.«01_k».proof.Proof.ExpertsRun
public import Idealize.ShloMosaic.Lib.Routing.Ops

@[expose] public section

set_option maxRecDepth 16384

noncomputable section

namespace Cert.Moe

open Idealize.ShloMosaic Idealize.ShloMosaic.TcCoe Idealize.ShloMosaic.Tactic
open Cert.Kernel3Ideal Cert.Kernel3Ideal.Gen
open Idealize.ShloMosaic.Routing Idealize.ShloMosaic.ValueIdx

variable {F : FTy → Type} [FloatOps F]

/-- The rows each expert has. -/
def count (x : IVec S32768x2 32) : IVec S8 32 :=
  shapeCast S8 (extractStridedSlice S1x8 ![65535, 0]
    (Host.reduceWindow IntOp.addi ![65536, 1] ![1, 1] ![65535, 0] ![0, 0]
      (extui 32 (cmpi .eq (broadcastInDim S65536x8 ![0, 1] bcast_S65536x1_S65536x8_0_1 (broadcastInDim S65536x1 ![0] bcast_S65536_S65536x1_0 (shapeCast S65536 x shapeCasts_S32768x2_S65536)))
        (broadcastInDim S65536x8 ![0, 1] bcast_S1x8_S65536x8_0_1 (broadcastInDim S1x8 ![1] bcast_S8_S1x8_1 (iotaInDim S8 32 0)))) natLt_1_32)
      (broadcastInDim S_ ![] bcast_S_S_ (constantI S_ 32 0#32)) reduceWindows_S65536x8_S65536x8_w65536s1p65535_0_w1s1p0_0 h_S_)
    slices_S65536x8_S1x8_65535_0) shapeCasts_S1x8_S8

/-- Floor division of the experts' counts. -/
def floorDiv (s : Shape) (h : S_.BroadcastsInDim s ![]) (x : IVec s 32) (y : IVec S_ 32) : IVec s 32 :=
  select (andi (cmpi .ne (signi x) (broadcastInDim s ![] h (signi y)))
      (cmpi .ne (Host.remsi x (broadcastInDim s ![] h y)) (broadcastInDim s ![] h (constantI S_ 32 0#32))))
    (subi (Host.divsi x (broadcastInDim s ![] h y)) (broadcastInDim s ![] h (constantI S_ 32 1#32)))
    (Host.divsi x (broadcastInDim s ![] h y))

/-- Where each expert's rows end, each count rounded up to whole blocks. -/
def ends (n : IVec S8 32) : IVec S8 32 :=
  Host.reduceWindow IntOp.addi ![8] ![1] ![7] ![0]
    (muli (floorDiv S8 bcast_S_S8 (subi (addi n (broadcastInDim S8 ![] bcast_S_S8 (constantI S_ 32 512#32))) (broadcastInDim S8 ![] bcast_S_S8 (constantI S_ 32 1#32))) (constantI S_ 32 512#32))
      (broadcastInDim S8 ![] bcast_S_S8 (constantI S_ 32 512#32)))
    (broadcastInDim S_ ![] bcast_S_S_ (constantI S_ 32 0#32)) reduceWindows_S8_S8_w8s1p7_0 h_S_

/-- Whether an expert's rows end at or before a block's first row. -/
def before (p : IVec S8 32) : IVec S136x8 1 :=
  cmpi .sle (broadcastInDim S136x8 ![0, 1] bcast_S1x8_S136x8_0_1 (broadcastInDim S1x8 ![1] bcast_S8_S1x8_1 p))
    (broadcastInDim S136x8 ![0, 1] bcast_S136x1_S136x8_0_1 (broadcastInDim S136x1 ![0] bcast_S136_S136x1_0
      (muli (iotaInDim S136 32 0) (broadcastInDim S136 ![] bcast_S_S136 (constantI S_ 32 512#32)))))

/-- The expert each block of rows belongs to. -/
def owner (p : IVec S8 32) : IVec S136 32 :=
  minsi (Host.reduce IntOp.addi (extui 32 (before p) natLt_1_32) (constantI S_ 32 0#32) reducesTo_S136x8_S136_d1 h_S_)
    (broadcastInDim S136 ![] bcast_S_S136 (constantI S_ 32 7#32))

/-- The number of blocks in use. -/
def inUse (p : IVec S8 32) : IVec S1 32 :=
  floorDiv S1 bcast_S_S1 (extractStridedSlice S1 ![7] p slices_S8_S1_7) (constantI S_ 32 512#32)

/-! ## An expert's number is below eight -/

theorem owner_lt (p : IVec S8 32) (b : Fin 136) : (owner p (ix1 b)).toNat < 8 := by
  have h := reduce_count (n := 136) (m := 8) (by decide) (before p) natLt_1_32 reducesTo_S136x8_S136_d1 h_S_ b
    (fun q => ∃ hq : q < 8, before p (ix2 b (⟨q, hq⟩ : Fin 8)) = 1#1) (fun q => ⟨fun e => ⟨q.isLt, e⟩, fun ⟨_, e⟩ => e⟩)
  have hc : Nat.count (fun q => ∃ hq : q < 8, before p (ix2 b (⟨q, hq⟩ : Fin 8)) = 1#1) 8 ≤ 8 := Nat.count_le _
  show (IntOp.minsi (Host.reduce IntOp.addi (extui 32 (before p) natLt_1_32) (constantI S_ 32 0#32) reducesTo_S136x8_S136_d1 h_S_ (ix1 b)) 7#32).toNat < 8
  rw [show Host.reduce IntOp.addi (extui 32 (before p) natLt_1_32) (constantI S_ 32 0#32) reducesTo_S136x8_S136_d1 h_S_ (ix1 b) = _ from h]
  have key : ∀ n, n ≤ 8 → (IntOp.minsi (BitVec.ofNat 32 n) 7#32).toNat < 8 := fun n hn => by interval_cases n <;> decide
  exact key _ hc

/-! ## The region's entry -/

section Entry

variable (m : (ℓ : Loc nD τ sig) → Buf (Elt F) ℓ) (ρ : Dev nD → PrngReg)

/-- The host's operations, stretch by stretch. -/
abbrev stretches : List (List (HloOp τ sig (Elt F))) :=
  [hostOps0, hostOps0_1, hostOps0_2, hostOps0_3, hostOps0_4, hostOps0_5, hostOps0_6, hostOps0_7, hostOps0_8]

/-- The arrays when the region is entered. -/
abbrev V (c : Dev nD) (b : Ref sig .tc) : Buf (Elt F) ((c : Thread nD τ).loc b) := StableHlo.after (stretches (F := F)).flatten (fun b => m (c, b)) b

/-- Where the experts' rows end, from the routing. -/
abbrev endsOf (c : Dev nD) : IVec S8 32 := ends (count (m ((c.tc : Thread nD τ).loc main_arg1)))

theorem V_owner (c : Dev nD) : V m c main_v30 = owner (endsOf m c) := by
  simp only [V, stretches, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_inUse (c : Dev nD) : V m c main_v32 = inUse (endsOf m c) := by
  simp only [V, stretches, hostOps0, hostOps0_1, hostOps0_2, hostOps0_3, hostOps0_4, hostOps0_5, hostOps0_6, hostOps0_7, hostOps0_8,
    List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

end Entry

end Cert.Moe

end
-- ==== Proof.ExpertsTables.lean ====
/- The expert layer's weights' blocks, by the tables: the block of the expert the first table names, halves of the hidden
   width in turn; each lies inside its array. -/
module

public import proofs.«01_k».proof.Proof.ExpertsHost

@[expose] public section

set_option maxRecDepth 16384

noncomputable section

namespace Cert.Moe

open Idealize.ShloMosaic Idealize.ShloMosaic.TcCoe Idealize.ShloMosaic.Tactic
open Cert.Kernel3Ideal Cert.Kernel3Ideal.Gen
open Idealize.ShloMosaic.Routing Idealize.ShloMosaic.ValueIdx

variable {F : FTy → Type} [FloatOps F]

/-- The half of the hidden width a point computes: the halves in turn, the order reversed at odd blocks. -/
def half (b h : ℕ) : ℕ := if b % 2 = 0 then h else 1 - h

/-- The index map's word for the half. -/
theorem half_word : ∀ (b : Fin 136) (h : Fin 2),
    (let arg0 : BitVec 32 := BitVec.ofNat 32 b.val
     let arg1 : BitVec 32 := BitVec.ofNat 32 h.val
     let v3 : BitVec 32 := Scalar.select (Scalar.cmpi .eq 2#32 0#32) 1#32 2#32
     let v4 : BitVec 32 := Scalar.remsi arg0 v3
     let v9 : BitVec 1 := Scalar.andi (Scalar.xori (Scalar.cmpi .slt v4 0#32) (Scalar.cmpi .slt v3 0#32)) (Scalar.cmpi .ne v4 0#32)
     let v11 : BitVec 32 := Scalar.select v9 (Scalar.addi v4 v3) v4
     (Scalar.select (Scalar.cmpi .eq v11 0#32) arg1 (Scalar.subi 1#32 arg1)).toNat) = half b.val h.val := by decide +kernel

theorem half_le (b h : ℕ) (hh : h < 2) : half b h ≤ 1 := by unfold half; split <;> omega

/-- The row block of a point. -/
abbrev rowOf (i : grid0.Coords) : Fin 136 := ⟨(i 0).val, (i 0).isLt⟩

/-- The table's word an index map reads. -/
theorem at_eq (pf : pre0.Contents (Elt F)) (i : grid0.Coords) :
    pf.at 0 (Rect.unit (s := S136) ![(Scalar.indexCast (BitVec.ofNat 32 (i 0).val) : Index).toNat] S1.size (k0_off1_inb i)) numel1_S1
      = (pf 0 : S136.Idx → BitVec 32) (ix1 (rowOf i)) := by
  refine congrArg (pf 0 : S136.Idx → BitVec 32) (funext fun a => ?_)
  fin_cases a
  refine Fin.ext ?_
  show (BitVec.ofNat 32 (i 0).val).toNat + 1 * 0 = (i 0).val
  have h : (i 0).val < 136 := (i 0).isLt
  rw [BitVec.toNat_ofNat]; omega

theorem map_1 (pf : pre0.Contents (Elt F)) (i : grid0.Coords) : cc0_transform_1 k0_off1_inb numel1_S1 pf i
    = ![((pf 0 : S136.Idx → BitVec 32) (ix1 (rowOf i))).toNat, 0, half (i 0).val (i 1).val] := by
  funext a
  fin_cases a
  · exact congrArg BitVec.toNat (at_eq pf i)
  · rfl
  · exact half_word ⟨(i 0).val, (i 0).isLt⟩ ⟨(i 1).val, (i 1).isLt⟩

theorem map_2 (pf : pre0.Contents (Elt F)) (i : grid0.Coords) : cc0_transform_2 k0_off1_inb numel1_S1 pf i
    = ![((pf 0 : S136.Idx → BitVec 32) (ix1 (rowOf i))).toNat, 0, half (i 0).val (i 1).val] := by
  funext a
  fin_cases a
  · exact congrArg BitVec.toNat (at_eq pf i)
  · rfl
  · exact half_word ⟨(i 0).val, (i 0).isLt⟩ ⟨(i 1).val, (i 1).isLt⟩

theorem map_3 (pf : pre0.Contents (Elt F)) (i : grid0.Coords) : cc0_transform_3 k0_off1_inb numel1_S1 pf i
    = ![((pf 0 : S136.Idx → BitVec 32) (ix1 (rowOf i))).toNat, half (i 0).val (i 1).val, 0] := by
  funext a
  fin_cases a
  · exact congrArg BitVec.toNat (at_eq pf i)
  · exact half_word ⟨(i 0).val, (i 0).isLt⟩ ⟨(i 1).val, (i 1).isLt⟩
  · rfl

/-- An expert's half of the weights on the way up is inside them, in whole words; -/
theorem up_block (T : Fin 3 → ℕ) (e h : ℕ) (he : e < 8) (hh : h ≤ 1) (hT : T = ![e, 0, h]) :
    ∃ hb : (∀ a, (T a + 1) * S1x1024x1792.size a ≤ S8x1024x3584.size a),
      EltTy.bits .bf16 = 32 ∨ (Rect.block (s := S8x1024x3584) S1x1024x1792.size T hb).WholeWords (EltTy.packing .bf16) := by
  subst hT
  refine ⟨fun a => ?_, .inr (.inr ⟨by decide, rfl, ?_, rfl⟩)⟩
  · fin_cases a
    · show (e + 1) * 1 ≤ 8; omega
    · show (0 + 1) * 1024 ≤ 1024; omega
    · show (h + 1) * 1792 ≤ 3584; omega
  · show 0 * 1024 = 0; rfl

/-- and of the weights on the way down. -/
theorem down_block (T : Fin 3 → ℕ) (e h : ℕ) (he : e < 8) (hh : h ≤ 1) (hT : T = ![e, h, 0]) :
    ∃ hb : (∀ a, (T a + 1) * S1x1792x1024.size a ≤ S8x3584x1024.size a),
      EltTy.bits .bf16 = 32 ∨ (Rect.block (s := S8x3584x1024) S1x1792x1024.size T hb).WholeWords (EltTy.packing .bf16) := by
  subst hT
  refine ⟨fun a => ?_, .inr (.inl (.inr ⟨by decide, rfl, .inl ⟨?_, ?_⟩⟩))⟩
  · fin_cases a
    · show (e + 1) * 1 ≤ 8; omega
    · show (h + 1) * 1792 ≤ 3584; omega
    · show (0 + 1) * 1024 ≤ 1024; omega
  · show 2 ∣ h * 1792; omega
  · show 2 ∣ 1792; omega

/-- Tables naming experts below eight are admissible. -/
theorem ok_of (pf : pre0.Contents (Elt F)) (h : ∀ b : Fin 136, ((pf 0 : S136.Idx → BitVec 32) (ix1 b)).toNat < 8) : ok0 pf :=
  ⟨fun i => up_block _ _ _ (h (rowOf i)) (half_le _ _ (i 1).isLt) (map_1 pf i), fun i => up_block _ _ _ (h (rowOf i)) (half_le _ _ (i 1).isLt) (map_2 pf i),
    fun i => down_block _ _ _ (h (rowOf i)) (half_le _ _ (i 1).isLt) (map_3 pf i)⟩

end Cert.Moe

end
-- ==== Proof.ExpertsFrame.lean ====
/- The expert layer's run, over any values: every execution ends, each array the grid's data, the arguments unchanged. -/
module

public import proofs.«01_k».proof.Proof.ExpertsTables

@[expose] public section

set_option maxRecDepth 16384

noncomputable section

namespace Cert.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen
open Idealize.ShloMosaic.Routing Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' contents: what the host leaves in them. -/
def tables : pre0.Contents (Elt F) := fun k => V m 0 (pre0.ref k)

theorem tables_owner : (tables m 0 : S136.Idx → BitVec 32) = owner (endsOf m 0) := V_owner m 0

theorem tables_inUse : (tables m 1 : S1.Idx → BitVec 32) = inUse (endsOf m 0) := V_inUse m 0

/-- The tables are admissible. -/
def adm : (pcfg0 (F := F)).Adm := ⟨tables m, ok_of (tables m) fun b => by rw [tables_owner]; exact owner_lt _ b⟩

/-- The program's one pipeline at these tables, -/
abbrev adms : (p : Fin 1) → (pcfgs (F := F) p).Adm := fun _ => adm m

/-- and its data. -/
def dats (_ : Fin 1) (c : Dev nD) : Dat τ (Elt F) Unit ℕ (UR sig nD τ) ℕ (cfg0 (adm m)) c := dat (adm m) (V m) c

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem stretches_fresh : (stretches (F := F)).Forall fun ops => ops.Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

set_option backward.isDefEq.respectTransparency.types false in
theorem run_quiescent : θ_run defs (onTc (τ := τ) (main (F := F))) (s₀ m ρ)
    (fun r => (Pipeline.FramePost (Pipeline.pin pcfgs (adms m)) (dats m) 0 (V m)) r ∧ r.2.sem = fun _ => 0) :=
  Pipeline.θ_run_frameP (Q' := _) pcfgs (adms m) (dats m) (0 : Fin 1) launch0 defs₀ Variants.none m ρ main
    (hbody := fun c => (body_obligation (adm m) (V m) c).loose) (hshare := fun c => (dats m 0 c).share_full fun _ => rfl)
    (howed := fun _ _ => rfl) (V := V m) (hmain := hmain m Variants.none) (hA := fun c w => A_eq (adm m) (V m) c w)
    (hpf := fun c k => by obtain rfl : c = 0 := Subsingleton.elim _ _; rfl) (hΦ := fun _ _ => rfl)

set_option maxHeartbeats 1000000 in
/-- The host's operations write none of the arguments. -/
theorem V_args (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) := by
  refine ⟨?_, ?_, ?_, ?_, ?_⟩
  all_goals
    refine StableHlo.after_of_forall_not_mem _ _ (List.forall_iff_forall_mem.mp ?_)
    simp only [stretches, hostOps0, hostOps0_1, hostOps0_2, hostOps0_3, hostOps0_4, hostOps0_5, hostOps0_6, hostOps0_7, hostOps0_8,
      List.flatten_cons, List.flatten_nil, List.append_nil, List.cons_append, List.nil_append, List.Forall, StableHlo.TRef.binary,
      StableHlo.TRef.nullary, StableHlo.TRef.ternary, StableHlo.TRef.unary, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)

/-- No window lies over an argument but the first. -/
theorem arr_ne : (∀ w, (spec0 w).arr.view.ref ≠ main_arg1) ∧ (∀ w, (spec0 w).arr.view.ref ≠ main_arg2)
    ∧ (∀ w, (spec0 w).arr.view.ref ≠ main_arg3) ∧ (∀ w, (spec0 w).arr.view.ref ≠ main_arg4) := by decide

/-- A run that ends as the launch says leaves the arguments unchanged. -/
theorem unchanged {r : _} (h : Pipeline.FramePost (Pipeline.pin pcfgs (adms m)) (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  obtain ⟨h0, h1, h2, h3, h4⟩ := V_args m c
  refine ⟨((h c).1 0).trans (((dats m 0 c).arrAt_in 0 rfl _).trans ((A_eq (adm m) (V m) c 0).trans h0)), ?_, ?_, ?_, ?_⟩
  · exact ((h c).2 main_arg1 (Pipeline.mem_restRefs_of main_arg1 (by decide) (arr_ne.1))).trans h1
  · exact ((h c).2 main_arg2 (Pipeline.mem_restRefs_of main_arg2 (by decide) (arr_ne.2.1))).trans h2
  · exact ((h c).2 main_arg3 (Pipeline.mem_restRefs_of main_arg3 (by decide) (arr_ne.2.2.1))).trans h3
  · exact ((h c).2 main_arg4 (Pipeline.mem_restRefs_of main_arg4 (by decide) (arr_ne.2.2.2))).trans h4

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged m h.1, h.2⟩) (run_quiescent m ρ)

end Cert.Moe

end
-- ==== Proof.ExpertsRouting.lean ====
/- The routing the host prepares is the reference's: an expert's count is the last entry of a running sum or a sum down a
   column, and a look-up of weights by expert reads that expert's. -/
module

public import proofs.«01_k».proof.Proof.ExpertsHost
public import proofs.«01_k».proof.Proof.Gen.Reference3Ideal.Read

@[expose] public section

set_option maxRecDepth 16384

noncomputable section

namespace Cert.Moe

open Idealize.ShloMosaic Idealize.ShloMosaic.TcCoe
open Idealize.ShloMosaic.Routing Idealize.ShloMosaic.ValueIdx

/-! ## The last entry of a running sum down a column -/

theorem numel_col (N : ℕ) : (shape2 N 1).numel = N := by
  show ∏ a : Fin 2, (![N, 1] : Fin 2 → ℕ) a = N
  rw [Fin.prod_univ_two]
  exact Nat.mul_one N

theorem symm_col {N : ℕ} (n : Fin (shape2 N 1).numel) : (shape2 N 1).rowMajor.symm n = ix2 (n.cast (numel_col N)) (0 : Fin 1) :=
  ((shape2 N 1).rowMajor.symm_apply_eq).2 (Fin.ext (by
    rw [Shape.rowMajor_val_two]
    show n.val = n.val * 1 + 0
    omega))

theorem cumsum_last {N L M : ℕ} (hN : L + 1 = N) (x : IVec (shape2 N M) 32) (f : ℕ → ℕ) (e : Fin M)
    (hx : ∀ i : Fin N, x (ix2 i e) = BitVec.ofNat 32 (f i.val)) (init : IVec shape0 32) (hinit : init ix0 = 0#32)
    (h : (shape2 N M).ReduceWindows (![N, 1] : Fin 2 → ℕ) ![1, 1] ![L, 0] ![0, 0] (shape2 N M)) (hu : 0 < shape0.numel) :
    Host.reduceWindow IntOp.addi ![N, 1] ![1, 1] ![L, 0] ![0, 0] x init h hu (ix2 (⟨L, by omega⟩ : Fin N) e)
      = BitVec.ofNat 32 ((List.range N).map f).sum := by
  have hv : init (Shape.Idx.first hu) = BitVec.ofNat 32 0 := (congrArg init (eq_ix0 _)).trans hinit
  unfold Host.reduceWindow
  refine (foldl_addi_ofNat _ _ (fun n => f n.val) (fun n _ => ?_) _ 0 hv).trans ?_
  · have h0 : ((shape2 N 1).rowMajor.symm n 0).val = n.val := by rw [symm_col]; rfl
    have h1 : ((shape2 N 1).rowMajor.symm n 1).val = 0 := by rw [symm_col]; rfl
    have hn : n.val < N := (n.cast (numel_col _)).isLt
    have he : e.val < M := e.isLt
    dsimp only
    split
    · refine (congrArg x (funext fun a => Fin.ext ?_)).trans (hx ⟨n.val, hn⟩)
      match a with
      | ⟨0, _⟩ =>
        show L * 1 + ((shape2 N 1).rowMajor.symm n 0).val - L = n.val
        omega
      | ⟨1, _⟩ =>
        show e.val * 1 + ((shape2 N 1).rowMajor.symm n 1).val - 0 = e.val
        omega
    · next hin =>
      refine (hin fun a => ?_).elim
      match a with
      | ⟨0, _⟩ =>
        show L ≤ L * 1 + ((shape2 N 1).rowMajor.symm n 0).val ∧ L * 1 + ((shape2 N 1).rowMajor.symm n 0).val - L < N
        omega
      | ⟨1, _⟩ =>
        show 0 ≤ e.val * 1 + ((shape2 N 1).rowMajor.symm n 1).val ∧ e.val * 1 + ((shape2 N 1).rowMajor.symm n 1).val - 0 < M
        omega
  · rw [Nat.zero_add, map_finRange_val _ f]
    exact congrArg (BitVec.ofNat 32) (congrArg (fun K => ((List.range K).map f).sum) (numel_col N))

/-- As many naturals below `N` satisfy `Q` as the ones that stand for them add up to. -/
theorem sum_ones (Q : ℕ → Prop) [DecidablePred Q] (N : ℕ) : ((List.range N).map fun i => if Q i then 1 else 0).sum = Nat.count Q N := by
  induction N with
  | zero => rfl
  | succ n ih => rw [List.range_succ, List.map_append, List.sum_append, ih, Nat.count_succ]; simp

/-- The last entry of a mask's running sum down a column is the sum down the column. -/
theorem last_eq_reduce {N L M : ℕ} (hN : L + 1 = N) (hlt : N < 2 ^ 32) (msk : IVec (shape2 N M) 1) (hw : 1 < 32) (e : Fin M)
    (init : IVec shape0 32) (hinit : init ix0 = 0#32)
    (h : (shape2 N M).ReduceWindows (![N, 1] : Fin 2 → ℕ) ![1, 1] ![L, 0] ![0, 0] (shape2 N M)) (hu : 0 < shape0.numel)
    (h' : (shape2 N M).ReducesTo [0] (shape1 M)) :
    Host.reduceWindow IntOp.addi ![N, 1] ![1, 1] ![L, 0] ![0, 0] (extui 32 msk hw) init h hu (ix2 (⟨L, by omega⟩ : Fin N) e)
      = Host.reduce IntOp.addi (extui 32 msk hw) (constantI shape0 32 0#32) h' hu (ix1 e) := by
  classical
  let Q : ℕ → Prop := fun q => ∃ hq : q < N, msk (ix2 (⟨q, hq⟩ : Fin N) e) = 1#1
  have hQ : ∀ q : Fin N, msk (ix2 q e) = 1#1 ↔ Q q.val := fun q => ⟨fun h => ⟨q.isLt, h⟩, fun ⟨_, h⟩ => h⟩
  rw [cumsum_last hN (extui 32 msk hw) (fun q => if Q q then 1 else 0) e (fun q => BitVec.eq_of_toNat_eq ?_) init hinit h hu, sum_ones]
  · apply BitVec.eq_of_toNat_eq
    rw [StableHlo.Predicate.toNat_reduce_count_rows hlt msk hw h' hu (ix1 e), BitVec.toNat_ofNat,
      Nat.mod_eq_of_lt (Nat.lt_of_le_of_lt (Nat.count_le _) hlt), ← card_filter_fin N Q]
    refine congrArg Finset.card (Finset.filter_congr fun q _ => ?_)
    show Q q.val ↔ msk (StableHlo.Predicate.ij q e) = 1#1
    rw [ij_eq_ix2]
    exact (hQ q).symm
  · refine (StableHlo.Predicate.toNat_setWidth_bit (msk (ix2 q e))).trans ?_
    rw [BitVec.toNat_ofNat]
    by_cases hq : msk (ix2 q e) = 1#1
    · rw [if_pos hq, if_pos ((hQ q).mp hq)]
    · rw [if_neg hq, if_neg fun h => hq ((hQ q).mpr h)]

/-! ## A look-up of slabs -/

/-- `table[idx]` over the slabs of a `[nb, B, C]` table: where `idx` holds a slab's number, the result has that slab's entries. -/
theorem gather_slab {α : Type} {nb B C n : ℕ} (d : GatherDims ⟨3, ![nb, B, C]⟩ (shape2 n 1) ⟨3, ![n, B, C]⟩) (hoff : d.offsetDims = [1, 2])
    (hcoll : d.collapsedSliceDims = [0]) (hob : d.operandBatchingDims = []) (hsb : d.startIndicesBatchingDims = [])
    (hsim : d.startIndexMap = [0]) (hivd : d.indexVectorDim = 1) (x : (⟨3, ![nb, B, C]⟩ : Shape).Idx → α) (idx : IVec (shape2 n 1) 32)
    (c : Fin n) (y : Fin B) (z : Fin C) (b : Fin nb) (hb : idx (ix2 c (0 : Fin 1)) = BitVec.ofNat 32 b.val) (hnb : nb < 2 ^ 31) :
    Host.gather d x idx (ix3 c y z) = x (ix3 b y z) := by
  obtain ⟨od, cd, obd, sbd, sm, iv, ss, wf⟩ := d
  dsimp only at hoff hcoll hob hsb hsim hivd
  subst hoff hcoll hob hsb hsim hivd
  set d : GatherDims ⟨3, ![nb, B, C]⟩ (shape2 n 1) ⟨3, ![n, B, C]⟩ := ⟨[1, 2], [0], [], [], [0], 1, ss, wf⟩ with hd
  unfold Host.gather
  refine congrArg x (funext fun a => Fin.ext ?_)
  have hbN : ∀ a', a' ∉ d.operandBatchingDims := fun a' => List.not_mem_nil
  match a with
  | ⟨0, _⟩ =>
    have hk : (0 : Fin 3) ∉ d.sKept := fun h => ((d.mem_sKept 0).1 h).1 (List.mem_singleton.2 rfl)
    have hm : (0 : Fin 3) ∈ d.startIndexMap := List.mem_singleton.2 rfl
    have hsl : d.sliceSizes 0 = 1 := d.slice_collapsed 0 (List.mem_singleton.2 rfl)
    show d.start (ix3 c y z) idx 0 + d.batchCoord (ix3 c y z) 0 + d.offCoord (ix3 c y z) 0 = b.val
    rw [d.batchCoord_eq_zero _ _ (hbN 0), d.offCoord_eq_zero _ _ hk]
    simp only [Nat.add_zero]
    unfold GatherDims.start
    rw [dif_pos hm]
    have hsi : d.siIdx (ix3 c y z) ⟨d.startIndexMap.idxOf 0, List.idxOf_lt_length_iff.2 hm⟩ = ix2 c (0 : Fin 1) := by
      funext b'
      apply Fin.ext
      match b' with
      | ⟨0, _⟩ => rfl
      | ⟨1, _⟩ => rfl
    have hbl := b.isLt
    rw [hsi, hb, hsl, StableHlo.Predicate.toInt_ofNat_small _ (by omega)]
    show min ((b.val : Int)).toNat (nb - 1) = b.val
    omega
  | ⟨1, _⟩ =>
    show d.start (ix3 c y z) idx 1 + d.batchCoord (ix3 c y z) 1 + d.offCoord (ix3 c y z) 1 = y.val
    rw [d.batchCoord_eq_zero _ _ (hbN 1), Nat.add_zero, show d.start (ix3 c y z) idx 1 = 0 from rfl, Nat.zero_add]
    rfl
  | ⟨2, _⟩ =>
    show d.start (ix3 c y z) idx 2 + d.batchCoord (ix3 c y z) 2 + d.offCoord (ix3 c y z) 2 = z.val
    rw [d.batchCoord_eq_zero _ _ (hbN 2), Nat.add_zero, show d.start (ix3 c y z) idx 2 = 0 from rfl, Nat.zero_add]
    rfl

/-! ## The counts -/

section Counts

open Cert.Kernel3Ideal Cert.Kernel3Ideal.Gen

variable {F : FTy → Type} [FloatOps F]

/-- The experts' numbers, in a row. -/
theorem numbers_eq : broadcastInDim S1x8 ![1] bcast_S8_S1x8_1 (iotaInDim S8 32 0) = iotaInDim S1x8 32 1 := by decide +kernel

/-- Each expert's count is the reference's. -/
theorem count_eq (x : IVec S32768x2 32) : count x = Cert.Reference3Ideal.Read.val_main_v2 (F := F) x := by
  funext i
  obtain ⟨e, rfl⟩ : ∃ e : Fin 8, i = ix1 e := ⟨i 0, funext fun a => by fin_cases a; rfl⟩
  have h1 : ∀ X : IVec S65536x8 32, shapeCast S8 (extractStridedSlice S1x8 ![65535, 0] X slices_S65536x8_S1x8_65535_0) shapeCasts_S1x8_S8 (ix1 e)
      = X (ix2 (⟨65535, by omega⟩ : Fin 65536) e) := fun X => by
    rw [shapeCast_apply _ _ (ix1 e) (ix2 (0 : Fin 1) e) (by
      rw [Shape.rowMajor_val_two, Shape.rowMajor_val_one]
      show 0 * 8 + e.val = e.val; omega)]
    refine extractStridedSlice_apply _ X _ _ _ fun a => ?_
    match a with
    | ⟨0, _⟩ => rfl
    | ⟨1, _⟩ => show e.val = 0 + e.val; omega
  unfold count
  rw [h1, numbers_eq]
  exact last_eq_reduce (N := 65536) (L := 65535) (M := 8) rfl (by norm_num) _ natLt_1_32 e _ rfl _ h_S_ _

end Counts

end Cert.Moe

end
-- ==== Proof.ExpertsRef.lean ====
/- The expert layer's reference at an entry: the row's block is one expert's, a gated feed-forward layer of the row where the
   block is in use, zero past that. -/
module

public import proofs.«01_k».proof.Proof.ExpertsRouting
public import proofs.«01_k».proof.Proof.Gated

@[expose] public section

set_option maxRecDepth 16384

noncomputable section

namespace Cert.Moe

open Idealize.ShloMosaic hiding ix1 ix2 ix3
open Idealize.ShloMosaic.TcCoe
open Idealize.ShloMosaic.Routing Idealize.ShloMosaic.ValueIdx
open Cert.Ffn (gate ffn host_logistic)
open Cert.Kernel3Ideal Cert.Kernel3Ideal.Gen
open Cert.Reference3Ideal.Read

/-! ## The tables -/

section Tables

variable {F : FTy → Type} [FloatOps F] (x : IVec S32768x2 32)

theorem ends_ref : val_main_v10 (F := F) x = ends (count x) := by
  rw [count_eq (F := F)]
  unfold val_main_v10 val_main_v9 val_main_v7 val_main_call1_v13 val_main_call1_v11 val_main_call1_v10 val_main_call1_v8
    val_main_call1_v6 val_main_call1_v3 val_main_call1_v2 val_main_v6 val_main_v4
  generalize val_main_v2 (F := F) x = n
  rfl

theorem owner_ref : val_main_v22 (F := F) x = owner (ends (count x)) := by
  unfold val_main_v22 val_main_v20 val_main_v19 val_main_v18 val_main_v16 val_main_v12
  rw [ends_ref]
  generalize ends (count x) = p
  rfl

theorem inUse_ref (i : S_.Idx) : val_main_v52 (F := F) x i = inUse (ends (count x)) (ix1 (0 : Fin 1)) := by
  have e : val_main_v51 (F := F) x i = extractStridedSlice S1 ![7] (ends (count x)) slices_S8_S1_7 (ix1 (0 : Fin 1)) := by
    unfold val_main_v51
    rw [shapeCast_apply _ _ i (ix1 (0 : Fin 1)) (by rw [Shape.rowMajor_val_one]; exact (Nat.lt_one_iff.mp (Fin.isLt _)).symm)]
    unfold val_main_v50
    rw [ends_ref]
  have key : ∀ (p : IVec S_ 32) (q : IVec S1 32), p i = q (ix1 (0 : Fin 1)) →
      select (andi (cmpi .ne (signi p) (signi (constantI S_ 32 512#32))) (cmpi .ne (Host.remsi p (constantI S_ 32 512#32)) (constantI S_ 32 0#32)))
        (subi (Host.divsi p (constantI S_ 32 512#32)) (constantI S_ 32 1#32)) (Host.divsi p (constantI S_ 32 512#32)) i
        = floorDiv S1 bcast_S_S1 q (constantI S_ 32 512#32) (ix1 (0 : Fin 1)) := fun p q h => by
    unfold floorDiv
    simp only [select, andi, cmpi, signi, Host.remsi, Host.divsi, subi, h]
    rfl
  exact key _ _ e

/-- The expert of a block. -/
def expert (b : Fin 136) : Fin 8 := ⟨(owner (ends (count x)) (ix1 b)).toNat, owner_lt _ b⟩

/-- Whether a block is in use. -/
def used (b : Fin 136) : BitVec 1 := IntOp.cmpi .slt (BitVec.ofNat 32 b.val) (inUse (ends (count x)) (ix1 (0 : Fin 1)))

/-- A look-up's number is the expert's: no number is negative. -/
theorem look (b : Fin 136) (z : BitVec 32) :
    Scalar.select (IntOp.cmpi .slt (val_main_v22 (F := F) x (ix1 b)) 0#32) z (val_main_v22 (F := F) x (ix1 b)) = BitVec.ofNat 32 (expert x b).val := by
  have key : ∀ w : BitVec 32, w.toNat < 8 → Scalar.select (IntOp.cmpi .slt w 0#32) z w = BitVec.ofNat 32 w.toNat := fun w h => by
    have e : IntOp.cmpi .slt w 0#32 = 0#1 := by
      unfold IntOp.cmpi
      simp only [BitVec.slt, StableHlo.Predicate.toInt_eq_toNat_of_lt (show w.toNat < 2 ^ 31 by omega)]
      rw [decide_eq_false (by simp)]
      rfl
    rw [e]
    simp [Scalar.select]
  rw [owner_ref]
  exact key _ (owner_lt (ends (count x)) b)

end Tables

/-! ## The result -/

variable (x0 : FVec Ideal S69632x1024 .f32) (x1 : IVec S32768x2 32) (x2 x3 : FVec Ideal S8x1024x3584 .f32) (x4 : FVec Ideal S8x3584x1024 .f32)

theorem gate_weights (b : Fin 136) (l : Fin 1024) (k : Fin 3584) : val_main_v30 (F := Ideal) x1 x2 (ix3 b l k) = x2 (ix3 (expert x1 b) l k) :=
  gather_slab _ rfl rfl rfl rfl rfl rfl x2 _ b l k (expert x1 b) (by
    rw [val_main_v29_apply, show idx_main_v29 (ix2 b (0 : Fin 1)) = ix1 b from funext fun a => by fin_cases a; rfl]
    exact look (F := Ideal) x1 b _) (by norm_num)

theorem up_weights (b : Fin 136) (l : Fin 1024) (k : Fin 3584) : val_main_v38 (F := Ideal) x1 x3 (ix3 b l k) = x3 (ix3 (expert x1 b) l k) :=
  gather_slab _ rfl rfl rfl rfl rfl rfl x3 _ b l k (expert x1 b) (by
    rw [val_main_v37_apply, show idx_main_v37 (ix2 b (0 : Fin 1)) = ix1 b from funext fun a => by fin_cases a; rfl]
    exact look (F := Ideal) x1 b _) (by norm_num)

theorem down_weights (b : Fin 136) (k : Fin 3584) (d : Fin 1024) : val_main_v48 (F := Ideal) x1 x4 (ix3 b k d) = x4 (ix3 (expert x1 b) k d) :=
  gather_slab _ rfl rfl rfl rfl rfl rfl x4 _ b k d (expert x1 b) (by
    rw [val_main_v47_apply, show idx_main_v47 (ix2 b (0 : Fin 1)) = ix1 b from funext fun a => by fin_cases a; rfl]
    exact look (F := Ideal) x1 b _) (by norm_num)

/-- The block a row lies in. -/
def blockOf (R : Fin 69632) : Fin 136 := ⟨R.val / 512, by have := R.isLt; omega⟩

/-- The layer of the arguments. -/
def experts : S69632x1024.Idx → EReal := fun i =>
  if used x1 (blockOf (i 0)) = 1#1 then
    ffn (fun l => x0 (ix2 (i 0) l)) (fun l k => x2 (ix3 (expert x1 (blockOf (i 0))) l k)) (fun l k => x3 (ix3 (expert x1 (blockOf (i 0))) l k))
      (fun k => x4 (ix3 (expert x1 (blockOf (i 0))) k (i 1)))
  else 0

/-- The rows, in blocks. -/
theorem rows_at (b : Fin 136) (r : Fin 512) (l : Fin 1024) (R : Fin 69632) (hR : R.val = 512 * b.val + r.val) :
    val_main_v23 (F := Ideal) x0 (ix3 b r l) = x0 (ix2 R l) := by
  rw [val_main_v23_apply]
  refine congrArg x0 (funext fun a => Fin.ext ?_)
  have hl := l.isLt
  match a with
  | ⟨0, _⟩ => show ((b.val * 512 + r.val) * 1024 + l.val) / 1024 = R.val; omega
  | ⟨1, _⟩ => show ((b.val * 512 + r.val) * 1024 + l.val) % 1024 = l.val; omega

/-- The gated product of a row, at a hidden place. -/
theorem gated_at (b : Fin 136) (r : Fin 512) (k : Fin 3584) (R : Fin 69632) (hR : R.val = 512 * b.val + r.val) :
    val_main_v41 (F := Ideal) x0 x1 x2 x3 (ix3 b r k)
      = gate (∑ l : Fin 1024, x0 (ix2 R l) * x2 (ix3 (expert x1 b) l k)) (∑ l : Fin 1024, x0 (ix2 R l) * x3 (ix3 (expert x1 b) l k)) := by
  have l31 : ∀ l : Fin 1024, lidx_main_v31 (ix3 b r k) l = ix3 b r l := fun l => funext fun a => by fin_cases a <;> rfl
  have r31 : ∀ l : Fin 1024, ridx_main_v31 (ix3 b r k) l = ix3 b l k := fun l => funext fun a => by fin_cases a <;> rfl
  have l39 : ∀ l : Fin 1024, lidx_main_v39 (ix3 b r k) l = ix3 b r l := fun l => funext fun a => by fin_cases a <;> rfl
  have r39 : ∀ l : Fin 1024, ridx_main_v39 (ix3 b r k) l = ix3 b l k := fun l => funext fun a => by fin_cases a <;> rfl
  rw [val_main_v41_apply, val_main_v40_apply, val_main_call3_v5_apply, val_main_call3_v4_apply, val_main_call3_v3_apply,
    val_main_call3_v2_apply, val_main_call3_v1_apply, val_main_call3_v0_apply, val_main_call3_cst_apply, val_main_call3_cst_0_apply,
    host_logistic, val_main_v31_apply, val_main_v39_apply]
  simp only [l31, r31, l39, r39, rows_at x0 b r _ R hR, gate_weights, up_weights]
  rfl

/-- The layer is the reference's result. -/
theorem experts_eq : experts x0 x1 x2 x3 x4 = val_main_v57 (F := Ideal) x0 x1 x2 x3 x4 := by
  funext i
  obtain ⟨R, d, rfl⟩ : ∃ (R : Fin 69632) (d : Fin 1024), i = ix2 R d := ⟨i 0, i 1, funext fun a => by fin_cases a <;> rfl⟩
  have hR := R.isLt
  have hd := d.isLt
  have e : idx_main_v57 (ix2 R d) = ix3 (blockOf R) (⟨R.val % 512, by omega⟩ : Fin 512) d := funext fun a => Fin.ext (by
    match a with
    | ⟨0, _⟩ => show (R.val * 1024 + d.val) / 524288 = R.val / 512; omega
    | ⟨1, _⟩ => show (R.val * 1024 + d.val) / 1024 % 512 = R.val % 512; omega
    | ⟨2, _⟩ => show (R.val * 1024 + d.val) % 1024 = d.val; omega)
  have l49 : ∀ k : Fin 3584, lidx_main_v49 (ix3 (blockOf R) (⟨R.val % 512, by omega⟩ : Fin 512) d) k = ix3 (blockOf R) (⟨R.val % 512, by omega⟩ : Fin 512) k :=
    fun k => funext fun a => by fin_cases a <;> rfl
  have r49 : ∀ k : Fin 3584, ridx_main_v49 (ix3 (blockOf R) (⟨R.val % 512, by omega⟩ : Fin 512) d) k = ix3 (blockOf R) k d :=
    fun k => funext fun a => by fin_cases a <;> rfl
  rw [val_main_v57_apply, e, val_main_v56_apply, val_main_call5_v1_apply, val_main_v55_apply, val_main_v54_apply, val_main_v53_apply,
    inUse_ref, val_main_v49_apply, val_main_call5_v2_apply, val_main_call5_v0_apply, val_main_cst_apply]
  simp only [l49, r49, down_weights, gated_at x0 x1 x2 x3 (blockOf R) (⟨R.val % 512, by omega⟩ : Fin 512) _ R
    (show R.val = 512 * (R.val / 512) + R.val % 512 by omega)]
  have hz : FloatOps.ofBits (F := Ideal) .f32 0x00000000#32 = (0 : EReal) := by
    show Ideal.ofBits .f32 0x00000000#32 = 0
    simp [Ideal.ofBits, Ideal.ieee]
  rw [hz]
  rfl

end Cert.Moe

end
-- ==== Proof.ExpertsValue.lean ====
/- The expert layer over the extended reals: each block of 512 rows the kernel writes is the reference's, the two halves of
   the hidden width adding up to the whole. -/
module

public import proofs.«01_k».proof.Proof.ExpertsFrame
public import proofs.«01_k».proof.Proof.ExpertsRef
public import Idealize.ShloMosaic.Lib.Pipeline.ValueKit
public import Idealize.ShloMosaic.Lib.KernelVsHost

@[expose] public section

set_option maxRecDepth 16384

noncomputable section

namespace Cert.Moe

open Idealize.ShloMosaic hiding ix1 ix2 ix3
open Idealize.ShloMosaic.TcCoe
open Idealize.ShloMosaic.Routing Idealize.ShloMosaic.ValueIdx
open Cert.Ffn (gate ffn)
open Cert.Kernel3Ideal Cert.Kernel3Ideal.Gen

/-! ## The payload -/

/-- Rows by the weights on the way up. -/
theorem up_apply (a : FVec Ideal S512x1024 .bf16) (w : FVec Ideal S1024x1792 .bf16) (r : Fin 512) (k : Fin 1792) :
    matmul dot_S512x1024_S1024x1792_S512x1792_1_0_0_1_n_n none a w (constant S512x1792 .f32 0x00000000#32) (ix2 r k)
      = ∑ l : Fin 1024, a (ix2 r l) * w (ix2 l k) := by
  have h : matmul dot_S512x1024_S1024x1792_S512x1792_1_0_0_1_n_n none a w (constant S512x1792 .f32 0x00000000#32) (Idealize.ShloMosaic.ix2 r k)
      = ∑ l : Fin 1024, a (Idealize.ShloMosaic.ix2 r l) * w (Idealize.ShloMosaic.ix2 l k) := by pointwise
  exact h

/-- Gated rows by the weights on the way down. -/
theorem down_apply (a : FVec Ideal S512x1792 .bf16) (w : FVec Ideal S1792x1024 .bf16) (r : Fin 512) (d : Fin 1024) :
    matmul dot_S512x1792_S1792x1024_S512x1024_1_0_0_1_n_n none a w (constant S512x1024 .f32 0x00000000#32) (ix2 r d)
      = ∑ k : Fin 1792, a (ix2 r k) * w (ix2 k d) := by
  have h : matmul dot_S512x1792_S1792x1024_S512x1024_1_0_0_1_n_n none a w (constant S512x1024 .f32 0x00000000#32) (Idealize.ShloMosaic.ix2 r d)
      = ∑ k : Fin 1792, a (Idealize.ShloMosaic.ix2 r k) * w (Idealize.ShloMosaic.ix2 k d) := by pointwise
  exact h

/-- A single slab, read as a matrix. -/
theorem slab_apply {n k : ℕ} (w : (⟨3, ![1, n, k]⟩ : Shape).Idx → EReal) (h : (⟨3, ![1, n, k]⟩ : Shape).ShapeCasts ⟨2, ![n, k]⟩) (p : Fin n) (q : Fin k) :
    shapeCast (⟨2, ![n, k]⟩ : Shape) w h (ix2 p q) = w (ix3 (0 : Fin 1) p q) := by
  refine shapeCast_apply w h _ _ ?_
  rw [Shape.rowMajor_val_three, Shape.rowMajor_val_two]
  show (0 * n + p.val) * k + q.val = p.val * k + q.val
  rw [Nat.zero_mul, Nat.zero_add]

/-- The partial sum a point computes, at an entry. -/
theorem pay_apply (x : FVec Ideal S512x1024 .f32) (g u : FVec Ideal S1x1024x1792 .bf16) (w : FVec Ideal S1x1792x1024 .bf16) (r : Fin 512) (d : Fin 1024) :
    k0_pay1 (F := Ideal) x g u w (ix2 r d)
      = ffn (fun l => x (ix2 r l)) (fun l k => g (ix3 (0 : Fin 1) l k)) (fun l k => u (ix3 (0 : Fin 1) l k)) (fun k => w (ix3 (0 : Fin 1) k d)) := by
  unfold k0_pay1
  rw [down_apply]
  refine Finset.sum_congr rfl fun k _ => congrArg₂ (· * ·) ?_ (slab_apply w _ k d)
  show _ * Ideal.logistic _ * _ = _
  rw [up_apply, up_apply]
  simp only [slab_apply g, slab_apply u]
  rfl

theorem ffn_congr {n : ℕ} {h h' : Fin 1024 → EReal} {wg wg' wu wu' : Fin 1024 → Fin n → EReal} {wd wd' : Fin n → EReal}
    (e0 : h = h') (e1 : wg = wg') (e2 : wu = wu') (e3 : wd = wd') : ffn h wg wu wd = ffn h' wg' wu' wd' := by
  subst e0 e1 e2 e3; rfl

/-- A point's share of the hidden width. -/
def hid (b : ℕ) (s : Fin 2) (k : Fin 1792) : Fin 3584 :=
  ⟨half b s.val * 1792 + k.val, by have := k.isLt; have := half_le b s.val s.isLt; omega⟩

/-- The layer over the whole hidden width is the sum over its halves, in either order. -/
theorem ffn_halves (h : Fin 1024 → EReal) (wg wu : Fin 1024 → Fin 3584 → EReal) (wd : Fin 3584 → EReal) (b : ℕ) :
    ffn h (fun l k => wg l (hid b 0 k)) (fun l k => wu l (hid b 0 k)) (fun k => wd (hid b 0 k))
      + ffn h (fun l k => wg l (hid b 1 k)) (fun l k => wu l (hid b 1 k)) (fun k => wd (hid b 1 k)) = ffn h wg wu wd := by
  have key : ∀ f : Fin 3584 → EReal, ∑ k : Fin 3584, f k
      = ∑ k : Fin 1792, f ⟨k.val, by have := k.isLt; omega⟩ + ∑ k : Fin 1792, f ⟨1792 + k.val, by have := k.isLt; omega⟩ :=
    fun f => Fin.sum_univ_add (a := 1792) (b := 1792) f
  have low : ∀ s : Fin 2, half b s.val = 0 → ∀ k, hid b s k = ⟨k.val, by have := k.isLt; omega⟩ := fun s e k => Fin.ext (by
    show half b s.val * 1792 + k.val = k.val; rw [e]; omega)
  have high : ∀ s : Fin 2, half b s.val = 1 → ∀ k, hid b s k = ⟨1792 + k.val, by have := k.isLt; omega⟩ := fun s e k => Fin.ext (by
    show half b s.val * 1792 + k.val = 1792 + k.val; rw [e])
  unfold ffn
  rw [key]
  by_cases hb : b % 2 = 0
  · simp only [low 0 (if_pos hb), high 1 (if_pos hb)]
  · simp only [high 0 (if_neg hb), low 1 (if_neg hb)]
    exact add_comm _ _

/-! ## The operands -/

variable (m : (ℓ : Loc nD τ sig) → Buf (Elt Ideal) ℓ) (c : Dev nD)

/-- The dispatched rows. -/
abbrev X : FVec Ideal S69632x1024 .f32 := m ((c.tc : Thread nD τ).loc main_arg0)
/-- The routing. -/
abbrev TI : IVec S32768x2 32 := m ((c.tc : Thread nD τ).loc main_arg1)
/-- The gate's weights. -/
abbrev WG : FVec Ideal S8x1024x3584 .f32 := m ((c.tc : Thread nD τ).loc main_arg2)
/-- The up-projection's weights. -/
abbrev WU : FVec Ideal S8x1024x3584 .f32 := m ((c.tc : Thread nD τ).loc main_arg3)
/-- The down-projection's weights. -/
abbrev WD : FVec Ideal S8x3584x1024 .f32 := m ((c.tc : Thread nD τ).loc main_arg4)

/-- The weights as the kernel takes them are the arguments. -/
theorem V_weights : V m c main_v33 = WG m c ∧ V m c main_v34 = WU m c ∧ V m c main_v35 = WD m c := by
  refine ⟨?_, ?_, ?_⟩
  all_goals
    simp only [V, stretches, hostOps0, hostOps0_1, hostOps0_2, hostOps0_3, hostOps0_4, hostOps0_5, hostOps0_6, hostOps0_7, hostOps0_8,
      List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp
    rfl

/-! ## The blocks -/

theorem coords_row (t : Fin grid0.N) : (grid0.coords t 0).val = t.val / 2 := by
  rw [Pipeline.Grid.coords_val (G := grid0) t 0 (S := 2) (B := 136) (by decide) rfl]
  have h : t.val < 272 := t.isLt
  omega

theorem coords_half (t : Fin grid0.N) : (grid0.coords t 1).val = t.val % 2 := by
  rw [Pipeline.Grid.coords_val (G := grid0) t 1 (S := 1) (B := 2) (by decide) rfl]
  omega

/-- The row of the array a block's row lies at. -/
def rowAt (b : Fin 136) (r : Fin 512) : Fin 69632 := ⟨b.val * 512 + r.val, by have := b.isLt; have := r.isLt; omega⟩

theorem blockOf_rowAt (b : Fin 136) (r : Fin 512) : blockOf (rowAt b r) = b := Fin.ext (by
  show (b.val * 512 + r.val) / 512 = b.val
  have := r.isLt
  omega)

/-- The expert of a block, from the first table. -/
theorem owner_at (b : Fin 136) : ((tables m 0 : S136.Idx → BitVec 32) (ix1 b)).toNat = (expert (TI m c) b).val := by
  obtain rfl : c = 0 := Subsingleton.elim _ _
  rw [tables_owner]; rfl

variable (t : Fin (cfg0 (adm m)).N)

/-- The point's coordinates. -/
abbrev at_ : grid0.Coords := grid0.coords t

theorem blk_rows (r : Fin 512) (l : Fin 1024) : blk (adm m) (V m) c 0 t (ix2 r l) = X m c (ix2 (rowAt (rowOf (at_ m t)) r) l) := by
  refine (show _ = V m c main_arg0 ((((cfg0 (adm m)).win 0).rect t).emb (ix2 r l)) from rfl).trans ?_
  rw [(V_args m c).1]
  refine congrArg (X m c) (funext fun a => ?_)
  fin_cases a <;> refine Fin.ext ((Pipeline.Window.rect_emb_val ((cfg0 (adm m)).win 0) t (ix2 r l) _).trans ?_)
  · show (BitVec.ofNat 32 (at_ m t 0).val).toNat * 512 + r.val = (at_ m t 0).val * 512 + r.val
    have h : (at_ m t 0).val < 136 := (at_ m t 0).isLt
    rw [BitVec.toNat_ofNat, Nat.mod_eq_of_lt (by omega)]
  · show 0 * 1024 + l.val = l.val
    omega

/-- An entry of a block of the weights on the way up, read at an index map that names the expert and the half. -/
theorem up_index {T : Fin 3 → ℕ} (b : Fin 136) (s : Fin 2) (l : Fin 1024) (k : Fin 1792) (e : Fin 8)
    (hT : T = ![e.val, 0, half b.val s.val]) (y : S8x1024x3584.Idx) (hy : ∀ a, (y a).val = T a * S1x1024x1792.size a + (ix3 (0 : Fin 1) l k a).val) :
    y = ix3 e l (hid b.val s k) := by
  subst hT
  funext a
  fin_cases a <;> refine Fin.ext ((hy _).trans ?_)
  · show e.val * 1 + 0 = e.val; omega
  · show 0 * 1024 + l.val = l.val; omega
  · rfl

/-- The same of the weights on the way down. -/
theorem down_index {T : Fin 3 → ℕ} (b : Fin 136) (s : Fin 2) (k : Fin 1792) (d : Fin 1024) (e : Fin 8)
    (hT : T = ![e.val, half b.val s.val, 0]) (y : S8x3584x1024.Idx) (hy : ∀ a, (y a).val = T a * S1x1792x1024.size a + (ix3 (0 : Fin 1) k d a).val) :
    y = ix3 e (hid b.val s k) d := by
  subst hT
  funext a
  fin_cases a <;> refine Fin.ext ((hy _).trans ?_)
  · show e.val * 1 + 0 = e.val; omega
  · rfl
  · show 0 * 1024 + d.val = d.val; omega

/-- The half a point computes. -/
abbrev halfOf : Fin 2 := ⟨(at_ m t 1).val, (at_ m t 1).isLt⟩

theorem blk_gate (l : Fin 1024) (k : Fin 1792) : blk (adm m) (V m) c 1 t (ix3 (0 : Fin 1) l k)
    = WG m c (ix3 (expert (TI m c) (rowOf (at_ m t))) l (hid (rowOf (at_ m t)).val (halfOf m t) k)) := by
  refine (show _ = V m c main_v33 ((((cfg0 (adm m)).win 1).rect t).emb (ix3 (0 : Fin 1) l k)) from rfl).trans ?_
  rw [(V_weights m c).1]
  exact congrArg (WG m c) (up_index _ _ _ _ _ ((map_1 (tables m) (at_ m t)).trans (by rw [owner_at m c])) _
    (Pipeline.Window.rect_emb_val ((cfg0 (adm m)).win 1) t (ix3 (0 : Fin 1) l k)))

theorem blk_up (l : Fin 1024) (k : Fin 1792) : blk (adm m) (V m) c 2 t (ix3 (0 : Fin 1) l k)
    = WU m c (ix3 (expert (TI m c) (rowOf (at_ m t))) l (hid (rowOf (at_ m t)).val (halfOf m t) k)) := by
  refine (show _ = V m c main_v34 ((((cfg0 (adm m)).win 2).rect t).emb (ix3 (0 : Fin 1) l k)) from rfl).trans ?_
  rw [(V_weights m c).2.1]
  exact congrArg (WU m c) (up_index _ _ _ _ _ ((map_2 (tables m) (at_ m t)).trans (by rw [owner_at m c])) _
    (Pipeline.Window.rect_emb_val ((cfg0 (adm m)).win 2) t (ix3 (0 : Fin 1) l k)))

theorem blk_down (k : Fin 1792) (d : Fin 1024) : blk (adm m) (V m) c 3 t (ix3 (0 : Fin 1) k d)
    = WD m c (ix3 (expert (TI m c) (rowOf (at_ m t))) (hid (rowOf (at_ m t)).val (halfOf m t) k) d) := by
  refine (show _ = V m c main_v35 ((((cfg0 (adm m)).win 3).rect t).emb (ix3 (0 : Fin 1) k d)) from rfl).trans ?_
  rw [(V_weights m c).2.2]
  exact congrArg (WD m c) (down_index _ _ _ _ _ ((map_3 (tables m) (at_ m t)).trans (by rw [owner_at m c])) _
    (Pipeline.Window.rect_emb_val ((cfg0 (adm m)).win 3) t (ix3 (0 : Fin 1) k d)))

/-! ## What a point leaves -/

/-- The layer over one half of the hidden width, at an entry of a block. -/
def halfSum (b : Fin 136) (s : Fin 2) (r : Fin 512) (d : Fin 1024) : EReal :=
  ffn (fun l => X m c (ix2 (rowAt b r) l)) (fun l k => WG m c (ix3 (expert (TI m c) b) l (hid b.val s k)))
    (fun l k => WU m c (ix3 (expert (TI m c) b) l (hid b.val s k))) (fun k => WD m c (ix3 (expert (TI m c) b) (hid b.val s k) d))

theorem part_apply (r : Fin 512) (d : Fin 1024) :
    part (adm m) (V m) c t (ix2 r d) = halfSum m c (rowOf (at_ m t)) (halfOf m t) r d := by
  refine (pay_apply _ _ _ _ r d).trans ?_
  have e0 := funext fun l => blk_rows m c t r l
  have e1 := funext fun l => funext fun k => blk_gate m c t l k
  have e2 := funext fun l => funext fun k => blk_up m c t l k
  have e3 := funext fun k => blk_down m c t k d
  exact ffn_congr e0 e1 e2 e3

/-- The block is computed where it is in use. -/
theorem cond1_used (b : Fin 136) (hb : rowOf (at_ m t) = b) : k0_cond1 (at_ m t) (word (tables m 1)) = 1#1 ↔ used (TI m c) b = 1#1 := by
  obtain rfl : c = 0 := Subsingleton.elim _ _
  subst hb
  have one : ∀ p q : S1.Idx, p = q := by decide
  have e : word (tables m 1) = inUse (ends (count (TI m 0))) (ix1 (0 : Fin 1)) :=
    (congrFun (tables_inUse m) _).trans (congrArg (inUse (endsOf m 0)) (one _ _))
  unfold used k0_cond1
  rw [e]
  simp only [Scalar.extui, Scalar.cmpi]
  generalize IntOp.cmpi .slt (BitVec.ofNat 32 (rowOf (at_ m t)).val) _ = p
  revert p; decide

/-- The expert layer of the arguments. -/
def moe : S69632x1024.Idx → EReal := experts (X m c) (TI m c) (WG m c) (WU m c) (WD m c)

/-- In a block in use the layer is the sum of its halves, -/
theorem moe_used (b : Fin 136) (r : Fin 512) (d : Fin 1024) (hu : used (TI m c) b = 1#1) :
    moe m c (ix2 (rowAt b r) d) = halfSum m c b 0 r d + halfSum m c b 1 r d := by
  have h := ffn_halves (fun l => X m c (ix2 (rowAt b r) l)) (fun l k => WG m c (ix3 (expert (TI m c) b) l k))
    (fun l k => WU m c (ix3 (expert (TI m c) b) l k)) (fun k => WD m c (ix3 (expert (TI m c) b) k d)) b.val
  refine Eq.trans ?_ h.symm
  unfold moe experts
  show (if used (TI m c) (blockOf (rowAt b r)) = 1#1 then
      ffn (fun l => X m c (ix2 (rowAt b r) l)) (fun l k => WG m c (ix3 (expert (TI m c) (blockOf (rowAt b r))) l k))
        (fun l k => WU m c (ix3 (expert (TI m c) (blockOf (rowAt b r))) l k))
        (fun k => WD m c (ix3 (expert (TI m c) (blockOf (rowAt b r))) k d)) else 0) = _
  rw [blockOf_rowAt, if_pos hu]

/-- and past the last block in use it is zero. -/
theorem moe_past (b : Fin 136) (r : Fin 512) (d : Fin 1024) (hu : ¬ used (TI m c) b = 1#1) : moe m c (ix2 (rowAt b r) d) = 0 :=
  if_neg (fun h => hu ((congrArg (fun b' => used (TI m c) b') (blockOf_rowAt b r)).symm.trans h))

/-- The second half adds its partial sum. -/
theorem add_apply (x : FVec Ideal S512x1024 .f32) (g u : FVec Ideal S1x1024x1792 .bf16) (w : FVec Ideal S1x1792x1024 .bf16)
    (y : FVec Ideal S512x1024 .f32) (i : S512x1024.Idx) : k0_pay2 (F := Ideal) x g u w y i = y i + k0_pay1 (F := Ideal) x g u w i :=
  congrArg (· + k0_pay1 (F := Ideal) x g u w i) (shapeCast_apply y shapeCasts_S512x1024_S512x1024 i i rfl)

theorem zero_apply (i : S512x1024.Idx) : k0_pay3 (F := Ideal) i = 0 := Ideal.ofBits_zero_f32

/-- A block after its second half is the layer's. -/
theorem left_apply (ht : t.val % 2 = 1) (r : Fin 512) (d : Fin 1024) :
    left (adm m) (V m) c t (ix2 r d) = moe m c (ix2 (rowAt (rowOf (at_ m t)) r) d) := by
  have hp : rowOf (at_ m ⟨t.val - 1, by omega⟩) = rowOf (at_ m t) := Fin.ext (by
    show (grid0.coords _ 0).val = (grid0.coords t 0).val
    rw [coords_row, coords_row]; simp only; omega)
  have h0 : halfOf m ⟨t.val - 1, by omega⟩ = 0 := Fin.ext (by
    show (grid0.coords _ 1).val = 0
    rw [coords_half]; simp only; omega)
  have h1 : halfOf m t = 1 := Fin.ext ((coords_half t).trans ht)
  by_cases hu : used (TI m c) (rowOf (at_ m t)) = 1#1
  · have hc : k0_cond1 (grid0.coords t) (word ((adm m).1 1)) = 1#1 := (cond1_used m c t _ rfl).mpr hu
    have e : left (adm m) (V m) c t = k0_pay2 (blk (adm m) (V m) c 0 t) (blk (adm m) (V m) c 1 t) (blk (adm m) (V m) c 2 t) (blk (adm m) (V m) c 3 t)
        (part (adm m) (V m) c ⟨t.val - 1, by omega⟩) := by
      unfold left; rw [if_pos hc, if_neg (by omega)]
    have p0 := part_apply m c ⟨t.val - 1, by omega⟩ r d
    have p1 := part_apply m c t r d
    rw [hp, h0] at p0
    rw [h1] at p1
    exact (congrFun e (ix2 r d)).trans ((add_apply _ _ _ _ _ _).trans ((congrArg₂ (· + ·) p0 p1).trans (moe_used m c _ r d hu).symm))
  · have hc : ¬ k0_cond1 (grid0.coords t) (word ((adm m).1 1)) = 1#1 := fun h => hu ((cond1_used m c t _ rfl).mp h)
    have e : left (adm m) (V m) c t = k0_pay3 (F := Ideal) := by unfold left; rw [if_neg hc]
    exact (congrFun e (ix2 r d)).trans ((zero_apply _).trans (moe_past m c _ r d hu).symm)

end Cert.Moe

end
-- ==== Proof.ExpertsArray.lean ====
/- The expert layer's array: the blocks the kernel writes back are the layer's and cover it. -/
module

public import proofs.«01_k».proof.Proof.ExpertsValue

@[expose] public section

set_option maxRecDepth 16384

noncomputable section

namespace Cert.Moe

open Idealize.ShloMosaic hiding ix1 ix2 ix3
open Idealize.ShloMosaic.TcCoe
open Idealize.ShloMosaic.Routing Idealize.ShloMosaic.ValueIdx
open Cert.Kernel3Ideal Cert.Kernel3Ideal.Gen

variable (m : (ℓ : Loc nD τ sig) → Buf (Elt Ideal) ℓ) (c : Dev nD) (t : Fin (cfg0 (adm m)).N)

/-! ## The array -/

/-- An entry of the result's block lies at its row of the array. -/
theorem out_index (y : S512x1024.Idx) :
    (((cfg0 (adm m)).win 4).rect t).emb y = (ix2 (rowAt (rowOf (at_ m t)) (y 0)) (y 1) : S69632x1024.Idx) := by
  funext a
  fin_cases a <;> refine Fin.ext ((Pipeline.Window.rect_emb_val ((cfg0 (adm m)).win 4) t y _).trans ?_)
  · show (BitVec.ofNat 32 (at_ m t 0).val).toNat * 512 + (y 0).val = (at_ m t 0).val * 512 + (y 0).val
    have h : (at_ m t 0).val < 136 := (at_ m t 0).isLt
    rw [BitVec.toNat_ofNat, Nat.mod_eq_of_lt (by omega)]
  · show 0 * 1024 + (y 1).val = (y 1).val
    omega

/-- What a point leaves at an entry of its block is the layer at the entry's place. -/
theorem left_emb (ht : t.val % 2 = 1) (y : S512x1024.Idx) :
    left (adm m) (V m) c t y = moe m c ((((cfg0 (adm m)).win 4).rect t).emb y) := by
  rw [out_index m t y]
  have e : y = ix2 (y 0) (y 1) := ValueIdx.eq_ix2 y
  exact (congrArg (left (adm m) (V m) c t) e).trans (left_apply m c t ht (y 0) (y 1))

section Any

variable (a : (pcfg0 (F := Ideal)).Adm) (W : (c : Dev nD) → (b : Ref sig .tc) → Buf (Elt Ideal) ((c : Thread nD τ).loc b)) (c : Dev nD)

/-- The blocks written back cover the array: row block `b` after point `2 b + 1`. -/
theorem covers : ((cfg0 a).win 4).Covers := by
  refine ⟨fun i => ?_, fun β => ?_⟩
  · fin_cases i
    · show 0 < 512; decide
    · show 0 < 1024; decide
  have h0 : (β (0 : Fin 2)).val < 136 := lt_of_lt_of_eq (β (0 : Fin 2)).isLt (show (69632 + 512 - 1) / 512 = 136 by decide)
  have h1 : (β (1 : Fin 2)).val < 1 := lt_of_lt_of_eq (β (1 : Fin 2)).isLt (show (1024 + 1024 - 1) / 1024 = 1 by decide)
  have hN : 2 * (β (0 : Fin 2)).val + 1 < 272 := by omega
  refine ⟨⟨2 * (β (0 : Fin 2)).val + 1, hN⟩, (flush_4 a _).mpr (show (2 * (β (0 : Fin 2)).val + 1) % 2 = 1 by omega), fun i => ⟨?_, .inl rfl⟩⟩
  fin_cases i
  · show (BitVec.ofNat 32 (grid0.coords ⟨2 * (β (0 : Fin 2)).val + 1, hN⟩ 0).val).toNat = (β (0 : Fin 2)).val
    rw [coords_row, BitVec.toNat_ofNat]
    show (2 * (β (0 : Fin 2)).val + 1) / 2 % 4294967296 = (β (0 : Fin 2)).val
    omega
  · show 0 = (β (1 : Fin 2)).val
    omega

/-- The array ends as any contents each second half leaves its block of. -/
theorem array_of (G : S69632x1024.Idx → EReal)
    (h : ∀ t : Fin (cfg0 a).N, t.val % 2 = 1 → ∀ y : S512x1024.Idx, left a W c t y = G ((((cfg0 a).win 4).rect t).emb y)) :
    (dat a W c).arrAt 4 (cfg0 a).N = G :=
  (dat a W c).arrAt_eq_of_covers 4 G (covers a)
    (fun t hf y => (show _ = left a W c t y from congrFun (after_4 a W c t) y).trans (h t ((flush_4 a t).mp hf) y))
    (Memref.isWhole_whole _)

end Any

/-- The array the launch leaves is the layer's. -/
theorem moe_array : (dats m 0 c).arrAt 4 (cfg0 (adm m)).N = moe m c := array_of (adm m) (V m) c (moe m c) (left_emb m c)

/-- The run, with the result the layer of the arguments. -/
theorem run_moe (ρ : Dev nD → PrngReg) : θ_run defs (onTc (τ := τ) (main (F := Ideal))) ⟨m, fun _ => 0, ρ⟩ (fun r => ∀ c : Dev nD,
      r.2.mem ((c.tc : Thread nD τ).loc main_v36) = moe m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (moe_array m c), unchanged m h.1 c⟩) (run_quiescent m ρ)

end Cert.Moe

end
-- ==== Proof.ExpertsWords.lean ====
/- The expert layer over the machine's words: the program is the one the run is written for, read with words, so the run
   is the same. -/
module

public import proofs.«01_k».proof.Proof.Gen.Kernel3
public import proofs.«01_k».proof.Proof.Gen.Kernel3.Launch
public import proofs.«01_k».proof.Proof.ExpertsFrame

@[expose] public section

set_option maxRecDepth 16384

noncomputable section

namespace Cert.Moe

open Idealize.ShloMosaic Idealize.ShloMosaic.TcCoe Idealize.SL.Sem

variable {F : FTy → Type} [FloatOps F]

set_option maxHeartbeats 1000000 in
/-- The two programs have one kernel, -/
theorem body_same : Cert.Kernel3.cc0_moe_experts (F := F) = Cert.Kernel3Ideal.cc0_moe_experts (F := F) := by exact rfl

/-- one table of kernels, -/
theorem defs₀_same : Cert.Kernel3.defs₀ (F := F) = Cert.Kernel3Ideal.defs₀ (F := F) := by
  unfold Cert.Kernel3.defs₀ Cert.Kernel3Ideal.defs₀
  refine congrArg Defs.onTc (funext fun l => funext fun p => ?_)
  match l, p with
  | 0, (t, s) => exact congrFun (congrFun (congrFun (congrFun (congrFun (congrFun (congrFun (congrFun (congrFun (congrFun (congrFun (congrFun
      (congrFun (congrFun (congrFun body_same _) _) _) _) _) _) _) _) _) _) _) _) _) _) _

set_option maxHeartbeats 1000000 in
/-- one body table -/
theorem defs_same : Cert.Kernel3.defs (F := F) = Cert.Kernel3Ideal.defs (F := F) :=
  congrArg (Pipeline.defs Cert.Kernel3Ideal.pcfgs) defs₀_same

theorem host_0 : Cert.Kernel3.Gen.hostOps0 (F := F) = Cert.Kernel3Ideal.Gen.hostOps0 (F := F) := by exact rfl
theorem host_1 : Cert.Kernel3.Gen.hostOps0_1 (F := F) = Cert.Kernel3Ideal.Gen.hostOps0_1 (F := F) := by exact rfl
theorem host_2 : Cert.Kernel3.Gen.hostOps0_2 (F := F) = Cert.Kernel3Ideal.Gen.hostOps0_2 (F := F) := by exact rfl
theorem host_3 : Cert.Kernel3.Gen.hostOps0_3 (F := F) = Cert.Kernel3Ideal.Gen.hostOps0_3 (F := F) := by exact rfl
theorem host_4 : Cert.Kernel3.Gen.hostOps0_4 (F := F) = Cert.Kernel3Ideal.Gen.hostOps0_4 (F := F) := by exact rfl
theorem host_5 : Cert.Kernel3.Gen.hostOps0_5 (F := F) = Cert.Kernel3Ideal.Gen.hostOps0_5 (F := F) := by exact rfl
theorem host_6 : Cert.Kernel3.Gen.hostOps0_6 (F := F) = Cert.Kernel3Ideal.Gen.hostOps0_6 (F := F) := by exact rfl
theorem host_7 : Cert.Kernel3.Gen.hostOps0_7 (F := F) = Cert.Kernel3Ideal.Gen.hostOps0_7 (F := F) := by exact rfl
theorem host_8 : Cert.Kernel3.Gen.hostOps0_8 (F := F) = Cert.Kernel3Ideal.Gen.hostOps0_8 (F := F) := by exact rfl

set_option maxHeartbeats 1000000 in
/-- and one host program. -/
theorem main_same : Cert.Kernel3.main (F := F) = Cert.Kernel3Ideal.main (F := F) := by
  funext c
  refine (Cert.Kernel3.Gen.main_chain c).trans (Eq.trans ?_ (Cert.Kernel3Ideal.Gen.main_chain c).symm)
  rw [host_0, host_1, host_2, host_3, host_4, host_5, host_6, host_7, host_8]
  exact rfl

variable (m : (ℓ : Loc Cert.Kernel3.nD Cert.Kernel3.τ Cert.Kernel3.sig) → Buf (Elt F) ℓ) (ρ : Dev Cert.Kernel3.nD → PrngReg)

/-- So a run of the one is a run of the other. -/
theorem run_same (P : _ → Prop) (h : θ_run Cert.Kernel3Ideal.defs (onTc (τ := Cert.Kernel3Ideal.τ) (Cert.Kernel3Ideal.main (F := F))) ⟨m, fun _ => 0, ρ⟩ P) :
    θ_run Cert.Kernel3.defs (onTc (τ := Cert.Kernel3.τ) (Cert.Kernel3.main (F := F))) ⟨m, fun _ => 0, ρ⟩ P := by
  rw [defs_same, main_same]
  exact h

open Cert.Kernel3 in
/-- The frame. -/
theorem frame_words : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := run_same m ρ _ (frame m ρ)

end Cert.Moe

end
-- ==== Proof.OutRows.lean ====
/- The output projection's rows: the normed mixers by their parts of the weights, added to the residual, and the norm of
   the sum. One half block of the call computes 512 of them. -/
module

public import proofs.«01_k».proof.Proof.Gen.Kernel4Ideal.Value
public import Idealize.ShloMosaic.Lib.Pipeline.ValueKit
public import Idealize.ShloMosaic.Lib.KernelVsHost
public import Idealize.ShloMosaic.Lib.VecWindow
public import Idealize.ShloMosaic.Lib.Pointwise

@[expose] public section

noncomputable section

namespace Cert.Out

open Idealize.ShloMosaic Idealize.ShloMosaic.TcCoe

/-! ## A row -/

/-- A row `v` over its root mean square, `n` its length, with the gains `γ`. -/
def rms {K : ℕ} (n : EReal) (v γ : Fin K → EReal) (k : Fin K) : EReal :=
  v k * Ideal.rsqrt (Ideal.div (∑ l, v l * v l) n + Ideal.ofBits .f32 0x358637BD#32) * γ k

/-- The lengths of the rows. -/
abbrev n256 : EReal := Ideal.ofBits .f32 0x43800000#32
abbrev n512 : EReal := Ideal.ofBits .f32 0x44000000#32
abbrev n1024 : EReal := Ideal.ofBits .f32 0x44800000#32

/-- The places of the three mixers' columns among the 1024. -/
abbrev at0 (k : Fin 256) : Fin 1024 := ⟨k.val, by have := k.isLt; omega⟩
abbrev at256 (k : Fin 512) : Fin 1024 := ⟨256 + k.val, by have := k.isLt; omega⟩
abbrev at768 (k : Fin 256) : Fin 1024 := ⟨768 + k.val, by have := k.isLt; omega⟩

/-- The residual's entry plus the normed mixers' product with a column of the weights. -/
def mixed (a : Fin 256 → EReal) (b : Fin 512 → EReal) (c : Fin 256 → EReal) (x g : Fin 1024 → EReal)
    (w : Fin 1024 → Fin 1024 → EReal) (d : Fin 1024) : EReal :=
  x d + (∑ k, rms n256 a (fun k => g (at0 k)) k * w (at0 k) d) + (∑ k, rms n512 b (fun k => g (at256 k)) k * w (at256 k) d)
    + ∑ k, rms n256 c (fun k => g (at768 k)) k * w (at768 k) d

/-! ## Half a block -/

section Half
open Cert.Kernel4Ideal Cert.Kernel4Ideal.Gen

variable (g : FVec Ideal S1x1024 .f32) (a : FVec Ideal S512x256 .f32) (b : FVec Ideal S512x512 .f32) (c : FVec Ideal S512x256 .f32)
  (x : FVec Ideal S512x1024 .f32) (w₁ : FVec Ideal S256x1024 .bf16) (w₂ : FVec Ideal S512x1024 .bf16) (w₃ : FVec Ideal S256x1024 .bf16)
  (γ : FVec Ideal S1x1024 .f32)

/-- The sums that half a block stores. -/
def half : FVec Ideal S512x1024 .f32 :=
  k0_pay7 (F := Ideal) (k0_pay2 g a) (k0_pay3 g b) (k0_pay4 c) (k0_pay5 g) (k0_pay6 c) (Scalar.ofBits .f32 0x358637BD#32) x w₁ w₂ w₃

/-- The normed sums that it stores. -/
def halfNorm : FVec Ideal S512x1024 .bf16 :=
  k0_pay8 (F := Ideal) (k0_pay2 g a) (k0_pay3 g b) (k0_pay4 c) (k0_pay5 g) (k0_pay6 c) (Scalar.ofBits .f32 0x358637BD#32) x w₁ w₂ w₃ γ

theorem normA_apply (r : Fin 512) (k : Fin 256) : k0_pay2 (F := Ideal) g a (ix2 r k)
    = rms n256 (fun l => a (ix2 r l)) (fun k => g (ix2 0 (at0 k))) k := by
  unfold k0_pay2 k0_pay1 rms
  pointwise

theorem normB_apply (r : Fin 512) (k : Fin 512) : k0_pay3 (F := Ideal) g b (ix2 r k)
    = rms n512 (fun l => b (ix2 r l)) (fun k => g (ix2 0 (at256 k))) k := by
  unfold k0_pay3 k0_pay1 rms
  pointwise

theorem half_apply (r : Fin 512) (d : Fin 1024) : half g a b c x w₁ w₂ w₃ (ix2 r d)
    = x (ix2 r d) + (∑ k, rms n256 (fun l => a (ix2 r l)) (fun k => g (ix2 0 (at0 k))) k * w₁ (ix2 k d))
      + (∑ k, rms n512 (fun l => b (ix2 r l)) (fun k => g (ix2 0 (at256 k))) k * w₂ (ix2 k d))
      + ∑ k, rms n256 (fun l => c (ix2 r l)) (fun k => g (ix2 0 (at768 k))) k * w₃ (ix2 k d) := by
  simp only [← normA_apply, ← normB_apply]
  unfold half
  generalize k0_pay2 (F := Ideal) g a = A
  generalize k0_pay3 (F := Ideal) g b = B
  unfold k0_pay7 k0_pay4 k0_pay5 k0_pay6 k0_pay4 k0_pay1 rms
  pointwise

theorem halfNorm_apply (r : Fin 512) (d : Fin 1024) : halfNorm g a b c x w₁ w₂ w₃ γ (ix2 r d)
    = rms n1024 (fun d => half g a b c x w₁ w₂ w₃ (ix2 r d)) (fun d => γ (ix2 0 d)) d := by
  unfold halfNorm half k0_pay8
  generalize k0_pay7 (F := Ideal) _ _ _ _ _ _ _ _ _ _ = y
  unfold rms
  pointwise

/-! ## A block of two halves -/

variable (x₀ : FVec Ideal S1024x256 .f32) (x₁ : FVec Ideal S1024x512 .f32) (x₂ : FVec Ideal S1024x256 .f32)
  (x₃ : FVec Ideal S1024x1024 .f32) (x₄ : FVec Ideal S1x1024 .f32) (x₅ : FVec Ideal S1024x1024 .bf16) (x₆ : FVec Ideal S1x1024 .f32)

/-- A part of a block. -/
abbrev ld32 {S : Shape} (X : FVec Ideal S .f32) (r : Rect S) : FVec Ideal r.shape .f32 := View.ld (Val := Elt Ideal) (e' := .f32) X r
abbrev ld16 {S : Shape} (X : FVec Ideal S .bf16) (r : Rect S) : FVec Ideal r.shape .bf16 := View.ld (Val := Elt Ideal) (e' := .bf16) X r

/-- The sums of a block's row. -/
def rowOf (R : Fin 1024) : Fin 1024 → EReal :=
  mixed (fun l => x₀ (ix2 R l)) (fun l => x₁ (ix2 R l)) (fun l => x₂ (ix2 R l)) (fun l => x₃ (ix2 R l)) (fun l => x₄ (ix2 0 l))
    (fun l d => x₅ (ix2 l d))

/-- The first half's sums. -/
abbrev low : FVec Ideal S512x1024 .f32 :=
  half (ld32 x₄ r0_0) (ld32 x₀ r0_1) (ld32 x₁ r0_2) (ld32 x₂ r0_1) (ld32 x₃ r0_3) (ld16 x₅ r0_4) (ld16 x₅ r0_5)
    (ld16 x₅ r0_6)

/-- The second half's sums. -/
abbrev high : FVec Ideal S512x1024 .f32 :=
  half (ld32 x₄ r0_0) (ld32 x₀ r0_7) (ld32 x₁ r0_8) (ld32 x₂ r0_7) (ld32 x₃ r0_9) (ld16 x₅ r0_4) (ld16 x₅ r0_5)
    (ld16 x₅ r0_6)

/-- The normed ones. -/
abbrev lowNorm : FVec Ideal S512x1024 .bf16 :=
  halfNorm (ld32 x₄ r0_0) (ld32 x₀ r0_1) (ld32 x₁ r0_2) (ld32 x₂ r0_1) (ld32 x₃ r0_3) (ld16 x₅ r0_4) (ld16 x₅ r0_5)
    (ld16 x₅ r0_6) (ld32 x₆ r0_0)
abbrev highNorm : FVec Ideal S512x1024 .bf16 :=
  halfNorm (ld32 x₄ r0_0) (ld32 x₀ r0_7) (ld32 x₁ r0_8) (ld32 x₂ r0_7) (ld32 x₃ r0_9) (ld16 x₅ r0_4) (ld16 x₅ r0_5)
    (ld16 x₅ r0_6) (ld32 x₆ r0_0)

theorem low_apply (r : Fin 512) (d : Fin 1024) : low x₀ x₁ x₂ x₃ x₄ x₅ (ix2 r d)
    = rowOf x₀ x₁ x₂ x₃ x₄ x₅ ⟨r.val, by have := r.isLt; omega⟩ d := by
  refine (half_apply _ _ _ _ _ _ _ _ _ _).trans ?_
  unfold rowOf mixed ld32 ld16
  pointwise

theorem high_apply (r : Fin 512) (d : Fin 1024) : high x₀ x₁ x₂ x₃ x₄ x₅ (ix2 r d)
    = rowOf x₀ x₁ x₂ x₃ x₄ x₅ ⟨512 + r.val, by have := r.isLt; omega⟩ d := by
  refine (half_apply _ _ _ _ _ _ _ _ _ _).trans ?_
  unfold rowOf mixed ld32 ld16
  pointwise

/-- An index of a half by its coordinates. -/
theorem ix2_eta (j : S512x1024.Idx) : j = ix2 (j 0) (j 1) := funext fun a => Fin.ext (by
  match a with
  | ⟨0, _⟩ => rfl
  | ⟨1, _⟩ => rfl)

/-- Where the halves lie. -/
theorem low_emb (j : S512x1024.Idx) :
    (r0_3.emb j : S1024x1024.Idx) = ix2 (⟨(j 0).val, by have h : (j 0).val < 512 := (j 0).isLt; omega⟩ : Fin 1024) (j 1) :=
  funext fun a => Fin.ext (by
    match a with
    | ⟨0, _⟩ => exact (ValueKit.rect_emb_unit_val (s := S1024x1024) ![0, 0] S512x1024.size _ j 0).trans (by show 0 + (j 0).val = (j 0).val; omega)
    | ⟨1, _⟩ => exact (ValueKit.rect_emb_unit_val (s := S1024x1024) ![0, 0] S512x1024.size _ j 1).trans (by show 0 + (j 1).val = (j 1).val; omega))

theorem high_emb (j : S512x1024.Idx) :
    (r0_9.emb j : S1024x1024.Idx) = ix2 (⟨512 + (j 0).val, by have h : (j 0).val < 512 := (j 0).isLt; omega⟩ : Fin 1024) (j 1) :=
  funext fun a => Fin.ext (by
    match a with
    | ⟨0, _⟩ => exact (ValueKit.rect_emb_unit_val (s := S1024x1024) ![512, 0] S512x1024.size _ j 0).trans (by show 512 + (j 0).val = 512 + (j 0).val; omega)
    | ⟨1, _⟩ => exact (ValueKit.rect_emb_unit_val (s := S1024x1024) ![512, 0] S512x1024.size _ j 1).trans (by show 0 + (j 1).val = (j 1).val; omega))

/-- What the two stores of the sums leave. -/
theorem block_apply (y : S1024x1024.Idx) :
    View.canon (Val := Elt Ideal) (e := .f32) [⟨r0_9, high x₀ x₁ x₂ x₃ x₄ x₅⟩, ⟨r0_3, low x₀ x₁ x₂ x₃ x₄ x₅⟩] y = rowOf x₀ x₁ x₂ x₃ x₄ x₅ (y 0) (y 1) := by
  refine View.canon_apply_of_pieces (Val := Elt Ideal) (e := .f32) (fun y : S1024x1024.Idx => (rowOf x₀ x₁ x₂ x₃ x₄ x₅ (y 0) (y 1) : EReal)) _ ?_ y (cover0_7 _ _ y)
  intro p hp j
  rcases List.mem_cons.1 hp with rfl | hp
  · show high x₀ x₁ x₂ x₃ x₄ x₅ j = rowOf x₀ x₁ x₂ x₃ x₄ x₅ ((r0_9.emb j) 0) ((r0_9.emb j) 1)
    rw [high_emb j]
    exact (congrArg _ (ix2_eta j)).trans (high_apply x₀ x₁ x₂ x₃ x₄ x₅ (j 0) (j 1))
  · obtain rfl := List.mem_singleton.1 hp
    show low x₀ x₁ x₂ x₃ x₄ x₅ j = rowOf x₀ x₁ x₂ x₃ x₄ x₅ ((r0_3.emb j) 0) ((r0_3.emb j) 1)
    rw [low_emb j]
    exact (congrArg _ (ix2_eta j)).trans (low_apply x₀ x₁ x₂ x₃ x₄ x₅ (j 0) (j 1))

theorem lowNorm_apply (r : Fin 512) (d : Fin 1024) : lowNorm x₀ x₁ x₂ x₃ x₄ x₅ x₆ (ix2 r d)
    = rms n1024 (rowOf x₀ x₁ x₂ x₃ x₄ x₅ ⟨r.val, by have := r.isLt; omega⟩) (fun d => x₆ (ix2 0 d)) d := by
  refine (halfNorm_apply _ _ _ _ _ _ _ _ _ _ _).trans ?_
  unfold ld32
  have e := fun d => low_apply x₀ x₁ x₂ x₃ x₄ x₅ r d
  simp only [low, ld32, ld16] at e
  simp only [ld16, e]
  unfold rms
  pointwise

theorem highNorm_apply (r : Fin 512) (d : Fin 1024) : highNorm x₀ x₁ x₂ x₃ x₄ x₅ x₆ (ix2 r d)
    = rms n1024 (rowOf x₀ x₁ x₂ x₃ x₄ x₅ ⟨512 + r.val, by have := r.isLt; omega⟩) (fun d => x₆ (ix2 0 d)) d := by
  refine (halfNorm_apply _ _ _ _ _ _ _ _ _ _ _).trans ?_
  unfold ld32
  have e := fun d => high_apply x₀ x₁ x₂ x₃ x₄ x₅ r d
  simp only [high, ld32, ld16] at e
  simp only [ld16, e]
  unfold rms
  pointwise

/-- What the two stores of the normed sums leave, at either width of the words. -/
theorem blockNorm_apply (y : S1024x1024.Idx) :
    View.canon (Val := Elt Ideal) (e := .bf16) [⟨r0_9, highNorm x₀ x₁ x₂ x₃ x₄ x₅ x₆⟩, ⟨r0_3, lowNorm x₀ x₁ x₂ x₃ x₄ x₅ x₆⟩] y
      = rms n1024 (rowOf x₀ x₁ x₂ x₃ x₄ x₅ (y 0)) (fun d => x₆ (ix2 0 d)) (y 1) := by
  refine View.canon_apply_of_pieces (Val := Elt Ideal) (e := .bf16)
    (fun y : S1024x1024.Idx => rms n1024 (rowOf x₀ x₁ x₂ x₃ x₄ x₅ (y 0)) (fun d => x₆ (ix2 0 d)) (y 1)) _ ?_ y (cover0_8 _ _ y)
  intro p hp j
  rcases List.mem_cons.1 hp with rfl | hp
  · show highNorm x₀ x₁ x₂ x₃ x₄ x₅ x₆ j = rms n1024 (rowOf x₀ x₁ x₂ x₃ x₄ x₅ ((r0_9.emb j) 0)) (fun d => x₆ (ix2 0 d)) ((r0_9.emb j) 1)
    rw [high_emb j]
    exact (congrArg _ (ix2_eta j)).trans (highNorm_apply x₀ x₁ x₂ x₃ x₄ x₅ x₆ (j 0) (j 1))
  · obtain rfl := List.mem_singleton.1 hp
    show lowNorm x₀ x₁ x₂ x₃ x₄ x₅ x₆ j = rms n1024 (rowOf x₀ x₁ x₂ x₃ x₄ x₅ ((r0_3.emb j) 0)) (fun d => x₆ (ix2 0 d)) ((r0_3.emb j) 1)
    rw [low_emb j]
    exact (congrArg _ (ix2_eta j)).trans (lowNorm_apply x₀ x₁ x₂ x₃ x₄ x₅ x₆ (j 0) (j 1))

end Half

/-! ## The whole arrays -/

/-- The batches of rows, and the flattened ones. -/
abbrev Batched (C : ℕ) : Shape := ⟨3, ![4, 8192, C]⟩
abbrev Flat (C : ℕ) : Shape := ⟨2, ![32768, C]⟩

/-- Where row `R` lies in the batch. -/
abbrev at3 {C : ℕ} (R : Fin 32768) (l : Fin C) : (Batched C).Idx :=
  ix3 (⟨R.val / 8192, by have := R.isLt; omega⟩ : Fin 4) (⟨R.val % 8192, by omega⟩ : Fin 8192) l

/-- An array of rows, read in the flattened one. -/
theorem flat_apply {C : ℕ} (x : FVec Ideal (Batched C) .f32) (h : (Batched C).ShapeCasts (Flat C)) (R : Fin 32768) (l : Fin C) :
    shapeCast (Flat C) x h (ix2 R l) = x (at3 R l) := by
  refine shapeCast_apply x _ (ix2 R l) (at3 R l) ?_
  rewrite [Shape.rowMajor_val_three, Shape.rowMajor_val_two]
  show (R.val / 8192 * 8192 + R.val % 8192) * C + l.val = R.val * C + l.val
  rw [show R.val / 8192 * 8192 + R.val % 8192 = R.val by omega]

/-- A vector, read as a row. -/
theorem row_apply {C : ℕ} (x : FVec Ideal ⟨1, ![C]⟩ .f32) (h : (⟨1, ![C]⟩ : Shape).ShapeCasts ⟨2, ![1, C]⟩) (l : Fin C) :
    shapeCast ⟨2, ![1, C]⟩ x h (ix2 0 l) = x (ix1 l) := by
  refine shapeCast_apply x _ (ix2 0 l) (ix1 l) ?_
  rewrite [Shape.rowMajor_val_one, Shape.rowMajor_val_two]
  show l.val = 0 * C + l.val
  omega

section Arrays

variable (A : FVec Ideal (Batched 256) .f32) (B : FVec Ideal (Batched 512) .f32) (C : FVec Ideal (Batched 256) .f32)
  (X : FVec Ideal (Batched 1024) .f32) (G : FVec Ideal ⟨1, ![1024]⟩ .f32) (W : FVec Ideal ⟨2, ![1024, 1024]⟩ .f32)
  (Γ : FVec Ideal ⟨1, ![1024]⟩ .f32)

/-- A row of the layer's sums. -/
def sumRow (R : Fin 32768) : Fin 1024 → EReal :=
  mixed (fun l => A (at3 R l)) (fun l => B (at3 R l)) (fun l => C (at3 R l)) (fun l => X (at3 R l)) (fun l => G (ix1 l))
    (fun l d => W (ix2 l d))

/-- The sums, at every row. -/
def sums : (Flat 1024).Idx → EReal := fun i => sumRow A B C X G W (i 0) (i 1)

/-- Their norms. -/
def norms : (Flat 1024).Idx → EReal := fun i => rms n1024 (sumRow A B C X G W (i 0)) (fun l => Γ (ix1 l)) (i 1)

end Arrays

end Cert.Out
-- ==== Proof.OutProj.lean ====
/- The output projection of the even layers: each block of 1024 rows the call writes is the reference's. -/
module

public import proofs.«01_k».proof.Proof.OutRows
public import proofs.«01_k».proof.Proof.Gen.Kernel4Ideal.Value
public import proofs.«01_k».proof.Proof.Gen.Reference4Ideal.Read
public import Idealize.ShloMosaic.Lib.StableHlo.Run

@[expose] public section

noncomputable section

namespace Cert.Out.Even

open Idealize.ShloMosaic Idealize.ShloMosaic.TcCoe Idealize.ShloMosaic.StableHlo
open Cert.Kernel4Ideal Cert.Kernel4Ideal.Gen Cert.Kernel4Ideal.Value

variable (m : (ℓ : Loc nD τ sig) → Buf (Elt Ideal) ℓ) (c : Dev nD)

/-! ## The operands -/

/-- The three mixers' outputs. -/
abbrev A : FVec Ideal (Batched 256) .f32 := m ((c.tc : Thread nD τ).loc main_arg0)
abbrev B : FVec Ideal (Batched 512) .f32 := m ((c.tc : Thread nD τ).loc main_arg1)
abbrev C : FVec Ideal (Batched 256) .f32 := m ((c.tc : Thread nD τ).loc main_arg2)
/-- The residual. -/
abbrev X : FVec Ideal (Batched 1024) .f32 := m ((c.tc : Thread nD τ).loc main_arg3)
/-- The mixers' gains. -/
abbrev G : FVec Ideal ⟨1, ![1024]⟩ .f32 := m ((c.tc : Thread nD τ).loc main_arg4)
/-- The weights. -/
abbrev W : FVec Ideal ⟨2, ![1024, 1024]⟩ .f32 := m ((c.tc : Thread nD τ).loc main_arg5)
/-- The gains of the next norm. -/
abbrev Γ : FVec Ideal ⟨1, ![1024]⟩ .f32 := m ((c.tc : Thread nD τ).loc main_arg6)

/-- The call's operands, as the host leaves them. -/
theorem V_eq : V m c main_v0 = shapeCast S32768x256 (A m c) shapeCasts_S4x8192x256_S32768x256
    ∧ V m c main_v1 = shapeCast S32768x512 (B m c) shapeCasts_S4x8192x512_S32768x512
    ∧ V m c main_v2 = shapeCast S32768x256 (C m c) shapeCasts_S4x8192x256_S32768x256
    ∧ V m c main_v3 = shapeCast S32768x1024 (X m c) shapeCasts_S4x8192x1024_S32768x1024
    ∧ V m c main_v4 = shapeCast S1x1024 (G m c) shapeCasts_S1024_S1x1024
    ∧ V m c main_v5 = W m c
    ∧ V m c main_v6 = shapeCast S1x1024 (Γ m c) shapeCasts_S1024_S1x1024 := by
  refine ⟨?_, ?_, ?_, ?_, ?_, ?_, ?_⟩ <;> (simp only [V, hostOps0]; after_results; rfl)

/-- The blocks of the rows' windows, and of the whole arrays'. -/
theorem index_eq : ∀ t : Fin cfg0.N, (win0_0.index t = ![t.val, 0] ∧ win0_1.index t = ![t.val, 0] ∧ win0_2.index t = ![t.val, 0]
    ∧ win0_3.index t = ![t.val, 0] ∧ win0_7.index t = ![t.val, 0] ∧ win0_8.index t = ![t.val, 0])
    ∧ win0_4.index t = ![0, 0] ∧ win0_5.index t = ![0, 0] ∧ win0_6.index t = ![0, 0] :=
  (by decide +kernel : ∀ t : Fin grid0.N, (win0_0.index t = ![t.val, 0] ∧ win0_1.index t = ![t.val, 0] ∧ win0_2.index t = ![t.val, 0]
    ∧ win0_3.index t = ![t.val, 0] ∧ win0_7.index t = ![t.val, 0] ∧ win0_8.index t = ![t.val, 0])
    ∧ win0_4.index t = ![0, 0] ∧ win0_5.index t = ![0, 0] ∧ win0_6.index t = ![0, 0])

/-- A row of block `t`, among all rows. -/
abbrev rowAt (t : Fin cfg0.N) (r : Fin 1024) : Fin 32768 :=
  ⟨1024 * t.val + r.val, by have h : t.val < 32 := t.isLt; have := r.isLt; omega⟩

theorem emb_a (t : Fin cfg0.N) (r : Fin 1024) (l : Fin 256) : ((cfg0.win 0).rect t).emb (ix2 r l) = ix2 (rowAt t r) l :=
  funext fun a => Fin.ext ((Pipeline.Window.rect_emb_val win0_0 t (ix2 r l) a).trans (by
    rw [(index_eq t).1.1]
    match a with
    | ⟨0, _⟩ => show t.val * 1024 + r.val = 1024 * t.val + r.val; omega
    | ⟨1, _⟩ => show 0 * 256 + l.val = l.val; omega))

theorem emb_b (t : Fin cfg0.N) (r : Fin 1024) (l : Fin 512) : ((cfg0.win 1).rect t).emb (ix2 r l) = ix2 (rowAt t r) l :=
  funext fun a => Fin.ext ((Pipeline.Window.rect_emb_val win0_1 t (ix2 r l) a).trans (by
    rw [(index_eq t).1.2.1]
    match a with
    | ⟨0, _⟩ => show t.val * 1024 + r.val = 1024 * t.val + r.val; omega
    | ⟨1, _⟩ => show 0 * 512 + l.val = l.val; omega))

theorem emb_c (t : Fin cfg0.N) (r : Fin 1024) (l : Fin 256) : ((cfg0.win 2).rect t).emb (ix2 r l) = ix2 (rowAt t r) l :=
  funext fun a => Fin.ext ((Pipeline.Window.rect_emb_val win0_2 t (ix2 r l) a).trans (by
    rw [(index_eq t).1.2.2.1]
    match a with
    | ⟨0, _⟩ => show t.val * 1024 + r.val = 1024 * t.val + r.val; omega
    | ⟨1, _⟩ => show 0 * 256 + l.val = l.val; omega))

theorem emb_x (t : Fin cfg0.N) (r l : Fin 1024) : ((cfg0.win 3).rect t).emb (ix2 r l) = ix2 (rowAt t r) l :=
  funext fun a => Fin.ext ((Pipeline.Window.rect_emb_val win0_3 t (ix2 r l) a).trans (by
    rw [(index_eq t).1.2.2.2.1]
    match a with
    | ⟨0, _⟩ => show t.val * 1024 + r.val = 1024 * t.val + r.val; omega
    | ⟨1, _⟩ => show 0 * 1024 + l.val = l.val; omega))

theorem emb_g (t : Fin cfg0.N) (l : Fin 1024) : ((cfg0.win 4).rect t).emb (ix2 (0 : Fin 1) l) = ix2 (0 : Fin 1) l :=
  funext fun a => Fin.ext ((Pipeline.Window.rect_emb_val win0_4 t (ix2 (0 : Fin 1) l) a).trans (by
    rw [(index_eq t).2.1]
    match a with
    | ⟨0, _⟩ => rfl
    | ⟨1, _⟩ => show 0 * 1024 + l.val = l.val; omega))

theorem emb_w (t : Fin cfg0.N) (l d : Fin 1024) : ((cfg0.win 5).rect t).emb (ix2 l d) = ix2 l d :=
  funext fun a => Fin.ext ((Pipeline.Window.rect_emb_val win0_5 t (ix2 l d) a).trans (by
    rw [(index_eq t).2.2.1]
    match a with
    | ⟨0, _⟩ => show 0 * 1024 + l.val = l.val; omega
    | ⟨1, _⟩ => show 0 * 1024 + d.val = d.val; omega))

theorem emb_γ (t : Fin cfg0.N) (l : Fin 1024) : ((cfg0.win 6).rect t).emb (ix2 (0 : Fin 1) l) = ix2 (0 : Fin 1) l :=
  funext fun a => Fin.ext ((Pipeline.Window.rect_emb_val win0_6 t (ix2 (0 : Fin 1) l) a).trans (by
    rw [(index_eq t).2.2.2]
    match a with
    | ⟨0, _⟩ => rfl
    | ⟨1, _⟩ => show 0 * 1024 + l.val = l.val; omega))

/-- A block's row is the layer's. -/
theorem rowOf_eq (t : Fin cfg0.N) (r : Fin 1024) :
    rowOf (iblk m c 0 t) (iblk m c 1 t) (iblk m c 2 t) (iblk m c 3 t) (iblk m c 4 t) (iblk m c 5 t) r
      = sumRow (A m c) (B m c) (C m c) (X m c) (G m c) (W m c) (rowAt t r) := by
  have v := V_eq m c
  have ea : ∀ l : Fin 256, iblk m c 0 t (ix2 r l) = A m c (at3 (rowAt t r) l) := fun l =>
    (show iblk m c 0 t (ix2 r l) = V m c main_v0 (((cfg0.win 0).rect t).emb (ix2 r l)) by unfold iblk; rw [View.read_apply]; rfl).trans ((congrArg _ (emb_a t r l)).trans ((congrFun v.1 _).trans (flat_apply (A m c) _ _ l)))
  have eb : ∀ l : Fin 512, iblk m c 1 t (ix2 r l) = B m c (at3 (rowAt t r) l) := fun l =>
    (show iblk m c 1 t (ix2 r l) = V m c main_v1 (((cfg0.win 1).rect t).emb (ix2 r l)) by unfold iblk; rw [View.read_apply]; rfl).trans ((congrArg _ (emb_b t r l)).trans ((congrFun v.2.1 _).trans (flat_apply (B m c) _ _ l)))
  have ec : ∀ l : Fin 256, iblk m c 2 t (ix2 r l) = C m c (at3 (rowAt t r) l) := fun l =>
    (show iblk m c 2 t (ix2 r l) = V m c main_v2 (((cfg0.win 2).rect t).emb (ix2 r l)) by unfold iblk; rw [View.read_apply]; rfl).trans ((congrArg _ (emb_c t r l)).trans ((congrFun v.2.2.1 _).trans (flat_apply (C m c) _ _ l)))
  have ex : ∀ l : Fin 1024, iblk m c 3 t (ix2 r l) = X m c (at3 (rowAt t r) l) := fun l =>
    (show iblk m c 3 t (ix2 r l) = V m c main_v3 (((cfg0.win 3).rect t).emb (ix2 r l)) by unfold iblk; rw [View.read_apply]; rfl).trans ((congrArg _ (emb_x t r l)).trans ((congrFun v.2.2.2.1 _).trans (flat_apply (X m c) _ _ l)))
  have eg : ∀ l : Fin 1024, iblk m c 4 t (ix2 (0 : Fin 1) l) = G m c (ix1 l) := fun l =>
    (show iblk m c 4 t (ix2 (0 : Fin 1) l) = V m c main_v4 (((cfg0.win 4).rect t).emb (ix2 (0 : Fin 1) l)) by unfold iblk; rw [View.read_apply]; rfl).trans ((congrArg _ (emb_g t l)).trans ((congrFun v.2.2.2.2.1 _).trans (row_apply (G m c) _ l)))
  have ew : ∀ l d : Fin 1024, iblk m c 5 t (ix2 l d) = W m c (ix2 l d) := fun l d =>
    (show iblk m c 5 t (ix2 l d) = V m c main_v5 (((cfg0.win 5).rect t).emb (ix2 l d)) by unfold iblk; rw [View.read_apply]; rfl).trans ((congrArg _ (emb_w t l d)).trans (congrFun v.2.2.2.2.2.1 _))
  funext d
  unfold rowOf sumRow
  rw [funext ea, funext eb, funext ec, funext ex, funext eg, funext fun l => funext (ew l)]

theorem gains_eq (t : Fin cfg0.N) (l : Fin 1024) : iblk m c 6 t (ix2 (0 : Fin 1) l) = Γ m c (ix1 l) :=
  (show iblk m c 6 t (ix2 (0 : Fin 1) l) = V m c main_v6 (((cfg0.win 6).rect t).emb (ix2 (0 : Fin 1) l)) by unfold iblk; rw [View.read_apply]; rfl).trans ((congrArg _ (emb_γ t l)).trans ((congrFun (V_eq m c).2.2.2.2.2.2 _).trans (row_apply (Γ m c) _ l)))

/-! ## The arrays at the end -/

/-- Where an entry of a block of the results lies. -/
theorem emb_out (t : Fin cfg0.N) (y : S1024x1024.Idx) : ((cfg0.win 7).rect t).emb y = ix2 (rowAt t (y 0)) (y 1)
    ∧ ((cfg0.win 8).rect t).emb y = ix2 (rowAt t (y 0)) (y 1) := by
  refine ⟨funext fun a => Fin.ext ((Pipeline.Window.rect_emb_val win0_7 t y a).trans ?_), funext fun a => Fin.ext ((Pipeline.Window.rect_emb_val win0_8 t y a).trans ?_)⟩
  · rw [(index_eq t).1.2.2.2.2.1]
    match a with
    | ⟨0, _⟩ => show t.val * 1024 + (y 0).val = 1024 * t.val + (y 0).val; omega
    | ⟨1, _⟩ => show 0 * 1024 + (y 1).val = (y 1).val; omega
  · rw [(index_eq t).1.2.2.2.2.2]
    match a with
    | ⟨0, _⟩ => show t.val * 1024 + (y 0).val = 1024 * t.val + (y 0).val; omega
    | ⟨1, _⟩ => show 0 * 1024 + (y 1).val = (y 1).val; omega

theorem sums_array : (dats m 0 c).arrAt 7 cfg0.N = sums (A m c) (B m c) (C m c) (X m c) (G m c) (W m c) := by
  refine (dats m 0 c).arrAt_eq_of_covers 7 (sums (A m c) (B m c) (C m c) (X m c) (G m c) (W m c)) (by decide +kernel) fun t hf y => ?_
  refine (congrFun (after0_7 m c t) y).trans ?_
  refine (block_apply (iblk m c 0 t) (iblk m c 1 t) (iblk m c 2 t) (iblk m c 3 t) (iblk m c 4 t) (iblk m c 5 t) y).trans ?_
  refine (congrFun (rowOf_eq m c t (y 0)) (y 1)).trans ?_
  exact (congrArg (sums (A m c) (B m c) (C m c) (X m c) (G m c) (W m c)) (emb_out t y).1).symm

theorem norms_array : (dats m 0 c).arrAt 8 cfg0.N = norms (A m c) (B m c) (C m c) (X m c) (G m c) (W m c) (Γ m c) := by
  refine (dats m 0 c).arrAt_eq_of_covers 8 (norms (A m c) (B m c) (C m c) (X m c) (G m c) (W m c) (Γ m c)) (by decide +kernel) fun t hf y => ?_
  refine (congrFun (after0_8 m c t) y).trans ?_
  refine (blockNorm_apply (iblk m c 0 t) (iblk m c 1 t) (iblk m c 2 t) (iblk m c 3 t) (iblk m c 4 t) (iblk m c 5 t) (iblk m c 6 t) y).trans ?_
  refine (congrArg₂ (fun v γ => rms n1024 v γ (y 1)) (rowOf_eq m c t (y 0)) (funext (gains_eq m c t))).trans ?_
  exact (congrArg (norms (A m c) (B m c) (C m c) (X m c) (G m c) (W m c) (Γ m c)) (emb_out t y).2).symm

end Cert.Out.Even
-- ==== Proof.OutProjMoe.lean ====
/- The output projection of the odd layers: the call cuts the same arithmetic otherwise among its values, and the router's
   columns it also writes are not claimed. Each block of 1024 rows of the other two results is the reference's. -/
module

public import proofs.«01_k».proof.Proof.OutProj
public import proofs.«01_k».proof.Proof.Gen.Kernel5Ideal.Value

@[expose] public section

noncomputable section

namespace Cert.Out.Odd

open Idealize.ShloMosaic Idealize.ShloMosaic.TcCoe Idealize.ShloMosaic.StableHlo
open Cert.Kernel5Ideal Cert.Kernel5Ideal.Gen Cert.Kernel5Ideal.Value

/-! ## A block -/

section Block

variable (x₀ : FVec Ideal S1024x256 .f32) (x₁ : FVec Ideal S1024x512 .f32) (x₂ : FVec Ideal S1024x256 .f32)
  (x₃ : FVec Ideal S1024x1024 .f32) (x₄ : FVec Ideal S1x1024 .f32) (x₅ : FVec Ideal S1024x1024 .bf16) (x₆ : FVec Ideal S1x1024 .f32)
  (x₇ x₈ : FVec Ideal S1024x128 .bf16)

/-- The two halves' sums are those of the even layers. -/
theorem low_eq : k0_pay8 (F := Ideal) (k0_pay45 x₀ x₁ x₂ x₃ x₄ x₅ x₆ x₇ x₈) (k0_pay46 x₀ x₁ x₂ x₃ x₄ x₅ x₆ x₇ x₈)
    (k0_pay47 x₀ x₁ x₂ x₃ x₄ x₅ x₆ x₇ x₈) (k0_pay48 x₀ x₁ x₂ x₃ x₄ x₅ x₆ x₇ x₈) (k0_pay49 x₀ x₁ x₂ x₃ x₄ x₅ x₆ x₇ x₈)
    (Scalar.ofBits .f32 0x358637BD#32) (ld32 x₃ r0_3) (ld16 x₅ r0_4) (ld16 x₅ r0_5) (ld16 x₅ r0_6) = low x₀ x₁ x₂ x₃ x₄ x₅ := rfl

theorem high_eq : k0_pay25 (F := Ideal) (k0_pay52 x₀ x₁ x₂ x₃ x₄ x₅ x₆ x₇ x₈) (k0_pay53 x₀ x₁ x₂ x₃ x₄ x₅ x₆ x₇ x₈)
    (k0_pay54 x₀ x₁ x₂ x₃ x₄ x₅ x₆ x₇ x₈) (k0_pay55 x₀ x₁ x₂ x₃ x₄ x₅ x₆ x₇ x₈) (ld16 x₅ r0_6) = high x₀ x₁ x₂ x₃ x₄ x₅ := rfl

/-- The normed ones too, here not narrowed. -/
theorem lowNorm_eq : (k0_pay50 (F := Ideal) x₀ x₁ x₂ x₃ x₄ x₅ x₆ x₇ x₈ : S512x1024.Idx → EReal) = lowNorm x₀ x₁ x₂ x₃ x₄ x₅ x₆ := rfl

theorem highNorm_eq : (k0_pay26 (F := Ideal) (k0_pay52 x₀ x₁ x₂ x₃ x₄ x₅ x₆ x₇ x₈) (k0_pay53 x₀ x₁ x₂ x₃ x₄ x₅ x₆ x₇ x₈)
    (k0_pay54 x₀ x₁ x₂ x₃ x₄ x₅ x₆ x₇ x₈) (k0_pay55 x₀ x₁ x₂ x₃ x₄ x₅ x₆ x₇ x₈) (ld16 x₅ r0_6) (ld32 x₆ r0_0) : S512x1024.Idx → EReal)
    = highNorm x₀ x₁ x₂ x₃ x₄ x₅ x₆ := rfl

theorem out_apply (y : S1024x1024.Idx) : out0_9 (F := Ideal) x₀ x₁ x₂ x₃ x₄ x₅ x₆ x₇ x₈ y = rowOf x₀ x₁ x₂ x₃ x₄ x₅ (y 0) (y 1) := by
  refine Eq.trans ?_ (block_apply x₀ x₁ x₂ x₃ x₄ x₅ y)
  refine congrArg₂ (fun p q => View.canon (Val := Elt Ideal) (e := .f32) (s := S1024x1024) [⟨r0_11, p⟩, ⟨r0_3, q⟩] y) ?_ ?_
  · exact high_eq x₀ x₁ x₂ x₃ x₄ x₅ x₆ x₇ x₈
  · exact low_eq x₀ x₁ x₂ x₃ x₄ x₅ x₆ x₇ x₈

theorem outNorm_apply (y : S1024x1024.Idx) : out0_10 (F := Ideal) x₀ x₁ x₂ x₃ x₄ x₅ x₆ x₇ x₈ y
    = rms n1024 (rowOf x₀ x₁ x₂ x₃ x₄ x₅ (y 0)) (fun d => x₆ (ix2 0 d)) (y 1) := by
  refine Eq.trans ?_ (blockNorm_apply x₀ x₁ x₂ x₃ x₄ x₅ x₆ y)
  refine congrArg₂ (fun p q => View.canon (Val := Elt Ideal) (e := .f32) (s := S1024x1024) [⟨r0_11, p⟩, ⟨r0_3, q⟩] y) ?_ ?_
  · exact highNorm_eq x₀ x₁ x₂ x₃ x₄ x₅ x₆ x₇ x₈
  · exact lowNorm_eq x₀ x₁ x₂ x₃ x₄ x₅ x₆ x₇ x₈

end Block

/-! ## The operands -/

variable (m : (ℓ : Loc nD τ sig) → Buf (Elt Ideal) ℓ) (c : Dev nD)

/-- The three mixers' outputs. -/
abbrev A : FVec Ideal (Batched 256) .f32 := m ((c.tc : Thread nD τ).loc main_arg0)
abbrev B : FVec Ideal (Batched 512) .f32 := m ((c.tc : Thread nD τ).loc main_arg1)
abbrev C : FVec Ideal (Batched 256) .f32 := m ((c.tc : Thread nD τ).loc main_arg2)
/-- The residual. -/
abbrev X : FVec Ideal (Batched 1024) .f32 := m ((c.tc : Thread nD τ).loc main_arg3)
/-- The mixers' gains. -/
abbrev G : FVec Ideal ⟨1, ![1024]⟩ .f32 := m ((c.tc : Thread nD τ).loc main_arg4)
/-- The weights. -/
abbrev W : FVec Ideal ⟨2, ![1024, 1024]⟩ .f32 := m ((c.tc : Thread nD τ).loc main_arg5)
/-- The gains of the next norm. -/
abbrev Γ : FVec Ideal ⟨1, ![1024]⟩ .f32 := m ((c.tc : Thread nD τ).loc main_arg6)

/-- The call's operands, as the host leaves them. -/
theorem V_eq : V m c main_v8 = shapeCast S32768x256 (A m c) shapeCasts_S4x8192x256_S32768x256
    ∧ V m c main_v9 = shapeCast S32768x512 (B m c) shapeCasts_S4x8192x512_S32768x512
    ∧ V m c main_v10 = shapeCast S32768x256 (C m c) shapeCasts_S4x8192x256_S32768x256
    ∧ V m c main_v11 = shapeCast S32768x1024 (X m c) shapeCasts_S4x8192x1024_S32768x1024
    ∧ V m c main_v0 = shapeCast S1x1024 (G m c) shapeCasts_S1024_S1x1024
    ∧ V m c main_v1 = W m c
    ∧ V m c main_v2 = shapeCast S1x1024 (Γ m c) shapeCasts_S1024_S1x1024 := by
  refine ⟨?_, ?_, ?_, ?_, ?_, ?_, ?_⟩ <;>
    (simp only [V, hostOps0, hostOps0_1, hostOps0_2, List.flatten_cons, List.flatten_nil, List.append_nil, List.cons_append, List.nil_append]; after_results; rfl)

/-- A row of block `t`, among all rows. -/
abbrev rowAt (t : Fin cfg0.N) (r : Fin 1024) : Fin 32768 := Even.rowAt t r

/-- A block's row is the layer's: the blocks lie where the even layers' do. -/
theorem rowOf_eq (t : Fin cfg0.N) (r : Fin 1024) :
    rowOf (iblk m c 0 t) (iblk m c 1 t) (iblk m c 2 t) (iblk m c 3 t) (iblk m c 4 t) (iblk m c 5 t) r
      = sumRow (A m c) (B m c) (C m c) (X m c) (G m c) (W m c) (rowAt t r) := by
  have v := V_eq m c
  have ea : ∀ l : Fin 256, iblk m c 0 t (ix2 r l) = A m c (at3 (rowAt t r) l) := fun l =>
    (show iblk m c 0 t (ix2 r l) = V m c main_v8 (((cfg0.win 0).rect t).emb (ix2 r l)) by unfold iblk; rw [View.read_apply]; rfl).trans ((congrArg _ (Even.emb_a t r l)).trans ((congrFun v.1 _).trans (flat_apply (A m c) _ _ l)))
  have eb : ∀ l : Fin 512, iblk m c 1 t (ix2 r l) = B m c (at3 (rowAt t r) l) := fun l =>
    (show iblk m c 1 t (ix2 r l) = V m c main_v9 (((cfg0.win 1).rect t).emb (ix2 r l)) by unfold iblk; rw [View.read_apply]; rfl).trans ((congrArg _ (Even.emb_b t r l)).trans ((congrFun v.2.1 _).trans (flat_apply (B m c) _ _ l)))
  have ec : ∀ l : Fin 256, iblk m c 2 t (ix2 r l) = C m c (at3 (rowAt t r) l) := fun l =>
    (show iblk m c 2 t (ix2 r l) = V m c main_v10 (((cfg0.win 2).rect t).emb (ix2 r l)) by unfold iblk; rw [View.read_apply]; rfl).trans ((congrArg _ (Even.emb_c t r l)).trans ((congrFun v.2.2.1 _).trans (flat_apply (C m c) _ _ l)))
  have ex : ∀ l : Fin 1024, iblk m c 3 t (ix2 r l) = X m c (at3 (rowAt t r) l) := fun l =>
    (show iblk m c 3 t (ix2 r l) = V m c main_v11 (((cfg0.win 3).rect t).emb (ix2 r l)) by unfold iblk; rw [View.read_apply]; rfl).trans ((congrArg _ (Even.emb_x t r l)).trans ((congrFun v.2.2.2.1 _).trans (flat_apply (X m c) _ _ l)))
  have eg : ∀ l : Fin 1024, iblk m c 4 t (ix2 (0 : Fin 1) l) = G m c (ix1 l) := fun l =>
    (show iblk m c 4 t (ix2 (0 : Fin 1) l) = V m c main_v0 (((cfg0.win 4).rect t).emb (ix2 (0 : Fin 1) l)) by unfold iblk; rw [View.read_apply]; rfl).trans ((congrArg _ (Even.emb_g t l)).trans ((congrFun v.2.2.2.2.1 _).trans (row_apply (G m c) _ l)))
  have ew : ∀ l d : Fin 1024, iblk m c 5 t (ix2 l d) = W m c (ix2 l d) := fun l d =>
    (show iblk m c 5 t (ix2 l d) = V m c main_v1 (((cfg0.win 5).rect t).emb (ix2 l d)) by unfold iblk; rw [View.read_apply]; rfl).trans ((congrArg _ (Even.emb_w t l d)).trans (congrFun v.2.2.2.2.2.1 _))
  funext d
  unfold rowOf sumRow
  rw [funext ea, funext eb, funext ec, funext ex, funext eg, funext fun l => funext (ew l)]

theorem gains_eq (t : Fin cfg0.N) (l : Fin 1024) : iblk m c 6 t (ix2 (0 : Fin 1) l) = Γ m c (ix1 l) :=
  (show iblk m c 6 t (ix2 (0 : Fin 1) l) = V m c main_v2 (((cfg0.win 6).rect t).emb (ix2 (0 : Fin 1) l)) by unfold iblk; rw [View.read_apply]; rfl).trans ((congrArg _ (Even.emb_γ t l)).trans ((congrFun (V_eq m c).2.2.2.2.2.2 _).trans (row_apply (Γ m c) _ l)))

/-! ## The arrays at the end -/

theorem sums_array : (dats m 0 c).arrAt 9 cfg0.N = sums (A m c) (B m c) (C m c) (X m c) (G m c) (W m c) := by
  refine (dats m 0 c).arrAt_eq_of_covers 9 (sums (A m c) (B m c) (C m c) (X m c) (G m c) (W m c)) (by decide +kernel) fun t hf y => ?_
  refine (congrFun (after0_9 m c t) y).trans ?_
  refine (out_apply (iblk m c 0 t) (iblk m c 1 t) (iblk m c 2 t) (iblk m c 3 t) (iblk m c 4 t) (iblk m c 5 t) (iblk m c 6 t) (iblk m c 7 t) (iblk m c 8 t) y).trans ?_
  refine (congrFun (rowOf_eq m c t (y 0)) (y 1)).trans ?_
  exact (congrArg (sums (A m c) (B m c) (C m c) (X m c) (G m c) (W m c)) (Even.emb_out t y).1).symm

theorem norms_array : (dats m 0 c).arrAt 10 cfg0.N = norms (A m c) (B m c) (C m c) (X m c) (G m c) (W m c) (Γ m c) := by
  refine (dats m 0 c).arrAt_eq_of_covers 10 (norms (A m c) (B m c) (C m c) (X m c) (G m c) (W m c) (Γ m c)) (by decide +kernel) fun t hf y => ?_
  refine (congrFun (after0_10 m c t) y).trans ?_
  refine (outNorm_apply (iblk m c 0 t) (iblk m c 1 t) (iblk m c 2 t) (iblk m c 3 t) (iblk m c 4 t) (iblk m c 5 t) (iblk m c 6 t) (iblk m c 7 t) (iblk m c 8 t) y).trans ?_
  refine (congrArg₂ (fun v γ => rms n1024 v γ (y 1)) (rowOf_eq m c t (y 0)) (funext (gains_eq m c t))).trans ?_
  exact (congrArg (norms (A m c) (B m c) (C m c) (X m c) (G m c) (W m c) (Γ m c)) (Even.emb_out t y).2).symm

end Cert.Out.Odd
-- ==== Proof.OutRef.lean ====
/- The output projection's reference, at an entry. -/
module

public import proofs.«01_k».proof.Proof.OutRows
public import proofs.«01_k».proof.Proof.Gen.Reference4Ideal.Read
public import proofs.«01_k».proof.Proof.Gen.Reference5Ideal.Read
public import Idealize.ShloMosaic.Lib.Pointwise
public import Idealize.ShloMosaic.Lib.Pointwise.Sums

@[expose] public section

noncomputable section

namespace Cert.Out

open Idealize.ShloMosaic Idealize.ShloMosaic.TcCoe
open Cert.Reference4Ideal Cert.Reference4Ideal.Read

variable (A : FVec Ideal (Batched 256) .f32) (B : FVec Ideal (Batched 512) .f32) (C : FVec Ideal (Batched 256) .f32)
  (X : FVec Ideal (Batched 1024) .f32) (G : FVec Ideal ⟨1, ![1024]⟩ .f32) (W : FVec Ideal ⟨2, ![1024, 1024]⟩ .f32)
  (Γ : FVec Ideal ⟨1, ![1024]⟩ .f32)

/-- The normed mixers. -/
theorem refA_apply (p : Fin 4) (q : Fin 8192) (k : Fin 256) : val_main_v13 (F := Ideal) A G (ix3 p q k)
    = rms n256 (fun l => A (ix3 p q l)) (fun k => G (ix1 (at0 k))) k := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1 rms
  pointwise

theorem refB_apply (p : Fin 4) (q : Fin 8192) (k : Fin 512) : val_main_v27 (F := Ideal) B G (ix3 p q k)
    = rms n512 (fun l => B (ix3 p q l)) (fun k => G (ix1 (at256 k))) k := by
  unfold val_main_v27 val_main_v26 val_main_v25 val_main_v24 val_main_v23 val_main_v22 val_main_v21 val_main_v20 val_main_v19 val_main_v18
    val_main_v17 val_main_v16 val_main_v15 val_main_v14 val_main_cst_2 val_main_cst_3 val_main_cst_4 rms
  pointwise

theorem refC_apply (p : Fin 4) (q : Fin 8192) (k : Fin 256) : val_main_v41 (F := Ideal) C G (ix3 p q k)
    = rms n256 (fun l => C (ix3 p q l)) (fun k => G (ix1 (at768 k))) k := by
  unfold val_main_v41 val_main_v40 val_main_v39 val_main_v38 val_main_v37 val_main_v36 val_main_v35 val_main_v34 val_main_v33 val_main_v32
    val_main_v31 val_main_v30 val_main_v29 val_main_v28 val_main_cst_5 val_main_cst_6 val_main_cst_7 rms
  pointwise

/-- The three side by side. -/
theorem mix_apply (p : Fin 4) (q : Fin 8192) :
    (∀ k : Fin 256, val_main_v42 (F := Ideal) A B C G (ix3 p q (at0 k)) = val_main_v13 (F := Ideal) A G (ix3 p q k))
    ∧ (∀ k : Fin 512, val_main_v42 (F := Ideal) A B C G (ix3 p q (at256 k)) = val_main_v27 (F := Ideal) B G (ix3 p q k))
    ∧ ∀ k : Fin 256, val_main_v42 (F := Ideal) A B C G (ix3 p q (at768 k)) = val_main_v41 (F := Ideal) C G (ix3 p q k) := by
  unfold val_main_v42
  generalize val_main_v13 (F := Ideal) A G = a
  generalize val_main_v27 (F := Ideal) B G = b
  generalize val_main_v41 (F := Ideal) C G = d
  refine ⟨fun k => ?_, fun k => ?_, fun k => ?_⟩
  · pointwise
  · pointwise
  · pointwise
    rw [dif_neg (by omega), dif_neg (by omega)]
    exact congrArg d (congrArg (ix3 p q) (Fin.ext (by show 768 + k.val - 256 - 512 = k.val; omega)))

/-- The sums. -/
theorem refSum_apply (R : Fin 32768) (d : Fin 1024) : val_main_v44 (F := Ideal) A B C X G W (at3 R d) = sumRow A B C X G W R d := by
  rw [val_main_v44_apply, val_main_v43_apply]
  have h := mix_apply A B C G (⟨R.val / 8192, by have := R.isLt; omega⟩ : Fin 4) (⟨R.val % 8192, by omega⟩ : Fin 8192)
  have el : ∀ k, lidx_main_v43 (at3 R d) k = at3 R k := fun k => funext fun a => Fin.ext (by
    match a with
    | ⟨0, _⟩ => rfl
    | ⟨1, _⟩ => rfl
    | ⟨2, _⟩ => rfl)
  have er : ∀ k, ridx_main_v43 (at3 R d) k = ix2 k d := fun k => funext fun a => Fin.ext (by
    match a with
    | ⟨0, _⟩ => rfl
    | ⟨1, _⟩ => rfl)
  simp only [el, er]
  rw [Fin.sum_univ_two_halves 256 768 rfl, Fin.sum_univ_two_halves 512 256 rfl (fun k : Fin 768 => _)]
  unfold sumRow mixed
  simp only [← refA_apply, ← refB_apply, ← refC_apply, ← h.1, ← h.2.1, ← h.2.2]
  show X _ + (_ + (_ + _)) = _
  rw [add_assoc, add_assoc]
  refine congrArg₂ (· + ·) rfl (congrArg₂ (· + ·) rfl (congrArg₂ (· + ·) rfl (Finset.sum_congr rfl fun k _ => ?_)))
  have e : (⟨256 + (512 + k.val), by have := k.isLt; omega⟩ : Fin 1024) = at768 k := Fin.ext (by show 256 + (512 + k.val) = 768 + k.val; omega)
  exact congrArg (fun l : Fin 1024 => val_main_v42 (F := Ideal) A B C G (at3 R l) * W (ix2 l d)) e

/-- The norm of the sums. -/
theorem refNorm_apply (R : Fin 32768) (d : Fin 1024) : val_main_v57 (F := Ideal) A B C X G W Γ (at3 R d)
    = rms n1024 (sumRow A B C X G W R) (fun l => Γ (ix1 l)) d := by
  rw [← show (fun l => val_main_v44 (F := Ideal) A B C X G W (at3 R l)) = sumRow A B C X G W R from funext (refSum_apply A B C X G W R)]
  unfold val_main_v57 val_main_v56 val_main_v55 val_main_v54 val_main_v53 val_main_v52 val_main_v51 val_main_v50 val_main_v49 val_main_v48
    val_main_v47 val_main_v46 val_main_v45 val_main_cst_8 val_main_cst_9 val_main_cst_10
  generalize val_main_v44 (F := Ideal) A B C X G W = y
  unfold rms
  pointwise

/-- Where an entry of the flattened result lies in the batch. -/
theorem idx_eq (i : (Flat 1024).Idx) : idx_main_v58 i = at3 (i 0) (i 1) := by
  have h0 : (i 0).val < 32768 := (i 0).isLt
  have h1 : (i 1).val < 1024 := (i 1).isLt
  exact funext fun a => Fin.ext (by
    match a with
    | ⟨0, _⟩ => show ((i 0).val * 1024 + (i 1).val) / 8388608 = (i 0).val / 8192; omega
    | ⟨1, _⟩ => show ((i 0).val * 1024 + (i 1).val) / 1024 % 8192 = (i 0).val % 8192; omega
    | ⟨2, _⟩ => show ((i 0).val * 1024 + (i 1).val) % 1024 = (i 1).val; omega)

/-- The even layers' reference. -/
theorem sums_eq : val_main_v58 (F := Ideal) A B C X G W = sums A B C X G W := by
  funext i
  refine (val_main_v58_apply (F := Ideal) A B C X G W i).trans ?_
  refine (congrArg (val_main_v44 (F := Ideal) A B C X G W) (idx_eq i)).trans ?_
  exact refSum_apply A B C X G W (i 0) (i 1)

theorem flatNorms_eq : val_main_v59 (F := Ideal) A B C X G W Γ = norms A B C X G W Γ := by
  funext i
  refine (val_main_v59_apply (F := Ideal) A B C X G W Γ i).trans ?_
  refine (congrArg (val_main_v57 (F := Ideal) A B C X G W Γ) (idx_eq i)).trans ?_
  exact refNorm_apply A B C X G W Γ (i 0) (i 1)

theorem norms_eq : val_main_v60 (F := Ideal) A B C X G W Γ = norms A B C X G W Γ := flatNorms_eq A B C X G W Γ

/-- The odd layers'. -/
theorem moe_sums_eq : Cert.Reference5Ideal.Read.val_main_v58 (F := Ideal) A B C X G W = sums A B C X G W :=
  (show Cert.Reference5Ideal.Read.val_main_v58 (F := Ideal) A B C X G W = val_main_v58 (F := Ideal) A B C X G W from rfl).trans (sums_eq A B C X G W)

theorem moe_norms_eq : Cert.Reference5Ideal.Read.val_main_v59 (F := Ideal) A B C X G W Γ = norms A B C X G W Γ :=
  (show Cert.Reference5Ideal.Read.val_main_v59 (F := Ideal) A B C X G W Γ = val_main_v59 (F := Ideal) A B C X G W Γ from rfl).trans
    (flatNorms_eq A B C X G W Γ)

end Cert.Out
-- ==== Proof.lean ====
/- The certificate of causal multi-head attention with an online softmax: the kernel, its idealization and the plain
   reference run and leave their arguments alone; the idealization names the mask's constant; and on finite queries
   and keys the idealized kernel's result is the reference's. The same of the dense layer, of the routed experts and of
   the two output projections, on any arguments. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.WordFrame
public import proofs.«01_k».proof.Proof.Result
public import proofs.«01_k».proof.Proof.Pre
public import proofs.«01_k».proof.Proof.Dense
public import proofs.«01_k».proof.Proof.ExpertsArray
public import proofs.«01_k».proof.Proof.ExpertsWords
public import proofs.«01_k».proof.Proof.OutProj
public import proofs.«01_k».proof.Proof.OutProjMoe
public import proofs.«01_k».proof.Proof.OutRef
public import Idealize.ShloMosaic.Adequacy
public import Idealize.ShloMosaic.Init

@[expose] public section

noncomputable section

namespace Cert.Proof

open Idealize.ShloMosaic Idealize.SL.Sem Cert.Kernel

/-- The reference runs from any memory, leaves its arguments alone and has no semaphore to count. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- On finite queries and keys the kernel's result is the reference's. -/
theorem attention_eq :
    Cert.algebraic_KernelIdeal_ReferenceIdeal_pre_finite (hPre_finite := Cert.Mla.pre_facts) := by
  intro m g m' g' hp ha
  refine ⟨fun c => Cert.Mla.result m c, ?_, ?_⟩
  · refine (θ_run Cert.KernelIdeal.defs _ _).mono (fun r h c => ⟨(h c).1.trans ?_, (h c).2⟩) (Cert.Mla.run_result m g)
    exact Cert.Mla.final_array m c (Cert.Mla.finite_of_pre m hp c).1 (Cert.Mla.finite_of_pre m hp c).2
  · refine (θ_run Cert.ReferenceIdeal.defs _ _).mono (fun r h c => ⟨(h c).1.trans ?_, (h c).2⟩)
      (Cert.ReferenceIdeal.Value.run (F := Ideal) m' g')
    show _ = Cert.Mla.result m c
    rw [Cert.Mla.result_eq, Cert.ReferenceIdeal.Read.val_main_v24_eq, (ha c).1, (ha c).2.1, (ha c).2.2]

/-- The dense layer's reference runs from any memory, leaves its arguments alone and has no semaphore to count. -/
theorem dense_reference_frame : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- On any arguments the dense layer's result is its reference's. -/
theorem dense_eq : Cert.algebraic_Kernel2Ideal_Reference2Ideal := by
  intro m g m' g' _ ha
  refine ⟨fun c => Cert.Ffn.dense m c, ?_, ?_⟩
  · refine (θ_run Cert.Kernel2Ideal.defs _ _).mono (fun r h c => ⟨(h c).1.trans ?_, (h c).2⟩)
      (Cert.Kernel2Ideal.Value.run_blocks (F := Ideal) m g)
    exact Cert.Ffn.dense_array m c
  · refine (θ_run Cert.Reference2Ideal.defs _ _).mono (fun r h c => ⟨(h c).1.trans ?_, (h c).2⟩)
      (Cert.Reference2Ideal.Value.run (F := Ideal) m' g')
    show _ = Cert.Ffn.dense m c
    rw [Cert.Ffn.dense_eq, Cert.Reference2Ideal.Read.val_main_v6_eq, (ha c).1, (ha c).2.1, (ha c).2.2.1, (ha c).2.2.2.1, (ha c).2.2.2.2]

/-- The experts' reference runs from any memory, leaves its arguments alone and has no semaphore to count. -/
theorem moe_reference_frame : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- On any arguments the experts' result is their reference's. -/
theorem moe_eq : Cert.algebraic_Kernel3Ideal_Reference3Ideal := by
  intro m g m' g' _ ha
  refine ⟨fun c => Cert.Moe.moe m c, Cert.Moe.run_moe m g, ?_⟩
  refine (θ_run Cert.Reference3Ideal.defs _ _).mono (fun r h c => ⟨(h c).1.trans ?_, (h c).2⟩)
    (Cert.Reference3Ideal.Value.run (F := Ideal) m' g')
  show _ = Cert.Moe.moe m c
  unfold Cert.Moe.moe
  rw [Cert.Moe.experts_eq, Cert.Reference3Ideal.Read.val_main_v57_eq, (ha c).1, (ha c).2.1, (ha c).2.2.1, (ha c).2.2.2.1, (ha c).2.2.2.2]

/-- The output projection's references run from any memory, leave their arguments alone and have no semaphore to count. -/
theorem out_reference_frame : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem out_moe_reference_frame : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- On any arguments the even layers' output projection and the norm of its sums are their reference's. -/
theorem out_eq : Cert.algebraic_Kernel4Ideal_Reference4Ideal := by
  intro m g m' g' _ ha
  refine ⟨fun c => Cert.Out.sums (Cert.Out.Even.A m c) (Cert.Out.Even.B m c) (Cert.Out.Even.C m c) (Cert.Out.Even.X m c)
      (Cert.Out.Even.G m c) (Cert.Out.Even.W m c),
    fun c => Cert.Out.norms (Cert.Out.Even.A m c) (Cert.Out.Even.B m c) (Cert.Out.Even.C m c) (Cert.Out.Even.X m c)
      (Cert.Out.Even.G m c) (Cert.Out.Even.W m c) (Cert.Out.Even.Γ m c), ?_, ?_⟩
  · exact (θ_run Cert.Kernel4Ideal.defs _ _).mono
      (fun r h c => ⟨(h c).1.trans (Cert.Out.Even.sums_array m c), (h c).2.1.trans (Cert.Out.Even.norms_array m c), (h c).2.2⟩)
      (Cert.Kernel4Ideal.Value.run_blocks (F := Ideal) m g)
  · refine (θ_run Cert.Reference4Ideal.defs _ _).mono (fun r h c => ⟨(h c).1.trans ?_, (h c).2.1.trans ?_, (h c).2.2⟩)
      (Cert.Reference4Ideal.Value.run (F := Ideal) m' g')
    all_goals obtain ⟨h0, h1, h2, h3, h4, h5, h6⟩ := ha c
    · show _ = Cert.Out.sums _ _ _ _ _ _
      rw [← Cert.Out.sums_eq, Cert.Reference4Ideal.Read.val_main_v58_eq, h0, h1, h2, h3, h4, h5]
    · show _ = Cert.Out.norms _ _ _ _ _ _ _
      rw [← Cert.Out.norms_eq, Cert.Reference4Ideal.Read.val_main_v60_eq, h0, h1, h2, h3, h4, h5, h6]

/-- The odd layers' too; the router's columns are not among the claimed results. -/
theorem out_moe_eq : Cert.algebraic_Kernel5Ideal_Reference5Ideal := by
  intro m g m' g' _ ha
  refine ⟨fun c => Cert.Out.sums (Cert.Out.Odd.A m c) (Cert.Out.Odd.B m c) (Cert.Out.Odd.C m c) (Cert.Out.Odd.X m c)
      (Cert.Out.Odd.G m c) (Cert.Out.Odd.W m c),
    fun c => Cert.Out.norms (Cert.Out.Odd.A m c) (Cert.Out.Odd.B m c) (Cert.Out.Odd.C m c) (Cert.Out.Odd.X m c)
      (Cert.Out.Odd.G m c) (Cert.Out.Odd.W m c) (Cert.Out.Odd.Γ m c), ?_, ?_⟩
  · exact (θ_run Cert.Kernel5Ideal.defs _ _).mono
      (fun r h c => ⟨(h c).1.trans (Cert.Out.Odd.sums_array m c), (h c).2.1.trans (Cert.Out.Odd.norms_array m c), (h c).2.2.2⟩)
      (Cert.Kernel5Ideal.Value.run_blocks (F := Ideal) m g)
  · refine (θ_run Cert.Reference5Ideal.defs _ _).mono (fun r h c => ⟨(h c).1.trans ?_, (h c).2.1.trans ?_, (h c).2.2⟩)
      (Cert.Reference5Ideal.Value.run (F := Ideal) m' g')
    all_goals obtain ⟨h0, h1, h2, h3, h4, h5, h6, _⟩ := ha c
    · show _ = Cert.Out.sums _ _ _ _ _ _
      rw [← Cert.Out.moe_sums_eq, Cert.Reference5Ideal.Read.val_main_v58_eq, h0, h1, h2, h3, h4, h5]
    · show _ = Cert.Out.norms _ _ _ _ _ _ _
      rw [← Cert.Out.moe_norms_eq, Cert.Reference5Ideal.Read.val_main_v59_eq, h0, h1, h2, h3, h4, h5, h6]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Mla.pre_facts,
    fun m ρ _ => Cert.Mla.Machine.frame_words m ρ,
    fun m ρ _ => Cert.Mla.frame_ideal m ρ,
    fun m ρ _ => Cert.Mla.frame_ideal m ρ,
    reference_frame,
    fun m ρ _ => reference_frame m ρ trivial,
    fun m ρ _ => Cert.Kernel2.Gen.frame m ρ,
    fun m ρ _ => Cert.Kernel2Ideal.Gen.frame m ρ,
    dense_reference_frame,
    fun m ρ _ => Cert.Moe.frame_words m ρ,
    fun m ρ _ => Cert.Moe.frame (F := Ideal) m ρ,
    moe_reference_frame,
    fun m ρ _ => Cert.Kernel4.Gen.frame m ρ,
    fun m ρ _ => Cert.Kernel4Ideal.Gen.frame m ρ,
    out_reference_frame,
    fun m ρ _ => Cert.Kernel5.Gen.frame m ρ,
    fun m ρ _ => Cert.Kernel5Ideal.Gen.frame m ρ,
    out_moe_reference_frame,
    IdealRules.named_const.statement _ _ _ _ _ rfl,
    attention_eq,
    trivial,
    dense_eq,
    trivial,
    moe_eq,
    trivial,
    out_eq,
    trivial,
    out_moe_eq⟩

end Cert.Proof

end
